-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_codebooks_below_infinity [hPre_codebooks_below_infinity : Cert.Pre_codebooks_below_infinity.Facts] (m : (ℓ : Loc Cert.KernelIdeal.nD Cert.KernelIdeal.τ Cert.KernelIdeal.sig) → Buf (Elt Ideal) ℓ) : Prop :=
  ∀ c : Dev Cert.KernelIdeal.nD,
    (Cert.Pre_codebooks_below_infinity.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_codebooks_below_infinity [hPre_codebooks_below_infinity : Cert.Pre_codebooks_below_infinity.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_codebooks_below_infinity.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_codebooks_below_infinity [hKernelIdeal : Cert.KernelIdeal.Facts] [hPre_codebooks_below_infinity : Cert.Pre_codebooks_below_infinity.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_codebooks_below_infinity m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_codebooks_below_infinity [hReferenceIdeal : Cert.ReferenceIdeal.Facts] [hPre_codebooks_below_infinity : Cert.Pre_codebooks_below_infinity.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_codebooks_below_infinity m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_codebooks_below_infinity [hKernelIdeal : Cert.KernelIdeal.Facts] [hReferenceIdeal : Cert.ReferenceIdeal.Facts] [hPre_codebooks_below_infinity : Cert.Pre_codebooks_below_infinity.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_codebooks_below_infinity m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_2)) (v4 : (c : Dev Cert.KernelIdeal.nD) → Buf (Elt Ideal) ((c.tc : Thread Cert.KernelIdeal.nD Cert.KernelIdeal.τ).loc Cert.KernelIdeal.main_v0_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_2) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v323) = v0 c
          ∧ r.2.mem ((c.tc : Thread Cert.ReferenceIdeal.nD Cert.ReferenceIdeal.τ).loc Cert.ReferenceIdeal.main_v337) = v1 c
          ∧ r.2.mem ((c.tc : Thread Cert.ReferenceIdeal.nD Cert.ReferenceIdeal.τ).loc Cert.ReferenceIdeal.main_v346) = v2 c
          ∧ r.2.mem ((c.tc : Thread Cert.ReferenceIdeal.nD Cert.ReferenceIdeal.τ).loc Cert.ReferenceIdeal.main_v355) = v3 c
          ∧ r.2.mem ((c.tc : Thread Cert.ReferenceIdeal.nD Cert.ReferenceIdeal.τ).loc Cert.ReferenceIdeal.main_v364) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_codebooks_below_infinity : Cert.Pre_codebooks_below_infinity.Facts),
    quiescent_Kernel (hKernel := hKernel)
    ∧ quiescent_KernelIdeal (hKernelIdeal := hKernelIdeal)
    ∧ quiescent_KernelIdeal_pre_codebooks_below_infinity (hKernelIdeal := hKernelIdeal) (hPre_codebooks_below_infinity := hPre_codebooks_below_infinity)
    ∧ quiescent_ReferenceIdeal (hReferenceIdeal := hReferenceIdeal)
    ∧ quiescent_ReferenceIdeal_pre_codebooks_below_infinity (hReferenceIdeal := hReferenceIdeal) (hPre_codebooks_below_infinity := hPre_codebooks_below_infinity)
    ∧ preserves_Kernel_KernelIdeal
    ∧ algebraic_KernelIdeal_ReferenceIdeal_pre_codebooks_below_infinity (hKernelIdeal := hKernelIdeal) (hReferenceIdeal := hReferenceIdeal) (hPre_codebooks_below_infinity := hPre_codebooks_below_infinity)
-- ==== Pre_codebooks_below_infinity.lean ====
abbrev S8x256x2048 : Shape := ⟨3, ![8, 256, 2048]⟩
abbrev S8x1024x256 : Shape := ⟨3, ![8, 1024, 256]⟩
abbrev S_ : Shape := ⟨0, ![]⟩

class Facts : Prop where
  bcast_S_S8x1024x256 : S_.BroadcastsInDim S8x1024x256 (![] : Fin 0 → Fin S8x1024x256.rank)
  reducesTo_S8x1024x256_S_d0_1_2 : S8x1024x256.ReducesTo [0, 1, 2] S_
  h_S_ : 0 < S_.numel

variable [Facts]

def fn {F : FTy → Type} [FloatOps F] (main_arg0 : FVec F S8x256x2048 .f32) (main_arg1 : FVec F S8x1024x256 .f32) : IVec S_ 1 :=
  let main_cst : FVec F S_ .f32 := constant S_ .f32 0x7F800000#32
  let main_v0 : FVec F S8x1024x256 .f32 := broadcastInDim S8x1024x256 ![] bcast_S_S8x1024x256 main_cst
  let main_v1 : IVec S8x1024x256 1 := cmpf .olt main_arg1 main_v0
  let main_c : IVec S_ 1 := constantI S_ 1 1#1
  let main_v2 : IVec S_ 1 := (fun x v => Host.reduce IntOp.andi x v reducesTo_S8x1024x256_S_d0_1_2 h_S_) main_v1 main_c
  main_v2
-- ==== Kernel.lean ====
abbrev S8x256x2048 : Shape := ⟨3, ![8, 256, 2048]⟩
abbrev S8x1024x256 : Shape := ⟨3, ![8, 1024, 256]⟩
abbrev S1x1024x256 : Shape := ⟨3, ![1, 1024, 256]⟩
abbrev S1024x256 : Shape := ⟨2, ![1024, 256]⟩
abbrev S_ : Shape := ⟨0, ![]⟩
abbrev S1024 : Shape := ⟨1, ![1024]⟩
abbrev S1x1024 : Shape := ⟨2, ![1, 1024]⟩
abbrev S8x1024 : Shape := ⟨2, ![8, 1024]⟩
abbrev S8x8x2048 : Shape := ⟨3, ![8, 8, 2048]⟩
abbrev S8x256 : Shape := ⟨2, ![8, 256]⟩
abbrev S8x8x256x2048 : Shape := ⟨4, ![8, 8, 256, 2048]⟩
abbrev S8 : Shape := ⟨1, ![8]⟩
abbrev S1x256x1024 : Shape := ⟨3, ![1, 256, 1024]⟩
abbrev S1x8x1024 : Shape := ⟨3, ![1, 8, 1024]⟩
abbrev S8x1x256x1024 : Shape := ⟨4, ![8, 1, 256, 1024]⟩
abbrev S512x1024 : Shape := ⟨2, ![512, 1024]⟩
abbrev S256x1024 : Shape := ⟨2, ![256, 1024]⟩
abbrev S512x256 : Shape := ⟨2, ![512, 256]⟩
abbrev S512 : Shape := ⟨1, ![512]⟩
abbrev S512x1 : Shape := ⟨2, ![512, 1]⟩
abbrev S1x256 : Shape := ⟨2, ![1, 256]⟩
abbrev S256 : Shape := ⟨1, ![256]⟩
abbrev S1x1x512 : Shape := ⟨3, ![1, 1, 512]⟩
abbrev S256x512 : Shape := ⟨2, ![256, 512]⟩
abbrev S1x1x256x512 : Shape := ⟨4, ![1, 1, 256, 512]⟩

abbrev nBuf : Space → Nat
  | .hbm => 70
  | .vmem => 16
  | .smem => 0
  | _ => 0

abbrev bufTy : (tb : Table) → Fin (tcTables nBuf tb) → BufTy
  | .hbm, ⟨0, _⟩ => ⟨S8x256x2048, .f32⟩
  | .hbm, ⟨1, _⟩ => ⟨S8x1024x256, .f32⟩
  | .hbm, ⟨2, _⟩ => ⟨S1x1024x256, .f32⟩
  | .hbm, ⟨3, _⟩ => ⟨S1024x256, .f32⟩
  | .hbm, ⟨4, _⟩ => ⟨S1024x256, .f32⟩
  | .hbm, ⟨5, _⟩ => ⟨S_, .f32⟩
  | .hbm, ⟨6, _⟩ => ⟨S1024, .f32⟩
  | .hbm, ⟨7, _⟩ => ⟨S1x1024x256, .f32⟩
  | .hbm, ⟨8, _⟩ => ⟨S1024x256, .f32⟩
  | .hbm, ⟨9, _⟩ => ⟨S1024x256, .f32⟩
  | .hbm, ⟨10, _⟩ => ⟨S_, .f32⟩
  | .hbm, ⟨11, _⟩ => ⟨S1024, .f32⟩
  | .hbm, ⟨12, _⟩ => ⟨S1x1024x256, .f32⟩
  | .hbm, ⟨13, _⟩ => ⟨S1024x256, .f32⟩
  | .hbm, ⟨14, _⟩ => ⟨S1024x256, .f32⟩
  | .hbm, ⟨15, _⟩ => ⟨S_, .f32⟩
  | .hbm, ⟨16, _⟩ => ⟨S1024, .f32⟩
  | .hbm, ⟨17, _⟩ => ⟨S1x1024x256, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024, .f32⟩
  | .hbm, ⟨22, _⟩ => ⟨S1x1024x256, .f32⟩
  | .hbm, ⟨23, _⟩ => ⟨S1024x256, .f32⟩
  | .hbm, ⟨24, _⟩ => ⟨S1024x256, .f32⟩
  | .hbm, ⟨25, _⟩ => ⟨S_, .f32⟩
  | .hbm, ⟨26, _⟩ => ⟨S1024, .f32⟩
  | .hbm, ⟨27, _⟩ => ⟨S1x1024x256, .f32⟩
  | .hbm, ⟨28, _⟩ => ⟨S1024x256, .f32⟩
  | .hbm, ⟨29, _⟩ => ⟨S1024x256, .f32⟩
  | .hbm, ⟨30, _⟩ => ⟨S_, .f32⟩
  | .hbm, ⟨31, _⟩ => ⟨S1024, .f32⟩
  | .hbm, ⟨32, _⟩ => ⟨S1x1024x256, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024, .f32⟩
  | .hbm, ⟨37, _⟩ => ⟨S1x1024x256, .f32⟩
  | .hbm, ⟨38, _⟩ => ⟨S1024x256, .f32⟩
  | .hbm, ⟨39, _⟩ => ⟨S1024x256, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S1x1024, .f32⟩
  | .hbm, ⟨49, _⟩ => ⟨S1x1024, .f32⟩
  | .hbm, ⟨50, _⟩ => ⟨S8x1024, .f32⟩
  | .hbm, ⟨51, _⟩ => ⟨S8x1024x256, .bf16⟩
  | .hbm, ⟨52, _⟩ => ⟨S8x1024x256, .f32⟩
  | .hbm, ⟨53, _⟩ => ⟨S8x1024x256, .f32⟩
  | .hbm, ⟨54, _⟩ => ⟨S8x1024x256, .bf16⟩
  | .hbm, ⟨55, _⟩ => ⟨S8x1024x256, .f32⟩
  | .hbm, ⟨56, _⟩ => ⟨S8x1024x256, .f32⟩
  | .hbm, ⟨57, _⟩ => ⟨S8x1024x256, .bf16⟩
  | .hbm, ⟨58, _⟩ => ⟨S8x1024x256, .bf16⟩
  | .hbm, ⟨59, _⟩ => ⟨S8x1024x256, .bf16⟩
  | .hbm, ⟨60, _⟩ => ⟨S8x256x2048, .f32⟩
  | .hbm, ⟨61, _⟩ => ⟨S8x8x2048, .i32⟩
  | .hbm, ⟨62, _⟩ => ⟨S8x256, .f32⟩
  | .hbm, ⟨63, _⟩ => ⟨S8x8x256x2048, .f32⟩
  | .hbm, ⟨64, _⟩ => ⟨S_, .f32⟩
  | .hbm, ⟨65, _⟩ => ⟨S8, .f32⟩
  | .hbm, ⟨66, _⟩ => ⟨S_, .f32⟩
  | .hbm, ⟨67, _⟩ => ⟨S8, .f32⟩
  | .hbm, ⟨68, _⟩ => ⟨S8, .f32⟩
  | .hbm, ⟨69, _⟩ => ⟨S8x8x2048, .i32⟩
  | .local _ .vmem, ⟨0, _⟩ => ⟨S1x256x1024, .f32⟩
  | .local _ .vmem, ⟨1, _⟩ => ⟨S1x256x1024, .f32⟩
  | .local _ .vmem, ⟨2, _⟩ => ⟨S8x1024x256, .f32⟩
  | .local _ .vmem, ⟨3, _⟩ => ⟨S8x1024, .f32⟩
  | .local _ .vmem, ⟨4, _⟩ => ⟨S8x1024x256, .bf16⟩
  | .local _ .vmem, ⟨5, _⟩ => ⟨S8x1024x256, .bf16⟩
  | .local _ .vmem, ⟨6, _⟩ => ⟨S8x1024x256, .bf16⟩
  | .local _ .vmem, ⟨7, _⟩ => ⟨S1x256x1024, .f32⟩
  | .local _ .vmem, ⟨8, _⟩ => ⟨S1x256x1024, .f32⟩
  | .local _ .vmem, ⟨9, _⟩ => ⟨S1x8x1024, .i32⟩
  | .local _ .vmem, ⟨10, _⟩ => ⟨S1x8x1024, .i32⟩
  | .local _ .vmem, ⟨11, _⟩ => ⟨S8x256, .f32⟩
  | .local _ .vmem, ⟨12, _⟩ => ⟨S8x1x256x1024, .f32⟩
  | .local _ .vmem, ⟨13, _⟩ => ⟨S8x1x256x1024, .f32⟩
  | .local _ .vmem, ⟨14, _⟩ => ⟨S1024x256, .f32⟩
  | .local _ .vmem, ⟨15, _⟩ => ⟨S1024x256, .f32⟩
  | _, _ => ⟨S8x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_call0_v1 : Ref sig .tc := ⟨.hbm, 3, rfl⟩
abbrev main_call0_v2 : Ref sig .tc := ⟨.hbm, 4, rfl⟩
abbrev main_call0_cst : Ref sig .tc := ⟨.hbm, 5, rfl⟩
abbrev main_call0_v3 : Ref sig .tc := ⟨.hbm, 6, rfl⟩
abbrev main_call0_v4 : Ref sig .tc := ⟨.hbm, 7, rfl⟩
abbrev main_call0_v5 : Ref sig .tc := ⟨.hbm, 8, rfl⟩
abbrev main_call0_v6 : Ref sig .tc := ⟨.hbm, 9, rfl⟩
abbrev main_call0_cst_0 : Ref sig .tc := ⟨.hbm, 10, rfl⟩
abbrev main_call0_v7 : Ref sig .tc := ⟨.hbm, 11, rfl⟩
abbrev main_call0_v8 : Ref sig .tc := ⟨.hbm, 12, rfl⟩
abbrev main_call0_v9 : Ref sig .tc := ⟨.hbm, 13, rfl⟩
abbrev main_call0_v10 : Ref sig .tc := ⟨.hbm, 14, rfl⟩
abbrev main_call0_cst_1 : Ref sig .tc := ⟨.hbm, 15, rfl⟩
abbrev main_call0_v11 : Ref sig .tc := ⟨.hbm, 16, rfl⟩
abbrev main_call0_v12 : Ref sig .tc := ⟨.hbm, 17, rfl⟩
abbrev main_call0_v13 : Ref sig .tc := ⟨.hbm, 18, rfl⟩
abbrev main_call0_v14 : Ref sig .tc := ⟨.hbm, 19, rfl⟩
abbrev main_call0_cst_2 : Ref sig .tc := ⟨.hbm, 20, rfl⟩
abbrev main_call0_v15 : Ref sig .tc := ⟨.hbm, 21, rfl⟩
abbrev main_call0_v16 : Ref sig .tc := ⟨.hbm, 22, rfl⟩
abbrev main_call0_v17 : Ref sig .tc := ⟨.hbm, 23, rfl⟩
abbrev main_call0_v18 : Ref sig .tc := ⟨.hbm, 24, rfl⟩
abbrev main_call0_cst_3 : Ref sig .tc := ⟨.hbm, 25, rfl⟩
abbrev main_call0_v19 : Ref sig .tc := ⟨.hbm, 26, rfl⟩
abbrev main_call0_v20 : Ref sig .tc := ⟨.hbm, 27, rfl⟩
abbrev main_call0_v21 : Ref sig .tc := ⟨.hbm, 28, rfl⟩
abbrev main_call0_v22 : Ref sig .tc := ⟨.hbm, 29, rfl⟩
abbrev main_call0_cst_4 : Ref sig .tc := ⟨.hbm, 30, rfl⟩
abbrev main_call0_v23 : Ref sig .tc := ⟨.hbm, 31, rfl⟩
abbrev main_call0_v24 : Ref sig .tc := ⟨.hbm, 32, rfl⟩
abbrev main_call0_v25 : Ref sig .tc := ⟨.hbm, 33, rfl⟩
abbrev main_call0_v26 : Ref sig .tc := ⟨.hbm, 34, rfl⟩
abbrev main_call0_cst_5 : Ref sig .tc := ⟨.hbm, 35, rfl⟩
abbrev main_call0_v27 : Ref sig .tc := ⟨.hbm, 36, rfl⟩
abbrev main_call0_v28 : Ref sig .tc := ⟨.hbm, 37, rfl⟩
abbrev main_call0_v29 : Ref sig .tc := ⟨.hbm, 38, rfl⟩
abbrev main_call0_v30 : Ref sig .tc := ⟨.hbm, 39, rfl⟩
abbrev main_call0_cst_6 : Ref sig .tc := ⟨.hbm, 40, rfl⟩
abbrev main_call0_v31 : Ref sig .tc := ⟨.hbm, 41, rfl⟩
abbrev main_call0_v32 : Ref sig .tc := ⟨.hbm, 42, rfl⟩
abbrev main_call0_v33 : Ref sig .tc := ⟨.hbm, 43, rfl⟩
abbrev main_call0_v34 : Ref sig .tc := ⟨.hbm, 44, rfl⟩
abbrev main_call0_v35 : Ref sig .tc := ⟨.hbm, 45, rfl⟩
abbrev main_call0_v36 : Ref sig .tc := ⟨.hbm, 46, rfl⟩
abbrev main_call0_v37 : Ref sig .tc := ⟨.hbm, 47, rfl⟩
abbrev main_call0_v38 : Ref sig .tc := ⟨.hbm, 48, rfl⟩
abbrev main_call0_v39 : Ref sig .tc := ⟨.hbm, 49, rfl⟩
abbrev main_call0_v40 : Ref sig .tc := ⟨.hbm, 50, rfl⟩
abbrev main_call0_v41 : Ref sig .tc := ⟨.hbm, 51, rfl⟩
abbrev main_call0_v42 : Ref sig .tc := ⟨.hbm, 52, rfl⟩
abbrev main_call0_v43 : Ref sig .tc := ⟨.hbm, 53, rfl⟩
abbrev main_call0_v44 : Ref sig .tc := ⟨.hbm, 54, rfl⟩
abbrev main_call0_v45 : Ref sig .tc := ⟨.hbm, 55, rfl⟩
abbrev main_call0_v46 : Ref sig .tc := ⟨.hbm, 56, rfl⟩
abbrev main_call0_v47 : Ref sig .tc := ⟨.hbm, 57, rfl⟩
abbrev main_call0_v48 : Ref sig .tc := ⟨.hbm, 58, rfl⟩
abbrev main_call0_v49 : Ref sig .tc := ⟨.hbm, 59, rfl⟩
abbrev main_v0_0 : Ref sig .tc := ⟨.hbm, 60, rfl⟩
abbrev main_call0_v50_1 : Ref sig .tc := ⟨.hbm, 61, rfl⟩
abbrev main_call0_v50_2 : Ref sig .tc := ⟨.hbm, 62, rfl⟩
abbrev main_v0_4 : Ref sig .tc := ⟨.hbm, 63, rfl⟩
abbrev main_call0_cst_7 : Ref sig .tc := ⟨.hbm, 64, rfl⟩
abbrev main_call0_v51 : Ref sig .tc := ⟨.hbm, 65, rfl⟩
abbrev main_call0_cst_8 : Ref sig .tc := ⟨.hbm, 66, rfl⟩
abbrev main_call0_v52 : Ref sig .tc := ⟨.hbm, 67, rfl⟩
abbrev main_v0_2 : Ref sig .tc := ⟨.hbm, 68, rfl⟩
abbrev main_v0_1 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![8, 2], ![false, false]⟩

@[reducible] def k0_t1_loop : Scf.Loop 32 :=
  let c0_i32_8 : BitVec 32 := 0#32
  let c2_i32 : BitVec 32 := 2#32
  let v16 : BitVec 32 := Scalar.addi c0_i32_8 c2_i32
  let c1_i32 : BitVec 32 := 1#32
  ⟨c0_i32_8, v16, c1_i32⟩
def k0_off1 (k0_t1 : Fin k0_t1_loop.trips) (c0_i32_15 : BitVec 32) : Fin 3 → Nat :=
  let c4_i32 : BitVec 32 := 4#32
  let c0_i32_8 : BitVec 32 := 0#32
  let c1_i32 : BitVec 32 := 1#32
  let arg14 : BitVec 32 := Scf.iv c0_i32_8 c1_i32 k0_t1
  let v22 : BitVec 32 := Scalar.muli c4_i32 arg14
  let v23 : BitVec 32 := Scalar.addi v22 c0_i32_15
  let v25 : Index := Scalar.indexCast v23
  let c0_18 : Index := 0#32
  let c0_19 : Index := 0#32
  ![v25.toNat, 0, 0]
def k0_off2 (k0_t1 : Fin k0_t1_loop.trips) (c0_i32_15 : BitVec 32) : Fin 2 → Nat :=
  let c4_i32 : BitVec 32 := 4#32
  let c0_i32_8 : BitVec 32 := 0#32
  let c1_i32 : BitVec 32 := 1#32
  let arg14 : BitVec 32 := Scf.iv c0_i32_8 c1_i32 k0_t1
  let v22 : BitVec 32 := Scalar.muli c4_i32 arg14
  let v23 : BitVec 32 := Scalar.addi v22 c0_i32_15
  let v35 : Index := Scalar.indexCast v23
  let c0_22 : Index := 0#32
  ![v35.toNat, 0]
def k0_off3 (k0_t1 : Fin k0_t1_loop.trips) (c0_i32_15 : BitVec 32) : Fin 2 → Nat :=
  let c4_i32 : BitVec 32 := 4#32
  let c0_i32_8 : BitVec 32 := 0#32
  let c1_i32 : BitVec 32 := 1#32
  let arg14 : BitVec 32 := Scf.iv c0_i32_8 c1_i32 k0_t1
  let v22 : BitVec 32 := Scalar.muli c4_i32 arg14
  let v23 : BitVec 32 := Scalar.addi v22 c0_i32_15
  let v76 : Index := Scalar.indexCast v23
  let c0_38 : Index := 0#32
  ![v76.toNat, 0]
def k0_off4 (k0_t1 : Fin k0_t1_loop.trips) (c0_i32_15 : BitVec 32) : Fin 3 → Nat :=
  let c0_41 : Index := 0#32
  let c4_i32 : BitVec 32 := 4#32
  let c0_i32_8 : BitVec 32 := 0#32
  let c1_i32 : BitVec 32 := 1#32
  let arg14 : BitVec 32 := Scf.iv c0_i32_8 c1_i32 k0_t1
  let v22 : BitVec 32 := Scalar.muli c4_i32 arg14
  let v23 : BitVec 32 := Scalar.addi v22 c0_i32_15
  let v87 : Index := Scalar.indexCast v23
  let c0_42 : Index := 0#32
  ![0, v87.toNat, 0]
def k0_off5 (k0_t1 : Fin k0_t1_loop.trips) (c0_i32_15 : BitVec 32) : Fin 4 → Nat :=
  let c4_i32 : BitVec 32 := 4#32
  let c0_i32_8 : BitVec 32 := 0#32
  let c1_i32 : BitVec 32 := 1#32
  let arg14 : BitVec 32 := Scf.iv c0_i32_8 c1_i32 k0_t1
  let v22 : BitVec 32 := Scalar.muli c4_i32 arg14
  let v23 : BitVec 32 := Scalar.addi v22 c0_i32_15
  let v92 : Index := Scalar.indexCast v23
  let c0_43 : Index := 0#32
  let c0_44 : Index := 0#32
  let c0_45 : Index := 0#32
  ![v92.toNat, 0, 0, 0]
def k0_off6 (k0_t1 : Fin k0_t1_loop.trips) (c0_i32_49 : BitVec 32) : Fin 3 → Nat :=
  let c0_75 : Index := 0#32
  let c4_i32_48 : BitVec 32 := 4#32
  let c0_i32_8 : BitVec 32 := 0#32
  let c1_i32 : BitVec 32 := 1#32
  let arg14 : BitVec 32 := Scf.iv c0_i32_8 c1_i32 k0_t1
  let v100 : BitVec 32 := Scalar.muli c4_i32_48 arg14
  let v101 : BitVec 32 := Scalar.addi v100 c0_i32_49
  let v165 : Index := Scalar.indexCast v101
  let c512_76 : Index := 512#32
  ![0, v165.toNat, 512]
def k0_off7 (k0_t1 : Fin k0_t1_loop.trips) (c0_i32_49 : BitVec 32) : Fin 4 → Nat :=
  let c4_i32_48 : BitVec 32 := 4#32
  let c0_i32_8 : BitVec 32 := 0#32
  let c1_i32 : BitVec 32 := 1#32
  let arg14 : BitVec 32 := Scf.iv c0_i32_8 c1_i32 k0_t1
  let v100 : BitVec 32 := Scalar.muli c4_i32_48 arg14
  let v101 : BitVec 32 := Scalar.addi v100 c0_i32_49
  let v170 : Index := Scalar.indexCast v101
  let c0_77 : Index := 0#32
  let c0_78 : Index := 0#32
  let c512_79 : Index := 512#32
  ![v170.toNat, 0, 0, 512]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat, arg1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S8x1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8x1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S8x1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x8x1024 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 1 → Memref sig .tc .vmem S8x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S8x1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== ReferenceIdeal.lean ====
abbrev S8x256x2048 : Shape := ⟨3, ![8, 256, 2048]⟩
abbrev S8x1024x256 : Shape := ⟨3, ![8, 1024, 256]⟩
abbrev S_ : Shape := ⟨0, ![]⟩
abbrev S1x1024x256 : Shape := ⟨3, ![1, 1024, 256]⟩
abbrev S1024x256 : Shape := ⟨2, ![1024, 256]⟩
abbrev S8x2048x256 : Shape := ⟨3, ![8, 2048, 256]⟩
abbrev S16384x256 : Shape := ⟨2, ![16384, 256]⟩
abbrev S16384 : Shape := ⟨1, ![16384]⟩
abbrev S16384x1 : Shape := ⟨2, ![16384, 1]⟩
abbrev S256x1024 : Shape := ⟨2, ![256, 1024]⟩
abbrev S16384x1024 : Shape := ⟨2, ![16384, 1024]⟩
abbrev S1024 : Shape := ⟨1, ![1024]⟩
abbrev S1x1024 : Shape := ⟨2, ![1, 1024]⟩
abbrev S8x2048 : Shape := ⟨2, ![8, 2048]⟩
abbrev S8x2048x1 : Shape := ⟨3, ![8, 2048, 1]⟩
abbrev S1 : Shape := ⟨1, ![1]⟩
abbrev S1x1x1 : Shape := ⟨3, ![1, 1, 1]⟩
abbrev S8 : Shape := ⟨1, ![8]⟩
abbrev S1x8x2048 : Shape := ⟨3, ![1, 8, 2048]⟩
abbrev S8x8x2048 : Shape := ⟨3, ![8, 8, 2048]⟩
abbrev S1x8x256x2048 : Shape := ⟨4, ![1, 8, 256, 2048]⟩
abbrev S8x8x256x2048 : Shape := ⟨4, ![8, 8, 256, 2048]⟩

abbrev nBuf : Space → Nat
  | .hbm => 664
  | .vmem => 0
  | .smem => 0
  | _ => 0

abbrev hbmTy0_0 (i : Nat) : BufTy := match i % 128 with
  | 0 => ⟨S8x256x2048, .f32⟩
  | 1 => ⟨S8x1024x256, .f32⟩
  | 2 => ⟨S_, .f32⟩
  | 3 => ⟨S8x256x2048, .f32⟩
  | 4 => ⟨S1x1024x256, .f32⟩
  | 5 => ⟨S1024x256, .f32⟩
  | 6 => ⟨S8x2048x256, .f32⟩
  | 7 => ⟨S16384x256, .f32⟩
  | 8 => ⟨S16384x256, .f32⟩
  | 9 => ⟨S_, .f32⟩
  | 10 => ⟨S16384, .f32⟩
  | 11 => ⟨S16384x1, .f32⟩
  | 12 => ⟨S_, .f32⟩
  | 13 => ⟨S16384x256, .f32⟩
  | 14 => ⟨S16384x256, .f32⟩
  | 15 => ⟨S256x1024, .f32⟩
  | 16 => ⟨S16384x1024, .f32⟩
  | 17 => ⟨S16384x1024, .f32⟩
  | 18 => ⟨S16384x1024, .f32⟩
  | 19 => ⟨S1024x256, .f32⟩
  | 20 => ⟨S_, .f32⟩
  | 21 => ⟨S1024, .f32⟩
  | 22 => ⟨S1x1024, .f32⟩
  | 23 => ⟨S16384x1024, .f32⟩
  | 24 => ⟨S16384x1024, .f32⟩
  | 25 => ⟨S16384x1024, .f32⟩
  | 26 => ⟨S16384x1024, .i32⟩
  | 27 => ⟨S_, .f32⟩
  | 28 => ⟨S_, .i32⟩
  | 29 => ⟨S16384, .f32⟩
  | 30 => ⟨S16384, .i32⟩
  | 31 => ⟨S8x2048, .i32⟩
  | 32 => ⟨S_, .i32⟩
  | 33 => ⟨S8x2048, .i32⟩
  | 34 => ⟨S8x2048, .i1⟩
  | 35 => ⟨S_, .i32⟩
  | 36 => ⟨S8x2048, .i32⟩
  | 37 => ⟨S8x2048, .i32⟩
  | 38 => ⟨S8x2048, .i32⟩
  | 39 => ⟨S8x2048x1, .i32⟩
  | 40 => ⟨S1, .i32⟩
  | 41 => ⟨S_, .i32⟩
  | 42 => ⟨S8x2048x1, .i32⟩
  | 43 => ⟨S8x2048x1, .i1⟩
  | 44 => ⟨S1x1x1, .i32⟩
  | 45 => ⟨S8x2048x1, .i32⟩
  | 46 => ⟨S8x2048x1, .i1⟩
  | 47 => ⟨S8x2048x1, .i1⟩
  | 48 => ⟨S_, .i1⟩
  | 49 => ⟨S8x2048, .i1⟩
  | 50 => ⟨S8x2048x256, .f32⟩
  | 51 => ⟨S8x2048x256, .i1⟩
  | 52 => ⟨S_, .f32⟩
  | 53 => ⟨S8x2048x256, .f32⟩
  | 54 => ⟨S8x2048x256, .f32⟩
  | 55 => ⟨S8x256x2048, .f32⟩
  | 56 => ⟨S8x256x2048, .f32⟩
  | 57 => ⟨S8x256x2048, .f32⟩
  | 58 => ⟨S_, .f32⟩
  | 59 => ⟨S8, .f32⟩
  | 60 => ⟨S_, .f32⟩
  | 61 => ⟨S8, .f32⟩
  | 62 => ⟨S8, .f32⟩
  | 63 => ⟨S8x256x2048, .f32⟩
  | 64 => ⟨S8x256x2048, .f32⟩
  | 65 => ⟨S_, .f32⟩
  | 66 => ⟨S8, .f32⟩
  | 67 => ⟨S_, .f32⟩
  | 68 => ⟨S8, .f32⟩
  | 69 => ⟨S8, .f32⟩
  | 70 => ⟨S8x256x2048, .f32⟩
  | 71 => ⟨S8x256x2048, .f32⟩
  | 72 => ⟨S8x256x2048, .f32⟩
  | 73 => ⟨S8x256x2048, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S1x1024x256, .f32⟩
  | 83 => ⟨S1024x256, .f32⟩
  | 84 => ⟨S8x2048x256, .f32⟩
  | 85 => ⟨S16384x256, .f32⟩
  | 86 => ⟨S16384x256, .f32⟩
  | 87 => ⟨S_, .f32⟩
  | 88 => ⟨S16384, .f32⟩
  | 89 => ⟨S16384x1, .f32⟩
  | 90 => ⟨S_, .f32⟩
  | 91 => ⟨S16384x256, .f32⟩
  | 92 => ⟨S16384x256, .f32⟩
  | 93 => ⟨S256x1024, .f32⟩
  | 94 => ⟨S16384x1024, .f32⟩
  | 95 => ⟨S16384x1024, .f32⟩
  | 96 => ⟨S16384x1024, .f32⟩
  | 97 => ⟨S1024x256, .f32⟩
  | 98 => ⟨S_, .f32⟩
  | 99 => ⟨S1024, .f32⟩
  | 100 => ⟨S1x1024, .f32⟩
  | 101 => ⟨S16384x1024, .f32⟩
  | 102 => ⟨S16384x1024, .f32⟩
  | 103 => ⟨S16384x1024, .f32⟩
  | 104 => ⟨S16384x1024, .i32⟩
  | 105 => ⟨S_, .f32⟩
  | 106 => ⟨S_, .i32⟩
  | 107 => ⟨S16384, .f32⟩
  | 108 => ⟨S16384, .i32⟩
  | 109 => ⟨S8x2048, .i32⟩
  | 110 => ⟨S_, .i32⟩
  | 111 => ⟨S8x2048, .i32⟩
  | 112 => ⟨S8x2048, .i1⟩
  | 113 => ⟨S_, .i32⟩
  | 114 => ⟨S8x2048, .i32⟩
  | 115 => ⟨S8x2048, .i32⟩
  | 116 => ⟨S8x2048, .i32⟩
  | 117 => ⟨S8x2048x1, .i32⟩
  | 118 => ⟨S1, .i32⟩
  | 119 => ⟨S_, .i32⟩
  | 120 => ⟨S8x2048x1, .i32⟩
  | 121 => ⟨S8x2048x1, .i1⟩
  | 122 => ⟨S1x1x1, .i32⟩
  | 123 => ⟨S8x2048x1, .i32⟩
  | 124 => ⟨S8x2048x1, .i1⟩
  | 125 => ⟨S8x2048x1, .i1⟩
  | 126 => ⟨S_, .i1⟩
  | 127 => ⟨S8x2048, .i1⟩
  | _ => ⟨S8x256x2048, .f32⟩

abbrev hbmTy0_1 (i : Nat) : BufTy := match i % 128 with
  | 0 => ⟨S8x2048x256, .f32⟩
  | 1 => ⟨S8x2048x256, .i1⟩
  | 2 => ⟨S_, .f32⟩
  | 3 => ⟨S8x2048x256, .f32⟩
  | 4 => ⟨S8x2048x256, .f32⟩
  | 5 => ⟨S8x256x2048, .f32⟩
  | 6 => ⟨S8x256x2048, .f32⟩
  | 7 => ⟨S8x256x2048, .f32⟩
  | 8 => ⟨S_, .f32⟩
  | 9 => ⟨S8, .f32⟩
  | 10 => ⟨S_, .f32⟩
  | 11 => ⟨S8, .f32⟩
  | 12 => ⟨S8, .f32⟩
  | 13 => ⟨S8x256x2048, .f32⟩
  | 14 => ⟨S8x256x2048, .f32⟩
  | 15 => ⟨S_, .f32⟩
  | 16 => ⟨S8, .f32⟩
  | 17 => ⟨S_, .f32⟩
  | 18 => ⟨S8, .f32⟩
  | 19 => ⟨S8, .f32⟩
  | 20 => ⟨S8x256x2048, .f32⟩
  | 21 => ⟨S8x256x2048, .f32⟩
  | 22 => ⟨S8x256x2048, .f32⟩
  | 23 => ⟨S8x256x2048, .f32⟩
  | 24 => ⟨S_, .f32⟩
  | 25 => ⟨S_, .f32⟩
  | 26 => ⟨S_, .f32⟩
  | 27 => ⟨S_, .f32⟩
  | 28 => ⟨S_, .f32⟩
  | 29 => ⟨S_, .f32⟩
  | 30 => ⟨S_, .f32⟩
  | 31 => ⟨S_, .f32⟩
  | 32 => ⟨S1x1024x256, .f32⟩
  | 33 => ⟨S1024x256, .f32⟩
  | 34 => ⟨S8x2048x256, .f32⟩
  | 35 => ⟨S16384x256, .f32⟩
  | 36 => ⟨S16384x256, .f32⟩
  | 37 => ⟨S_, .f32⟩
  | 38 => ⟨S16384, .f32⟩
  | 39 => ⟨S16384x1, .f32⟩
  | 40 => ⟨S_, .f32⟩
  | 41 => ⟨S16384x256, .f32⟩
  | 42 => ⟨S16384x256, .f32⟩
  | 43 => ⟨S256x1024, .f32⟩
  | 44 => ⟨S16384x1024, .f32⟩
  | 45 => ⟨S16384x1024, .f32⟩
  | 46 => ⟨S16384x1024, .f32⟩
  | 47 => ⟨S1024x256, .f32⟩
  | 48 => ⟨S_, .f32⟩
  | 49 => ⟨S1024, .f32⟩
  | 50 => ⟨S1x1024, .f32⟩
  | 51 => ⟨S16384x1024, .f32⟩
  | 52 => ⟨S16384x1024, .f32⟩
  | 53 => ⟨S16384x1024, .f32⟩
  | 54 => ⟨S16384x1024, .i32⟩
  | 55 => ⟨S_, .f32⟩
  | 56 => ⟨S_, .i32⟩
  | 57 => ⟨S16384, .f32⟩
  | 58 => ⟨S16384, .i32⟩
  | 59 => ⟨S8x2048, .i32⟩
  | 60 => ⟨S_, .i32⟩
  | 61 => ⟨S8x2048, .i32⟩
  | 62 => ⟨S8x2048, .i1⟩
  | 63 => ⟨S_, .i32⟩
  | 64 => ⟨S8x2048, .i32⟩
  | 65 => ⟨S8x2048, .i32⟩
  | 66 => ⟨S8x2048, .i32⟩
  | 67 => ⟨S8x2048x1, .i32⟩
  | 68 => ⟨S1, .i32⟩
  | 69 => ⟨S_, .i32⟩
  | 70 => ⟨S8x2048x1, .i32⟩
  | 71 => ⟨S8x2048x1, .i1⟩
  | 72 => ⟨S1x1x1, .i32⟩
  | 73 => ⟨S8x2048x1, .i32⟩
  | 74 => ⟨S8x2048x1, .i1⟩
  | 75 => ⟨S8x2048x1, .i1⟩
  | 76 => ⟨S_, .i1⟩
  | 77 => ⟨S8x2048, .i1⟩
  | 78 => ⟨S8x2048x256, .f32⟩
  | 79 => ⟨S8x2048x256, .i1⟩
  | 80 => ⟨S_, .f32⟩
  | 81 => ⟨S8x2048x256, .f32⟩
  | 82 => ⟨S8x2048x256, .f32⟩
  | 83 => ⟨S8x256x2048, .f32⟩
  | 84 => ⟨S8x256x2048, .f32⟩
  | 85 => ⟨S8x256x2048, .f32⟩
  | 86 => ⟨S_, .f32⟩
  | 87 => ⟨S8, .f32⟩
  | 88 => ⟨S_, .f32⟩
  | 89 => ⟨S8, .f32⟩
  | 90 => ⟨S8, .f32⟩
  | 91 => ⟨S8x256x2048, .f32⟩
  | 92 => ⟨S8x256x2048, .f32⟩
  | 93 => ⟨S_, .f32⟩
  | 94 => ⟨S8, .f32⟩
  | 95 => ⟨S_, .f32⟩
  | 96 => ⟨S8, .f32⟩
  | 97 => ⟨S8, .f32⟩
  | 98 => ⟨S8x256x2048, .f32⟩
  | 99 => ⟨S8x256x2048, .f32⟩
  | 100 => ⟨S8x256x2048, .f32⟩
  | 101 => ⟨S8x256x2048, .f32⟩
  | 102 => ⟨S_, .f32⟩
  | 103 => ⟨S_, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S1x1024x256, .f32⟩
  | 111 => ⟨S1024x256, .f32⟩
  | 112 => ⟨S8x2048x256, .f32⟩
  | 113 => ⟨S16384x256, .f32⟩
  | 114 => ⟨S16384x256, .f32⟩
  | 115 => ⟨S_, .f32⟩
  | 116 => ⟨S16384, .f32⟩
  | 117 => ⟨S16384x1, .f32⟩
  | 118 => ⟨S_, .f32⟩
  | 119 => ⟨S16384x256, .f32⟩
  | 120 => ⟨S16384x256, .f32⟩
  | 121 => ⟨S256x1024, .f32⟩
  | 122 => ⟨S16384x1024, .f32⟩
  | 123 => ⟨S16384x1024, .f32⟩
  | 124 => ⟨S16384x1024, .f32⟩
  | 125 => ⟨S1024x256, .f32⟩
  | 126 => ⟨S_, .f32⟩
  | 127 => ⟨S1024, .f32⟩
  | _ => ⟨S8x256x2048, .f32⟩

abbrev hbmTy0_2 (i : Nat) : BufTy := match i % 128 with
  | 0 => ⟨S1x1024, .f32⟩
  | 1 => ⟨S16384x1024, .f32⟩
  | 2 => ⟨S16384x1024, .f32⟩
  | 3 => ⟨S16384x1024, .f32⟩
  | 4 => ⟨S16384x1024, .i32⟩
  | 5 => ⟨S_, .f32⟩
  | 6 => ⟨S_, .i32⟩
  | 7 => ⟨S16384, .f32⟩
  | 8 => ⟨S16384, .i32⟩
  | 9 => ⟨S8x2048, .i32⟩
  | 10 => ⟨S_, .i32⟩
  | 11 => ⟨S8x2048, .i32⟩
  | 12 => ⟨S8x2048, .i1⟩
  | 13 => ⟨S_, .i32⟩
  | 14 => ⟨S8x2048, .i32⟩
  | 15 => ⟨S8x2048, .i32⟩
  | 16 => ⟨S8x2048, .i32⟩
  | 17 => ⟨S8x2048x1, .i32⟩
  | 18 => ⟨S1, .i32⟩
  | 19 => ⟨S_, .i32⟩
  | 20 => ⟨S8x2048x1, .i32⟩
  | 21 => ⟨S8x2048x1, .i1⟩
  | 22 => ⟨S1x1x1, .i32⟩
  | 23 => ⟨S8x2048x1, .i32⟩
  | 24 => ⟨S8x2048x1, .i1⟩
  | 25 => ⟨S8x2048x1, .i1⟩
  | 26 => ⟨S_, .i1⟩
  | 27 => ⟨S8x2048, .i1⟩
  | 28 => ⟨S8x2048x256, .f32⟩
  | 29 => ⟨S8x2048x256, .i1⟩
  | 30 => ⟨S_, .f32⟩
  | 31 => ⟨S8x2048x256, .f32⟩
  | 32 => ⟨S8x2048x256, .f32⟩
  | 33 => ⟨S8x256x2048, .f32⟩
  | 34 => ⟨S8x256x2048, .f32⟩
  | 35 => ⟨S8x256x2048, .f32⟩
  | 36 => ⟨S_, .f32⟩
  | 37 => ⟨S8, .f32⟩
  | 38 => ⟨S_, .f32⟩
  | 39 => ⟨S8, .f32⟩
  | 40 => ⟨S8, .f32⟩
  | 41 => ⟨S8x256x2048, .f32⟩
  | 42 => ⟨S8x256x2048, .f32⟩
  | 43 => ⟨S_, .f32⟩
  | 44 => ⟨S8, .f32⟩
  | 45 => ⟨S_, .f32⟩
  | 46 => ⟨S8, .f32⟩
  | 47 => ⟨S8, .f32⟩
  | 48 => ⟨S8x256x2048, .f32⟩
  | 49 => ⟨S8x256x2048, .f32⟩
  | 50 => ⟨S8x256x2048, .f32⟩
  | 51 => ⟨S8x256x2048, .f32⟩
  | 52 => ⟨S_, .f32⟩
  | 53 => ⟨S_, .f32⟩
  | 54 => ⟨S_, .f32⟩
  | 55 => ⟨S_, .f32⟩
  | 56 => ⟨S_, .f32⟩
  | 57 => ⟨S_, .f32⟩
  | 58 => ⟨S_, .f32⟩
  | 59 => ⟨S_, .f32⟩
  | 60 => ⟨S1x1024x256, .f32⟩
  | 61 => ⟨S1024x256, .f32⟩
  | 62 => ⟨S8x2048x256, .f32⟩
  | 63 => ⟨S16384x256, .f32⟩
  | 64 => ⟨S16384x256, .f32⟩
  | 65 => ⟨S_, .f32⟩
  | 66 => ⟨S16384, .f32⟩
  | 67 => ⟨S16384x1, .f32⟩
  | 68 => ⟨S_, .f32⟩
  | 69 => ⟨S16384x256, .f32⟩
  | 70 => ⟨S16384x256, .f32⟩
  | 71 => ⟨S256x1024, .f32⟩
  | 72 => ⟨S16384x1024, .f32⟩
  | 73 => ⟨S16384x1024, .f32⟩
  | 74 => ⟨S16384x1024, .f32⟩
  | 75 => ⟨S1024x256, .f32⟩
  | 76 => ⟨S_, .f32⟩
  | 77 => ⟨S1024, .f32⟩
  | 78 => ⟨S1x1024, .f32⟩
  | 79 => ⟨S16384x1024, .f32⟩
  | 80 => ⟨S16384x1024, .f32⟩
  | 81 => ⟨S16384x1024, .f32⟩
  | 82 => ⟨S16384x1024, .i32⟩
  | 83 => ⟨S_, .f32⟩
  | 84 => ⟨S_, .i32⟩
  | 85 => ⟨S16384, .f32⟩
  | 86 => ⟨S16384, .i32⟩
  | 87 => ⟨S8x2048, .i32⟩
  | 88 => ⟨S_, .i32⟩
  | 89 => ⟨S8x2048, .i32⟩
  | 90 => ⟨S8x2048, .i1⟩
  | 91 => ⟨S_, .i32⟩
  | 92 => ⟨S8x2048, .i32⟩
  | 93 => ⟨S8x2048, .i32⟩
  | 94 => ⟨S8x2048, .i32⟩
  | 95 => ⟨S8x2048x1, .i32⟩
  | 96 => ⟨S1, .i32⟩
  | 97 => ⟨S_, .i32⟩
  | 98 => ⟨S8x2048x1, .i32⟩
  | 99 => ⟨S8x2048x1, .i1⟩
  | 100 => ⟨S1x1x1, .i32⟩
  | 101 => ⟨S8x2048x1, .i32⟩
  | 102 => ⟨S8x2048x1, .i1⟩
  | 103 => ⟨S8x2048x1, .i1⟩
  | 104 => ⟨S_, .i1⟩
  | 105 => ⟨S8x2048, .i1⟩
  | 106 => ⟨S8x2048x256, .f32⟩
  | 107 => ⟨S8x2048x256, .i1⟩
  | 108 => ⟨S_, .f32⟩
  | 109 => ⟨S8x2048x256, .f32⟩
  | 110 => ⟨S8x2048x256, .f32⟩
  | 111 => ⟨S8x256x2048, .f32⟩
  | 112 => ⟨S8x256x2048, .f32⟩
  | 113 => ⟨S8x256x2048, .f32⟩
  | 114 => ⟨S_, .f32⟩
  | 115 => ⟨S8, .f32⟩
  | 116 => ⟨S_, .f32⟩
  | 117 => ⟨S8, .f32⟩
  | 118 => ⟨S8, .f32⟩
  | 119 => ⟨S8x256x2048, .f32⟩
  | 120 => ⟨S8x256x2048, .f32⟩
  | 121 => ⟨S_, .f32⟩
  | 122 => ⟨S8, .f32⟩
  | 123 => ⟨S_, .f32⟩
  | 124 => ⟨S8, .f32⟩
  | 125 => ⟨S8, .f32⟩
  | 126 => ⟨S8x256x2048, .f32⟩
  | 127 => ⟨S8x256x2048, .f32⟩
  | _ => ⟨S8x256x2048, .f32⟩

abbrev hbmTy0_3 (i : Nat) : BufTy := match i % 128 with
  | 0 => ⟨S8x256x2048, .f32⟩
  | 1 => ⟨S8x256x2048, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S1x1024x256, .f32⟩
  | 11 => ⟨S1024x256, .f32⟩
  | 12 => ⟨S8x2048x256, .f32⟩
  | 13 => ⟨S16384x256, .f32⟩
  | 14 => ⟨S16384x256, .f32⟩
  | 15 => ⟨S_, .f32⟩
  | 16 => ⟨S16384, .f32⟩
  | 17 => ⟨S16384x1, .f32⟩
  | 18 => ⟨S_, .f32⟩
  | 19 => ⟨S16384x256, .f32⟩
  | 20 => ⟨S16384x256, .f32⟩
  | 21 => ⟨S256x1024, .f32⟩
  | 22 => ⟨S16384x1024, .f32⟩
  | 23 => ⟨S16384x1024, .f32⟩
  | 24 => ⟨S16384x1024, .f32⟩
  | 25 => ⟨S1024x256, .f32⟩
  | 26 => ⟨S_, .f32⟩
  | 27 => ⟨S1024, .f32⟩
  | 28 => ⟨S1x1024, .f32⟩
  | 29 => ⟨S16384x1024, .f32⟩
  | 30 => ⟨S16384x1024, .f32⟩
  | 31 => ⟨S16384x1024, .f32⟩
  | 32 => ⟨S16384x1024, .i32⟩
  | 33 => ⟨S_, .f32⟩
  | 34 => ⟨S_, .i32⟩
  | 35 => ⟨S16384, .f32⟩
  | 36 => ⟨S16384, .i32⟩
  | 37 => ⟨S8x2048, .i32⟩
  | 38 => ⟨S_, .i32⟩
  | 39 => ⟨S8x2048, .i32⟩
  | 40 => ⟨S8x2048, .i1⟩
  | 41 => ⟨S_, .i32⟩
  | 42 => ⟨S8x2048, .i32⟩
  | 43 => ⟨S8x2048, .i32⟩
  | 44 => ⟨S8x2048, .i32⟩
  | 45 => ⟨S8x2048x1, .i32⟩
  | 46 => ⟨S1, .i32⟩
  | 47 => ⟨S_, .i32⟩
  | 48 => ⟨S8x2048x1, .i32⟩
  | 49 => ⟨S8x2048x1, .i1⟩
  | 50 => ⟨S1x1x1, .i32⟩
  | 51 => ⟨S8x2048x1, .i32⟩
  | 52 => ⟨S8x2048x1, .i1⟩
  | 53 => ⟨S8x2048x1, .i1⟩
  | 54 => ⟨S_, .i1⟩
  | 55 => ⟨S8x2048, .i1⟩
  | 56 => ⟨S8x2048x256, .f32⟩
  | 57 => ⟨S8x2048x256, .i1⟩
  | 58 => ⟨S_, .f32⟩
  | 59 => ⟨S8x2048x256, .f32⟩
  | 60 => ⟨S8x2048x256, .f32⟩
  | 61 => ⟨S8x256x2048, .f32⟩
  | 62 => ⟨S8x256x2048, .f32⟩
  | 63 => ⟨S8x256x2048, .f32⟩
  | 64 => ⟨S_, .f32⟩
  | 65 => ⟨S8, .f32⟩
  | 66 => ⟨S_, .f32⟩
  | 67 => ⟨S8, .f32⟩
  | 68 => ⟨S8, .f32⟩
  | 69 => ⟨S8x256x2048, .f32⟩
  | 70 => ⟨S8x256x2048, .f32⟩
  | 71 => ⟨S_, .f32⟩
  | 72 => ⟨S8, .f32⟩
  | 73 => ⟨S_, .f32⟩
  | 74 => ⟨S8, .f32⟩
  | 75 => ⟨S8, .f32⟩
  | 76 => ⟨S8x256x2048, .f32⟩
  | 77 => ⟨S8x256x2048, .f32⟩
  | 78 => ⟨S8x256x2048, .f32⟩
  | 79 => ⟨S8x256x2048, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .f32⟩
  | 88 => ⟨S1x1024x256, .f32⟩
  | 89 => ⟨S1024x256, .f32⟩
  | 90 => ⟨S8x2048x256, .f32⟩
  | 91 => ⟨S16384x256, .f32⟩
  | 92 => ⟨S16384x256, .f32⟩
  | 93 => ⟨S_, .f32⟩
  | 94 => ⟨S16384, .f32⟩
  | 95 => ⟨S16384x1, .f32⟩
  | 96 => ⟨S_, .f32⟩
  | 97 => ⟨S16384x256, .f32⟩
  | 98 => ⟨S16384x256, .f32⟩
  | 99 => ⟨S256x1024, .f32⟩
  | 100 => ⟨S16384x1024, .f32⟩
  | 101 => ⟨S16384x1024, .f32⟩
  | 102 => ⟨S16384x1024, .f32⟩
  | 103 => ⟨S1024x256, .f32⟩
  | 104 => ⟨S_, .f32⟩
  | 105 => ⟨S1024, .f32⟩
  | 106 => ⟨S1x1024, .f32⟩
  | 107 => ⟨S16384x1024, .f32⟩
  | 108 => ⟨S16384x1024, .f32⟩
  | 109 => ⟨S16384x1024, .f32⟩
  | 110 => ⟨S16384x1024, .i32⟩
  | 111 => ⟨S_, .f32⟩
  | 112 => ⟨S_, .i32⟩
  | 113 => ⟨S16384, .f32⟩
  | 114 => ⟨S16384, .i32⟩
  | 115 => ⟨S8x2048, .i32⟩
  | 116 => ⟨S_, .i32⟩
  | 117 => ⟨S8x2048, .i32⟩
  | 118 => ⟨S8x2048, .i1⟩
  | 119 => ⟨S_, .i32⟩
  | 120 => ⟨S8x2048, .i32⟩
  | 121 => ⟨S8x2048, .i32⟩
  | 122 => ⟨S8x2048, .i32⟩
  | 123 => ⟨S8x2048x1, .i32⟩
  | 124 => ⟨S1, .i32⟩
  | 125 => ⟨S_, .i32⟩
  | 126 => ⟨S8x2048x1, .i32⟩
  | 127 => ⟨S8x2048x1, .i1⟩
  | _ => ⟨S8x256x2048, .f32⟩

abbrev hbmTy0_4 (i : Nat) : BufTy := match i % 128 with
  | 0 => ⟨S1x1x1, .i32⟩
  | 1 => ⟨S8x2048x1, .i32⟩
  | 2 => ⟨S8x2048x1, .i1⟩
  | 3 => ⟨S8x2048x1, .i1⟩
  | 4 => ⟨S_, .i1⟩
  | 5 => ⟨S8x2048, .i1⟩
  | 6 => ⟨S8x2048x256, .f32⟩
  | 7 => ⟨S8x2048x256, .i1⟩
  | 8 => ⟨S_, .f32⟩
  | 9 => ⟨S8x2048x256, .f32⟩
  | 10 => ⟨S8x2048x256, .f32⟩
  | 11 => ⟨S8x256x2048, .f32⟩
  | 12 => ⟨S8x256x2048, .f32⟩
  | 13 => ⟨S8x256x2048, .f32⟩
  | 14 => ⟨S_, .f32⟩
  | 15 => ⟨S8, .f32⟩
  | 16 => ⟨S_, .f32⟩
  | 17 => ⟨S8, .f32⟩
  | 18 => ⟨S8, .f32⟩
  | 19 => ⟨S8x256x2048, .f32⟩
  | 20 => ⟨S8x256x2048, .f32⟩
  | 21 => ⟨S_, .f32⟩
  | 22 => ⟨S8, .f32⟩
  | 23 => ⟨S_, .f32⟩
  | 24 => ⟨S8, .f32⟩
  | 25 => ⟨S8, .f32⟩
  | 26 => ⟨S8x256x2048, .f32⟩
  | 27 => ⟨S8x256x2048, .f32⟩
  | 28 => ⟨S8x256x2048, .f32⟩
  | 29 => ⟨S8x256x2048, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S1x1024x256, .f32⟩
  | 39 => ⟨S1024x256, .f32⟩
  | 40 => ⟨S8x2048x256, .f32⟩
  | 41 => ⟨S16384x256, .f32⟩
  | 42 => ⟨S16384x256, .f32⟩
  | 43 => ⟨S_, .f32⟩
  | 44 => ⟨S16384, .f32⟩
  | 45 => ⟨S16384x1, .f32⟩
  | 46 => ⟨S_, .f32⟩
  | 47 => ⟨S16384x256, .f32⟩
  | 48 => ⟨S16384x256, .f32⟩
  | 49 => ⟨S256x1024, .f32⟩
  | 50 => ⟨S16384x1024, .f32⟩
  | 51 => ⟨S16384x1024, .f32⟩
  | 52 => ⟨S16384x1024, .f32⟩
  | 53 => ⟨S1024x256, .f32⟩
  | 54 => ⟨S_, .f32⟩
  | 55 => ⟨S1024, .f32⟩
  | 56 => ⟨S1x1024, .f32⟩
  | 57 => ⟨S16384x1024, .f32⟩
  | 58 => ⟨S16384x1024, .f32⟩
  | 59 => ⟨S16384x1024, .f32⟩
  | 60 => ⟨S16384x1024, .i32⟩
  | 61 => ⟨S_, .f32⟩
  | 62 => ⟨S_, .i32⟩
  | 63 => ⟨S16384, .f32⟩
  | 64 => ⟨S16384, .i32⟩
  | 65 => ⟨S8x2048, .i32⟩
  | 66 => ⟨S_, .i32⟩
  | 67 => ⟨S8x2048, .i32⟩
  | 68 => ⟨S8x2048, .i1⟩
  | 69 => ⟨S_, .i32⟩
  | 70 => ⟨S8x2048, .i32⟩
  | 71 => ⟨S8x2048, .i32⟩
  | 72 => ⟨S8x2048, .i32⟩
  | 73 => ⟨S8x2048x1, .i32⟩
  | 74 => ⟨S1, .i32⟩
  | 75 => ⟨S_, .i32⟩
  | 76 => ⟨S8x2048x1, .i32⟩
  | 77 => ⟨S8x2048x1, .i1⟩
  | 78 => ⟨S1x1x1, .i32⟩
  | 79 => ⟨S8x2048x1, .i32⟩
  | 80 => ⟨S8x2048x1, .i1⟩
  | 81 => ⟨S8x2048x1, .i1⟩
  | 82 => ⟨S_, .i1⟩
  | 83 => ⟨S8x2048, .i1⟩
  | 84 => ⟨S8x2048x256, .f32⟩
  | 85 => ⟨S8x2048x256, .i1⟩
  | 86 => ⟨S_, .f32⟩
  | 87 => ⟨S8x2048x256, .f32⟩
  | 88 => ⟨S8x2048x256, .f32⟩
  | 89 => ⟨S8x256x2048, .f32⟩
  | 90 => ⟨S8x256x2048, .f32⟩
  | 91 => ⟨S8x256x2048, .f32⟩
  | 92 => ⟨S_, .f32⟩
  | 93 => ⟨S8, .f32⟩
  | 94 => ⟨S_, .f32⟩
  | 95 => ⟨S8, .f32⟩
  | 96 => ⟨S8, .f32⟩
  | 97 => ⟨S8x256x2048, .f32⟩
  | 98 => ⟨S8x256x2048, .f32⟩
  | 99 => ⟨S_, .f32⟩
  | 100 => ⟨S8, .f32⟩
  | 101 => ⟨S_, .f32⟩
  | 102 => ⟨S8, .f32⟩
  | 103 => ⟨S8, .f32⟩
  | 104 => ⟨S8x256x2048, .f32⟩
  | 105 => ⟨S8x256x2048, .f32⟩
  | 106 => ⟨S8x256x2048, .f32⟩
  | 107 => ⟨S8x256x2048, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S1x8x2048, .i32⟩
  | 117 => ⟨S1x8x2048, .i32⟩
  | 118 => ⟨S1x8x2048, .i32⟩
  | 119 => ⟨S1x8x2048, .i32⟩
  | 120 => ⟨S1x8x2048, .i32⟩
  | 121 => ⟨S1x8x2048, .i32⟩
  | 122 => ⟨S1x8x2048, .i32⟩
  | 123 => ⟨S1x8x2048, .i32⟩
  | 124 => ⟨S8x8x2048, .i32⟩
  | 125 => ⟨S1, .f32⟩
  | 126 => ⟨S1, .f32⟩
  | 127 => ⟨S1, .f32⟩
  | _ => ⟨S8x256x2048, .f32⟩

abbrev hbmTy0_5 (i : Nat) : BufTy := match i % 128 with
  | 0 => ⟨S1, .f32⟩
  | 1 => ⟨S1, .f32⟩
  | 2 => ⟨S1, .f32⟩
  | 3 => ⟨S1, .f32⟩
  | 4 => ⟨S1, .f32⟩
  | 5 => ⟨S8, .f32⟩
  | 6 => ⟨S1, .f32⟩
  | 7 => ⟨S1, .f32⟩
  | 8 => ⟨S1, .f32⟩
  | 9 => ⟨S1, .f32⟩
  | 10 => ⟨S1, .f32⟩
  | 11 => ⟨S1, .f32⟩
  | 12 => ⟨S1, .f32⟩
  | 13 => ⟨S1, .f32⟩
  | 14 => ⟨S8, .f32⟩
  | 15 => ⟨S1x8x256x2048, .f32⟩
  | 16 => ⟨S1x8x256x2048, .f32⟩
  | 17 => ⟨S1x8x256x2048, .f32⟩
  | 18 => ⟨S1x8x256x2048, .f32⟩
  | 19 => ⟨S1x8x256x2048, .f32⟩
  | 20 => ⟨S1x8x256x2048, .f32⟩
  | 21 => ⟨S1x8x256x2048, .f32⟩
  | 22 => ⟨S1x8x256x2048, .f32⟩
  | 23 => ⟨S8x8x256x2048, .f32⟩
  | _ => ⟨S8x256x2048, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x256x2048, .f32⟩

abbrev bufTy : (tb : Table) → Fin (tcTables nBuf tb) → BufTy
  | .hbm, ⟨i, _⟩ => hbmTy i
  | _, _ => ⟨S8x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_call0_v0 : Ref sig .tc := ⟨.hbm, 26, rfl⟩
abbrev main_call0_cst : Ref sig .tc := ⟨.hbm, 27, rfl⟩
abbrev main_call0_c : Ref sig .tc := ⟨.hbm, 28, rfl⟩
abbrev main_call0_v1_0 : Ref sig .tc := ⟨.hbm, 29, rfl⟩
abbrev main_v20 : Ref sig .tc := ⟨.hbm, 30, rfl⟩
abbrev main_v21 : Ref sig .tc := ⟨.hbm, 31, rfl⟩
abbrev main_call1_c : Ref sig .tc := ⟨.hbm, 32, rfl⟩
abbrev main_call1_v0 : Ref sig .tc := ⟨.hbm, 33, rfl⟩
abbrev main_call1_v1 : Ref sig .tc := ⟨.hbm, 34, rfl⟩
abbrev main_call1_c_0 : Ref sig .tc := ⟨.hbm, 35, rfl⟩
abbrev main_call1_v2 : Ref sig .tc := ⟨.hbm, 36, rfl⟩
abbrev main_call1_v3 : Ref sig .tc := ⟨.hbm, 37, rfl⟩
abbrev main_call1_v4 : Ref sig .tc := ⟨.hbm, 38, rfl⟩
abbrev main_call1_v5 : Ref sig .tc := ⟨.hbm, 39, rfl⟩
abbrev main_call1_c_1 : Ref sig .tc := ⟨.hbm, 40, rfl⟩
abbrev main_call1_c_2 : Ref sig .tc := ⟨.hbm, 41, rfl⟩
abbrev main_call1_v6 : Ref sig .tc := ⟨.hbm, 42, rfl⟩
abbrev main_call1_v7 : Ref sig .tc := ⟨.hbm, 43, rfl⟩
abbrev main_call1_v8 : Ref sig .tc := ⟨.hbm, 44, rfl⟩
abbrev main_call1_v9 : Ref sig .tc := ⟨.hbm, 45, rfl⟩
abbrev main_call1_v10 : Ref sig .tc := ⟨.hbm, 46, rfl⟩
abbrev main_call1_v11 : Ref sig .tc := ⟨.hbm, 47, rfl⟩
abbrev main_call1_c_3 : Ref sig .tc := ⟨.hbm, 48, rfl⟩
abbrev main_call1_v12 : Ref sig .tc := ⟨.hbm, 49, rfl⟩
abbrev main_call1_v13 : Ref sig .tc := ⟨.hbm, 50, rfl⟩
abbrev main_call1_v14 : Ref sig .tc := ⟨.hbm, 51, rfl⟩
abbrev main_call1_cst : Ref sig .tc := ⟨.hbm, 52, rfl⟩
abbrev main_call1_v15 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_3 : Ref sig .tc := ⟨.hbm, 58, rfl⟩
abbrev main_v26 : Ref sig .tc := ⟨.hbm, 59, rfl⟩
abbrev main_cst_4 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_v30 : Ref sig .tc := ⟨.hbm, 64, rfl⟩
abbrev main_cst_5 : Ref sig .tc := ⟨.hbm, 65, rfl⟩
abbrev main_v31 : Ref sig .tc := ⟨.hbm, 66, rfl⟩
abbrev main_cst_6 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_cst_7 : Ref sig .tc := ⟨.hbm, 74, rfl⟩
abbrev main_v38 : Ref sig .tc := ⟨.hbm, 75, rfl⟩
abbrev main_cst_8 : Ref sig .tc := ⟨.hbm, 76, rfl⟩
abbrev main_v39 : Ref sig .tc := ⟨.hbm, 77, rfl⟩
abbrev main_cst_9 : Ref sig .tc := ⟨.hbm, 78, rfl⟩
abbrev main_v40 : Ref sig .tc := ⟨.hbm, 79, rfl⟩
abbrev main_cst_10 : Ref sig .tc := ⟨.hbm, 80, rfl⟩
abbrev main_v41 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_11 : Ref sig .tc := ⟨.hbm, 87, rfl⟩
abbrev main_v47 : Ref sig .tc := ⟨.hbm, 88, rfl⟩
abbrev main_v48 : Ref sig .tc := ⟨.hbm, 89, rfl⟩
abbrev main_cst_12 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_cst_13 : Ref sig .tc := ⟨.hbm, 98, rfl⟩
abbrev main_v56 : Ref sig .tc := ⟨.hbm, 99, rfl⟩
abbrev main_v57 : Ref sig .tc := ⟨.hbm, 100, rfl⟩
abbrev main_v58 : Ref sig .tc := ⟨.hbm, 101, rfl⟩
abbrev main_v59 : Ref sig .tc := ⟨.hbm, 102, rfl⟩
abbrev main_v60 : Ref sig .tc := ⟨.hbm, 103, rfl⟩
abbrev main_call2_v0 : Ref sig .tc := ⟨.hbm, 104, rfl⟩
abbrev main_call2_cst : Ref sig .tc := ⟨.hbm, 105, rfl⟩
abbrev main_call2_c : Ref sig .tc := ⟨.hbm, 106, rfl⟩
abbrev main_call2_v1_0 : Ref sig .tc := ⟨.hbm, 107, rfl⟩
abbrev main_v61 : Ref sig .tc := ⟨.hbm, 108, rfl⟩
abbrev main_v62 : Ref sig .tc := ⟨.hbm, 109, rfl⟩
abbrev main_call3_c : Ref sig .tc := ⟨.hbm, 110, rfl⟩
abbrev main_call3_v0 : Ref sig .tc := ⟨.hbm, 111, rfl⟩
abbrev main_call3_v1 : Ref sig .tc := ⟨.hbm, 112, rfl⟩
abbrev main_call3_c_0 : Ref sig .tc := ⟨.hbm, 113, rfl⟩
abbrev main_call3_v2 : Ref sig .tc := ⟨.hbm, 114, rfl⟩
abbrev main_call3_v3 : Ref sig .tc := ⟨.hbm, 115, rfl⟩
abbrev main_call3_v4 : Ref sig .tc := ⟨.hbm, 116, rfl⟩
abbrev main_call3_v5 : Ref sig .tc := ⟨.hbm, 117, rfl⟩
abbrev main_call3_c_1 : Ref sig .tc := ⟨.hbm, 118, rfl⟩
abbrev main_call3_c_2 : Ref sig .tc := ⟨.hbm, 119, rfl⟩
abbrev main_call3_v6 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_call3_v11 : Ref sig .tc := ⟨.hbm, 125, rfl⟩
abbrev main_call3_c_3 : Ref sig .tc := ⟨.hbm, 126, rfl⟩
abbrev main_call3_v12 : Ref sig .tc := ⟨.hbm, 127, rfl⟩
abbrev main_call3_v13 : Ref sig .tc := ⟨.hbm, 128, rfl⟩
abbrev main_call3_v14 : Ref sig .tc := ⟨.hbm, 129, rfl⟩
abbrev main_call3_cst : Ref sig .tc := ⟨.hbm, 130, rfl⟩
abbrev main_call3_v15 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_cst_14 : Ref sig .tc := ⟨.hbm, 136, rfl⟩
abbrev main_v67 : Ref sig .tc := ⟨.hbm, 137, rfl⟩
abbrev main_cst_15 : Ref sig .tc := ⟨.hbm, 138, rfl⟩
abbrev main_v68 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_cst_16 : Ref sig .tc := ⟨.hbm, 143, rfl⟩
abbrev main_v72 : Ref sig .tc := ⟨.hbm, 144, rfl⟩
abbrev main_cst_17 : Ref sig .tc := ⟨.hbm, 145, rfl⟩
abbrev main_v73 : Ref sig .tc := ⟨.hbm, 146, rfl⟩
abbrev main_v74 : Ref sig .tc := ⟨.hbm, 147, rfl⟩
abbrev main_v75 : Ref sig .tc := ⟨.hbm, 148, rfl⟩
abbrev main_v76 : Ref sig .tc := ⟨.hbm, 149, rfl⟩
abbrev main_v77 : Ref sig .tc := ⟨.hbm, 150, rfl⟩
abbrev main_v78 : Ref sig .tc := ⟨.hbm, 151, rfl⟩
abbrev main_cst_18 : Ref sig .tc := ⟨.hbm, 152, rfl⟩
abbrev main_v79 : Ref sig .tc := ⟨.hbm, 153, rfl⟩
abbrev main_cst_19 : Ref sig .tc := ⟨.hbm, 154, rfl⟩
abbrev main_v80 : Ref sig .tc := ⟨.hbm, 155, rfl⟩
abbrev main_cst_20 : Ref sig .tc := ⟨.hbm, 156, rfl⟩
abbrev main_v81 : Ref sig .tc := ⟨.hbm, 157, rfl⟩
abbrev main_cst_21 : Ref sig .tc := ⟨.hbm, 158, rfl⟩
abbrev main_v82 : Ref sig .tc := ⟨.hbm, 159, rfl⟩
abbrev main_v83 : Ref sig .tc := ⟨.hbm, 160, rfl⟩
abbrev main_v84 : Ref sig .tc := ⟨.hbm, 161, rfl⟩
abbrev main_v85 : Ref sig .tc := ⟨.hbm, 162, rfl⟩
abbrev main_v86 : Ref sig .tc := ⟨.hbm, 163, rfl⟩
abbrev main_v87 : Ref sig .tc := ⟨.hbm, 164, rfl⟩
abbrev main_cst_22 : Ref sig .tc := ⟨.hbm, 165, rfl⟩
abbrev main_v88 : Ref sig .tc := ⟨.hbm, 166, rfl⟩
abbrev main_v89 : Ref sig .tc := ⟨.hbm, 167, rfl⟩
abbrev main_cst_23 : Ref sig .tc := ⟨.hbm, 168, rfl⟩
abbrev main_v90 : Ref sig .tc := ⟨.hbm, 169, rfl⟩
abbrev main_v91 : Ref sig .tc := ⟨.hbm, 170, rfl⟩
abbrev main_v92 : Ref sig .tc := ⟨.hbm, 171, rfl⟩
abbrev main_v93 : Ref sig .tc := ⟨.hbm, 172, rfl⟩
abbrev main_v94 : Ref sig .tc := ⟨.hbm, 173, rfl⟩
abbrev main_v95 : Ref sig .tc := ⟨.hbm, 174, rfl⟩
abbrev main_v96 : Ref sig .tc := ⟨.hbm, 175, rfl⟩
abbrev main_cst_24 : Ref sig .tc := ⟨.hbm, 176, rfl⟩
abbrev main_v97 : Ref sig .tc := ⟨.hbm, 177, rfl⟩
abbrev main_v98 : Ref sig .tc := ⟨.hbm, 178, rfl⟩
abbrev main_v99 : Ref sig .tc := ⟨.hbm, 179, rfl⟩
abbrev main_v100 : Ref sig .tc := ⟨.hbm, 180, rfl⟩
abbrev main_v101 : Ref sig .tc := ⟨.hbm, 181, rfl⟩
abbrev main_call4_v0 : Ref sig .tc := ⟨.hbm, 182, rfl⟩
abbrev main_call4_cst : Ref sig .tc := ⟨.hbm, 183, rfl⟩
abbrev main_call4_c : Ref sig .tc := ⟨.hbm, 184, rfl⟩
abbrev main_call4_v1_0 : Ref sig .tc := ⟨.hbm, 185, rfl⟩
abbrev main_v102 : Ref sig .tc := ⟨.hbm, 186, rfl⟩
abbrev main_v103 : Ref sig .tc := ⟨.hbm, 187, rfl⟩
abbrev main_call5_c : Ref sig .tc := ⟨.hbm, 188, rfl⟩
abbrev main_call5_v0 : Ref sig .tc := ⟨.hbm, 189, rfl⟩
abbrev main_call5_v1 : Ref sig .tc := ⟨.hbm, 190, rfl⟩
abbrev main_call5_c_0 : Ref sig .tc := ⟨.hbm, 191, rfl⟩
abbrev main_call5_v2 : Ref sig .tc := ⟨.hbm, 192, rfl⟩
abbrev main_call5_v3 : Ref sig .tc := ⟨.hbm, 193, rfl⟩
abbrev main_call5_v4 : Ref sig .tc := ⟨.hbm, 194, rfl⟩
abbrev main_call5_v5 : Ref sig .tc := ⟨.hbm, 195, rfl⟩
abbrev main_call5_c_1 : Ref sig .tc := ⟨.hbm, 196, rfl⟩
abbrev main_call5_c_2 : Ref sig .tc := ⟨.hbm, 197, rfl⟩
abbrev main_call5_v6 : Ref sig .tc := ⟨.hbm, 198, rfl⟩
abbrev main_call5_v7 : Ref sig .tc := ⟨.hbm, 199, rfl⟩
abbrev main_call5_v8 : Ref sig .tc := ⟨.hbm, 200, rfl⟩
abbrev main_call5_v9 : Ref sig .tc := ⟨.hbm, 201, rfl⟩
abbrev main_call5_v10 : Ref sig .tc := ⟨.hbm, 202, rfl⟩
abbrev main_call5_v11 : Ref sig .tc := ⟨.hbm, 203, rfl⟩
abbrev main_call5_c_3 : Ref sig .tc := ⟨.hbm, 204, rfl⟩
abbrev main_call5_v12 : Ref sig .tc := ⟨.hbm, 205, rfl⟩
abbrev main_call5_v13 : Ref sig .tc := ⟨.hbm, 206, rfl⟩
abbrev main_call5_v14 : Ref sig .tc := ⟨.hbm, 207, rfl⟩
abbrev main_call5_cst : Ref sig .tc := ⟨.hbm, 208, rfl⟩
abbrev main_call5_v15 : Ref sig .tc := ⟨.hbm, 209, rfl⟩
abbrev main_v104 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_cst_25 : Ref sig .tc := ⟨.hbm, 214, rfl⟩
abbrev main_v108 : Ref sig .tc := ⟨.hbm, 215, rfl⟩
abbrev main_cst_26 : Ref sig .tc := ⟨.hbm, 216, rfl⟩
abbrev main_v109 : Ref sig .tc := ⟨.hbm, 217, rfl⟩
abbrev main_v110 : Ref sig .tc := ⟨.hbm, 218, rfl⟩
abbrev main_v111 : Ref sig .tc := ⟨.hbm, 219, rfl⟩
abbrev main_v112 : Ref sig .tc := ⟨.hbm, 220, rfl⟩
abbrev main_cst_27 : Ref sig .tc := ⟨.hbm, 221, rfl⟩
abbrev main_v113 : Ref sig .tc := ⟨.hbm, 222, rfl⟩
abbrev main_cst_28 : Ref sig .tc := ⟨.hbm, 223, rfl⟩
abbrev main_v114 : Ref sig .tc := ⟨.hbm, 224, rfl⟩
abbrev main_v115 : Ref sig .tc := ⟨.hbm, 225, rfl⟩
abbrev main_v116 : Ref sig .tc := ⟨.hbm, 226, rfl⟩
abbrev main_v117 : Ref sig .tc := ⟨.hbm, 227, rfl⟩
abbrev main_v118 : Ref sig .tc := ⟨.hbm, 228, rfl⟩
abbrev main_v119 : Ref sig .tc := ⟨.hbm, 229, rfl⟩
abbrev main_cst_29 : Ref sig .tc := ⟨.hbm, 230, rfl⟩
abbrev main_v120 : Ref sig .tc := ⟨.hbm, 231, rfl⟩
abbrev main_cst_30 : Ref sig .tc := ⟨.hbm, 232, rfl⟩
abbrev main_v121 : Ref sig .tc := ⟨.hbm, 233, rfl⟩
abbrev main_cst_31 : Ref sig .tc := ⟨.hbm, 234, rfl⟩
abbrev main_v122 : Ref sig .tc := ⟨.hbm, 235, rfl⟩
abbrev main_cst_32 : Ref sig .tc := ⟨.hbm, 236, rfl⟩
abbrev main_v123 : Ref sig .tc := ⟨.hbm, 237, rfl⟩
abbrev main_v124 : Ref sig .tc := ⟨.hbm, 238, rfl⟩
abbrev main_v125 : Ref sig .tc := ⟨.hbm, 239, rfl⟩
abbrev main_v126 : Ref sig .tc := ⟨.hbm, 240, rfl⟩
abbrev main_v127 : Ref sig .tc := ⟨.hbm, 241, rfl⟩
abbrev main_v128 : Ref sig .tc := ⟨.hbm, 242, rfl⟩
abbrev main_cst_33 : Ref sig .tc := ⟨.hbm, 243, rfl⟩
abbrev main_v129 : Ref sig .tc := ⟨.hbm, 244, rfl⟩
abbrev main_v130 : Ref sig .tc := ⟨.hbm, 245, rfl⟩
abbrev main_cst_34 : Ref sig .tc := ⟨.hbm, 246, rfl⟩
abbrev main_v131 : Ref sig .tc := ⟨.hbm, 247, rfl⟩
abbrev main_v132 : Ref sig .tc := ⟨.hbm, 248, rfl⟩
abbrev main_v133 : Ref sig .tc := ⟨.hbm, 249, rfl⟩
abbrev main_v134 : Ref sig .tc := ⟨.hbm, 250, rfl⟩
abbrev main_v135 : Ref sig .tc := ⟨.hbm, 251, rfl⟩
abbrev main_v136 : Ref sig .tc := ⟨.hbm, 252, rfl⟩
abbrev main_v137 : Ref sig .tc := ⟨.hbm, 253, rfl⟩
abbrev main_cst_35 : Ref sig .tc := ⟨.hbm, 254, rfl⟩
abbrev main_v138 : Ref sig .tc := ⟨.hbm, 255, rfl⟩
abbrev main_v139 : Ref sig .tc := ⟨.hbm, 256, rfl⟩
abbrev main_v140 : Ref sig .tc := ⟨.hbm, 257, rfl⟩
abbrev main_v141 : Ref sig .tc := ⟨.hbm, 258, rfl⟩
abbrev main_v142 : Ref sig .tc := ⟨.hbm, 259, rfl⟩
abbrev main_call6_v0 : Ref sig .tc := ⟨.hbm, 260, rfl⟩
abbrev main_call6_cst : Ref sig .tc := ⟨.hbm, 261, rfl⟩
abbrev main_call6_c : Ref sig .tc := ⟨.hbm, 262, rfl⟩
abbrev main_call6_v1_0 : Ref sig .tc := ⟨.hbm, 263, rfl⟩
abbrev main_v143 : Ref sig .tc := ⟨.hbm, 264, rfl⟩
abbrev main_v144 : Ref sig .tc := ⟨.hbm, 265, rfl⟩
abbrev main_call7_c : Ref sig .tc := ⟨.hbm, 266, rfl⟩
abbrev main_call7_v0 : Ref sig .tc := ⟨.hbm, 267, rfl⟩
abbrev main_call7_v1 : Ref sig .tc := ⟨.hbm, 268, rfl⟩
abbrev main_call7_c_0 : Ref sig .tc := ⟨.hbm, 269, rfl⟩
abbrev main_call7_v2 : Ref sig .tc := ⟨.hbm, 270, rfl⟩
abbrev main_call7_v3 : Ref sig .tc := ⟨.hbm, 271, rfl⟩
abbrev main_call7_v4 : Ref sig .tc := ⟨.hbm, 272, rfl⟩
abbrev main_call7_v5 : Ref sig .tc := ⟨.hbm, 273, rfl⟩
abbrev main_call7_c_1 : Ref sig .tc := ⟨.hbm, 274, rfl⟩
abbrev main_call7_c_2 : Ref sig .tc := ⟨.hbm, 275, rfl⟩
abbrev main_call7_v6 : Ref sig .tc := ⟨.hbm, 276, rfl⟩
abbrev main_call7_v7 : Ref sig .tc := ⟨.hbm, 277, rfl⟩
abbrev main_call7_v8 : Ref sig .tc := ⟨.hbm, 278, rfl⟩
abbrev main_call7_v9 : Ref sig .tc := ⟨.hbm, 279, rfl⟩
abbrev main_call7_v10 : Ref sig .tc := ⟨.hbm, 280, rfl⟩
abbrev main_call7_v11 : Ref sig .tc := ⟨.hbm, 281, rfl⟩
abbrev main_call7_c_3 : Ref sig .tc := ⟨.hbm, 282, rfl⟩
abbrev main_call7_v12 : Ref sig .tc := ⟨.hbm, 283, rfl⟩
abbrev main_call7_v13 : Ref sig .tc := ⟨.hbm, 284, rfl⟩
abbrev main_call7_v14 : Ref sig .tc := ⟨.hbm, 285, rfl⟩
abbrev main_call7_cst : Ref sig .tc := ⟨.hbm, 286, rfl⟩
abbrev main_call7_v15 : Ref sig .tc := ⟨.hbm, 287, rfl⟩
abbrev main_v145 : Ref sig .tc := ⟨.hbm, 288, rfl⟩
abbrev main_v146 : Ref sig .tc := ⟨.hbm, 289, rfl⟩
abbrev main_v147 : Ref sig .tc := ⟨.hbm, 290, rfl⟩
abbrev main_v148 : Ref sig .tc := ⟨.hbm, 291, rfl⟩
abbrev main_cst_36 : Ref sig .tc := ⟨.hbm, 292, rfl⟩
abbrev main_v149 : Ref sig .tc := ⟨.hbm, 293, rfl⟩
abbrev main_cst_37 : Ref sig .tc := ⟨.hbm, 294, rfl⟩
abbrev main_v150 : Ref sig .tc := ⟨.hbm, 295, rfl⟩
abbrev main_v151 : Ref sig .tc := ⟨.hbm, 296, rfl⟩
abbrev main_v152 : Ref sig .tc := ⟨.hbm, 297, rfl⟩
abbrev main_v153 : Ref sig .tc := ⟨.hbm, 298, rfl⟩
abbrev main_cst_38 : Ref sig .tc := ⟨.hbm, 299, rfl⟩
abbrev main_v154 : Ref sig .tc := ⟨.hbm, 300, rfl⟩
abbrev main_cst_39 : Ref sig .tc := ⟨.hbm, 301, rfl⟩
abbrev main_v155 : Ref sig .tc := ⟨.hbm, 302, rfl⟩
abbrev main_v156 : Ref sig .tc := ⟨.hbm, 303, rfl⟩
abbrev main_v157 : Ref sig .tc := ⟨.hbm, 304, rfl⟩
abbrev main_v158 : Ref sig .tc := ⟨.hbm, 305, rfl⟩
abbrev main_v159 : Ref sig .tc := ⟨.hbm, 306, rfl⟩
abbrev main_v160 : Ref sig .tc := ⟨.hbm, 307, rfl⟩
abbrev main_cst_40 : Ref sig .tc := ⟨.hbm, 308, rfl⟩
abbrev main_v161 : Ref sig .tc := ⟨.hbm, 309, rfl⟩
abbrev main_cst_41 : Ref sig .tc := ⟨.hbm, 310, rfl⟩
abbrev main_v162 : Ref sig .tc := ⟨.hbm, 311, rfl⟩
abbrev main_cst_42 : Ref sig .tc := ⟨.hbm, 312, rfl⟩
abbrev main_v163 : Ref sig .tc := ⟨.hbm, 313, rfl⟩
abbrev main_cst_43 : Ref sig .tc := ⟨.hbm, 314, rfl⟩
abbrev main_v164 : Ref sig .tc := ⟨.hbm, 315, rfl⟩
abbrev main_v165 : Ref sig .tc := ⟨.hbm, 316, rfl⟩
abbrev main_v166 : Ref sig .tc := ⟨.hbm, 317, rfl⟩
abbrev main_v167 : Ref sig .tc := ⟨.hbm, 318, rfl⟩
abbrev main_v168 : Ref sig .tc := ⟨.hbm, 319, rfl⟩
abbrev main_v169 : Ref sig .tc := ⟨.hbm, 320, rfl⟩
abbrev main_cst_44 : Ref sig .tc := ⟨.hbm, 321, rfl⟩
abbrev main_v170 : Ref sig .tc := ⟨.hbm, 322, rfl⟩
abbrev main_v171 : Ref sig .tc := ⟨.hbm, 323, rfl⟩
abbrev main_cst_45 : Ref sig .tc := ⟨.hbm, 324, rfl⟩
abbrev main_v172 : Ref sig .tc := ⟨.hbm, 325, rfl⟩
abbrev main_v173 : Ref sig .tc := ⟨.hbm, 326, rfl⟩
abbrev main_v174 : Ref sig .tc := ⟨.hbm, 327, rfl⟩
abbrev main_v175 : Ref sig .tc := ⟨.hbm, 328, rfl⟩
abbrev main_v176 : Ref sig .tc := ⟨.hbm, 329, rfl⟩
abbrev main_v177 : Ref sig .tc := ⟨.hbm, 330, rfl⟩
abbrev main_v178 : Ref sig .tc := ⟨.hbm, 331, rfl⟩
abbrev main_cst_46 : Ref sig .tc := ⟨.hbm, 332, rfl⟩
abbrev main_v179 : Ref sig .tc := ⟨.hbm, 333, rfl⟩
abbrev main_v180 : Ref sig .tc := ⟨.hbm, 334, rfl⟩
abbrev main_v181 : Ref sig .tc := ⟨.hbm, 335, rfl⟩
abbrev main_v182 : Ref sig .tc := ⟨.hbm, 336, rfl⟩
abbrev main_v183 : Ref sig .tc := ⟨.hbm, 337, rfl⟩
abbrev main_call8_v0 : Ref sig .tc := ⟨.hbm, 338, rfl⟩
abbrev main_call8_cst : Ref sig .tc := ⟨.hbm, 339, rfl⟩
abbrev main_call8_c : Ref sig .tc := ⟨.hbm, 340, rfl⟩
abbrev main_call8_v1_0 : Ref sig .tc := ⟨.hbm, 341, rfl⟩
abbrev main_v184 : Ref sig .tc := ⟨.hbm, 342, rfl⟩
abbrev main_v185 : Ref sig .tc := ⟨.hbm, 343, rfl⟩
abbrev main_call9_c : Ref sig .tc := ⟨.hbm, 344, rfl⟩
abbrev main_call9_v0 : Ref sig .tc := ⟨.hbm, 345, rfl⟩
abbrev main_call9_v1 : Ref sig .tc := ⟨.hbm, 346, rfl⟩
abbrev main_call9_c_0 : Ref sig .tc := ⟨.hbm, 347, rfl⟩
abbrev main_call9_v2 : Ref sig .tc := ⟨.hbm, 348, rfl⟩
abbrev main_call9_v3 : Ref sig .tc := ⟨.hbm, 349, rfl⟩
abbrev main_call9_v4 : Ref sig .tc := ⟨.hbm, 350, rfl⟩
abbrev main_call9_v5 : Ref sig .tc := ⟨.hbm, 351, rfl⟩
abbrev main_call9_c_1 : Ref sig .tc := ⟨.hbm, 352, rfl⟩
abbrev main_call9_c_2 : Ref sig .tc := ⟨.hbm, 353, rfl⟩
abbrev main_call9_v6 : Ref sig .tc := ⟨.hbm, 354, rfl⟩
abbrev main_call9_v7 : Ref sig .tc := ⟨.hbm, 355, rfl⟩
abbrev main_call9_v8 : Ref sig .tc := ⟨.hbm, 356, rfl⟩
abbrev main_call9_v9 : Ref sig .tc := ⟨.hbm, 357, rfl⟩
abbrev main_call9_v10 : Ref sig .tc := ⟨.hbm, 358, rfl⟩
abbrev main_call9_v11 : Ref sig .tc := ⟨.hbm, 359, rfl⟩
abbrev main_call9_c_3 : Ref sig .tc := ⟨.hbm, 360, rfl⟩
abbrev main_call9_v12 : Ref sig .tc := ⟨.hbm, 361, rfl⟩
abbrev main_call9_v13 : Ref sig .tc := ⟨.hbm, 362, rfl⟩
abbrev main_call9_v14 : Ref sig .tc := ⟨.hbm, 363, rfl⟩
abbrev main_call9_cst : Ref sig .tc := ⟨.hbm, 364, rfl⟩
abbrev main_call9_v15 : Ref sig .tc := ⟨.hbm, 365, rfl⟩
abbrev main_v186 : Ref sig .tc := ⟨.hbm, 366, rfl⟩
abbrev main_v187 : Ref sig .tc := ⟨.hbm, 367, rfl⟩
abbrev main_v188 : Ref sig .tc := ⟨.hbm, 368, rfl⟩
abbrev main_v189 : Ref sig .tc := ⟨.hbm, 369, rfl⟩
abbrev main_cst_47 : Ref sig .tc := ⟨.hbm, 370, rfl⟩
abbrev main_v190 : Ref sig .tc := ⟨.hbm, 371, rfl⟩
abbrev main_cst_48 : Ref sig .tc := ⟨.hbm, 372, rfl⟩
abbrev main_v191 : Ref sig .tc := ⟨.hbm, 373, rfl⟩
abbrev main_v192 : Ref sig .tc := ⟨.hbm, 374, rfl⟩
abbrev main_v193 : Ref sig .tc := ⟨.hbm, 375, rfl⟩
abbrev main_v194 : Ref sig .tc := ⟨.hbm, 376, rfl⟩
abbrev main_cst_49 : Ref sig .tc := ⟨.hbm, 377, rfl⟩
abbrev main_v195 : Ref sig .tc := ⟨.hbm, 378, rfl⟩
abbrev main_cst_50 : Ref sig .tc := ⟨.hbm, 379, rfl⟩
abbrev main_v196 : Ref sig .tc := ⟨.hbm, 380, rfl⟩
abbrev main_v197 : Ref sig .tc := ⟨.hbm, 381, rfl⟩
abbrev main_v198 : Ref sig .tc := ⟨.hbm, 382, rfl⟩
abbrev main_v199 : Ref sig .tc := ⟨.hbm, 383, rfl⟩
abbrev main_v200 : Ref sig .tc := ⟨.hbm, 384, rfl⟩
abbrev main_v201 : Ref sig .tc := ⟨.hbm, 385, rfl⟩
abbrev main_cst_51 : Ref sig .tc := ⟨.hbm, 386, rfl⟩
abbrev main_v202 : Ref sig .tc := ⟨.hbm, 387, rfl⟩
abbrev main_cst_52 : Ref sig .tc := ⟨.hbm, 388, rfl⟩
abbrev main_v203 : Ref sig .tc := ⟨.hbm, 389, rfl⟩
abbrev main_cst_53 : Ref sig .tc := ⟨.hbm, 390, rfl⟩
abbrev main_v204 : Ref sig .tc := ⟨.hbm, 391, rfl⟩
abbrev main_cst_54 : Ref sig .tc := ⟨.hbm, 392, rfl⟩
abbrev main_v205 : Ref sig .tc := ⟨.hbm, 393, rfl⟩
abbrev main_v206 : Ref sig .tc := ⟨.hbm, 394, rfl⟩
abbrev main_v207 : Ref sig .tc := ⟨.hbm, 395, rfl⟩
abbrev main_v208 : Ref sig .tc := ⟨.hbm, 396, rfl⟩
abbrev main_v209 : Ref sig .tc := ⟨.hbm, 397, rfl⟩
abbrev main_v210 : Ref sig .tc := ⟨.hbm, 398, rfl⟩
abbrev main_cst_55 : Ref sig .tc := ⟨.hbm, 399, rfl⟩
abbrev main_v211 : Ref sig .tc := ⟨.hbm, 400, rfl⟩
abbrev main_v212 : Ref sig .tc := ⟨.hbm, 401, rfl⟩
abbrev main_cst_56 : Ref sig .tc := ⟨.hbm, 402, rfl⟩
abbrev main_v213 : Ref sig .tc := ⟨.hbm, 403, rfl⟩
abbrev main_v214 : Ref sig .tc := ⟨.hbm, 404, rfl⟩
abbrev main_v215 : Ref sig .tc := ⟨.hbm, 405, rfl⟩
abbrev main_v216 : Ref sig .tc := ⟨.hbm, 406, rfl⟩
abbrev main_v217 : Ref sig .tc := ⟨.hbm, 407, rfl⟩
abbrev main_v218 : Ref sig .tc := ⟨.hbm, 408, rfl⟩
abbrev main_v219 : Ref sig .tc := ⟨.hbm, 409, rfl⟩
abbrev main_cst_57 : Ref sig .tc := ⟨.hbm, 410, rfl⟩
abbrev main_v220 : Ref sig .tc := ⟨.hbm, 411, rfl⟩
abbrev main_v221 : Ref sig .tc := ⟨.hbm, 412, rfl⟩
abbrev main_v222 : Ref sig .tc := ⟨.hbm, 413, rfl⟩
abbrev main_v223 : Ref sig .tc := ⟨.hbm, 414, rfl⟩
abbrev main_v224 : Ref sig .tc := ⟨.hbm, 415, rfl⟩
abbrev main_call10_v0 : Ref sig .tc := ⟨.hbm, 416, rfl⟩
abbrev main_call10_cst : Ref sig .tc := ⟨.hbm, 417, rfl⟩
abbrev main_call10_c : Ref sig .tc := ⟨.hbm, 418, rfl⟩
abbrev main_call10_v1_0 : Ref sig .tc := ⟨.hbm, 419, rfl⟩
abbrev main_v225 : Ref sig .tc := ⟨.hbm, 420, rfl⟩
abbrev main_v226 : Ref sig .tc := ⟨.hbm, 421, rfl⟩
abbrev main_call11_c : Ref sig .tc := ⟨.hbm, 422, rfl⟩
abbrev main_call11_v0 : Ref sig .tc := ⟨.hbm, 423, rfl⟩
abbrev main_call11_v1 : Ref sig .tc := ⟨.hbm, 424, rfl⟩
abbrev main_call11_c_0 : Ref sig .tc := ⟨.hbm, 425, rfl⟩
abbrev main_call11_v2 : Ref sig .tc := ⟨.hbm, 426, rfl⟩
abbrev main_call11_v3 : Ref sig .tc := ⟨.hbm, 427, rfl⟩
abbrev main_call11_v4 : Ref sig .tc := ⟨.hbm, 428, rfl⟩
abbrev main_call11_v5 : Ref sig .tc := ⟨.hbm, 429, rfl⟩
abbrev main_call11_c_1 : Ref sig .tc := ⟨.hbm, 430, rfl⟩
abbrev main_call11_c_2 : Ref sig .tc := ⟨.hbm, 431, rfl⟩
abbrev main_call11_v6 : Ref sig .tc := ⟨.hbm, 432, rfl⟩
abbrev main_call11_v7 : Ref sig .tc := ⟨.hbm, 433, rfl⟩
abbrev main_call11_v8 : Ref sig .tc := ⟨.hbm, 434, rfl⟩
abbrev main_call11_v9 : Ref sig .tc := ⟨.hbm, 435, rfl⟩
abbrev main_call11_v10 : Ref sig .tc := ⟨.hbm, 436, rfl⟩
abbrev main_call11_v11 : Ref sig .tc := ⟨.hbm, 437, rfl⟩
abbrev main_call11_c_3 : Ref sig .tc := ⟨.hbm, 438, rfl⟩
abbrev main_call11_v12 : Ref sig .tc := ⟨.hbm, 439, rfl⟩
abbrev main_call11_v13 : Ref sig .tc := ⟨.hbm, 440, rfl⟩
abbrev main_call11_v14 : Ref sig .tc := ⟨.hbm, 441, rfl⟩
abbrev main_call11_cst : Ref sig .tc := ⟨.hbm, 442, rfl⟩
abbrev main_call11_v15 : Ref sig .tc := ⟨.hbm, 443, rfl⟩
abbrev main_v227 : Ref sig .tc := ⟨.hbm, 444, rfl⟩
abbrev main_v228 : Ref sig .tc := ⟨.hbm, 445, rfl⟩
abbrev main_v229 : Ref sig .tc := ⟨.hbm, 446, rfl⟩
abbrev main_v230 : Ref sig .tc := ⟨.hbm, 447, rfl⟩
abbrev main_cst_58 : Ref sig .tc := ⟨.hbm, 448, rfl⟩
abbrev main_v231 : Ref sig .tc := ⟨.hbm, 449, rfl⟩
abbrev main_cst_59 : Ref sig .tc := ⟨.hbm, 450, rfl⟩
abbrev main_v232 : Ref sig .tc := ⟨.hbm, 451, rfl⟩
abbrev main_v233 : Ref sig .tc := ⟨.hbm, 452, rfl⟩
abbrev main_v234 : Ref sig .tc := ⟨.hbm, 453, rfl⟩
abbrev main_v235 : Ref sig .tc := ⟨.hbm, 454, rfl⟩
abbrev main_cst_60 : Ref sig .tc := ⟨.hbm, 455, rfl⟩
abbrev main_v236 : Ref sig .tc := ⟨.hbm, 456, rfl⟩
abbrev main_cst_61 : Ref sig .tc := ⟨.hbm, 457, rfl⟩
abbrev main_v237 : Ref sig .tc := ⟨.hbm, 458, rfl⟩
abbrev main_v238 : Ref sig .tc := ⟨.hbm, 459, rfl⟩
abbrev main_v239 : Ref sig .tc := ⟨.hbm, 460, rfl⟩
abbrev main_v240 : Ref sig .tc := ⟨.hbm, 461, rfl⟩
abbrev main_v241 : Ref sig .tc := ⟨.hbm, 462, rfl⟩
abbrev main_v242 : Ref sig .tc := ⟨.hbm, 463, rfl⟩
abbrev main_cst_62 : Ref sig .tc := ⟨.hbm, 464, rfl⟩
abbrev main_v243 : Ref sig .tc := ⟨.hbm, 465, rfl⟩
abbrev main_cst_63 : Ref sig .tc := ⟨.hbm, 466, rfl⟩
abbrev main_v244 : Ref sig .tc := ⟨.hbm, 467, rfl⟩
abbrev main_cst_64 : Ref sig .tc := ⟨.hbm, 468, rfl⟩
abbrev main_v245 : Ref sig .tc := ⟨.hbm, 469, rfl⟩
abbrev main_cst_65 : Ref sig .tc := ⟨.hbm, 470, rfl⟩
abbrev main_v246 : Ref sig .tc := ⟨.hbm, 471, rfl⟩
abbrev main_v247 : Ref sig .tc := ⟨.hbm, 472, rfl⟩
abbrev main_v248 : Ref sig .tc := ⟨.hbm, 473, rfl⟩
abbrev main_v249 : Ref sig .tc := ⟨.hbm, 474, rfl⟩
abbrev main_v250 : Ref sig .tc := ⟨.hbm, 475, rfl⟩
abbrev main_v251 : Ref sig .tc := ⟨.hbm, 476, rfl⟩
abbrev main_cst_66 : Ref sig .tc := ⟨.hbm, 477, rfl⟩
abbrev main_v252 : Ref sig .tc := ⟨.hbm, 478, rfl⟩
abbrev main_v253 : Ref sig .tc := ⟨.hbm, 479, rfl⟩
abbrev main_cst_67 : Ref sig .tc := ⟨.hbm, 480, rfl⟩
abbrev main_v254 : Ref sig .tc := ⟨.hbm, 481, rfl⟩
abbrev main_v255 : Ref sig .tc := ⟨.hbm, 482, rfl⟩
abbrev main_v256 : Ref sig .tc := ⟨.hbm, 483, rfl⟩
abbrev main_v257 : Ref sig .tc := ⟨.hbm, 484, rfl⟩
abbrev main_v258 : Ref sig .tc := ⟨.hbm, 485, rfl⟩
abbrev main_v259 : Ref sig .tc := ⟨.hbm, 486, rfl⟩
abbrev main_v260 : Ref sig .tc := ⟨.hbm, 487, rfl⟩
abbrev main_cst_68 : Ref sig .tc := ⟨.hbm, 488, rfl⟩
abbrev main_v261 : Ref sig .tc := ⟨.hbm, 489, rfl⟩
abbrev main_v262 : Ref sig .tc := ⟨.hbm, 490, rfl⟩
abbrev main_v263 : Ref sig .tc := ⟨.hbm, 491, rfl⟩
abbrev main_v264 : Ref sig .tc := ⟨.hbm, 492, rfl⟩
abbrev main_v265 : Ref sig .tc := ⟨.hbm, 493, rfl⟩
abbrev main_call12_v0 : Ref sig .tc := ⟨.hbm, 494, rfl⟩
abbrev main_call12_cst : Ref sig .tc := ⟨.hbm, 495, rfl⟩
abbrev main_call12_c : Ref sig .tc := ⟨.hbm, 496, rfl⟩
abbrev main_call12_v1_0 : Ref sig .tc := ⟨.hbm, 497, rfl⟩
abbrev main_v266 : Ref sig .tc := ⟨.hbm, 498, rfl⟩
abbrev main_v267 : Ref sig .tc := ⟨.hbm, 499, rfl⟩
abbrev main_call13_c : Ref sig .tc := ⟨.hbm, 500, rfl⟩
abbrev main_call13_v0 : Ref sig .tc := ⟨.hbm, 501, rfl⟩
abbrev main_call13_v1 : Ref sig .tc := ⟨.hbm, 502, rfl⟩
abbrev main_call13_c_0 : Ref sig .tc := ⟨.hbm, 503, rfl⟩
abbrev main_call13_v2 : Ref sig .tc := ⟨.hbm, 504, rfl⟩
abbrev main_call13_v3 : Ref sig .tc := ⟨.hbm, 505, rfl⟩
abbrev main_call13_v4 : Ref sig .tc := ⟨.hbm, 506, rfl⟩
abbrev main_call13_v5 : Ref sig .tc := ⟨.hbm, 507, rfl⟩
abbrev main_call13_c_1 : Ref sig .tc := ⟨.hbm, 508, rfl⟩
abbrev main_call13_c_2 : Ref sig .tc := ⟨.hbm, 509, rfl⟩
abbrev main_call13_v6 : Ref sig .tc := ⟨.hbm, 510, rfl⟩
abbrev main_call13_v7 : Ref sig .tc := ⟨.hbm, 511, rfl⟩
abbrev main_call13_v8 : Ref sig .tc := ⟨.hbm, 512, rfl⟩
abbrev main_call13_v9 : Ref sig .tc := ⟨.hbm, 513, rfl⟩
abbrev main_call13_v10 : Ref sig .tc := ⟨.hbm, 514, rfl⟩
abbrev main_call13_v11 : Ref sig .tc := ⟨.hbm, 515, rfl⟩
abbrev main_call13_c_3 : Ref sig .tc := ⟨.hbm, 516, rfl⟩
abbrev main_call13_v12 : Ref sig .tc := ⟨.hbm, 517, rfl⟩
abbrev main_call13_v13 : Ref sig .tc := ⟨.hbm, 518, rfl⟩
abbrev main_call13_v14 : Ref sig .tc := ⟨.hbm, 519, rfl⟩
abbrev main_call13_cst : Ref sig .tc := ⟨.hbm, 520, rfl⟩
abbrev main_call13_v15 : Ref sig .tc := ⟨.hbm, 521, rfl⟩
abbrev main_v268 : Ref sig .tc := ⟨.hbm, 522, rfl⟩
abbrev main_v269 : Ref sig .tc := ⟨.hbm, 523, rfl⟩
abbrev main_v270 : Ref sig .tc := ⟨.hbm, 524, rfl⟩
abbrev main_v271 : Ref sig .tc := ⟨.hbm, 525, rfl⟩
abbrev main_cst_69 : Ref sig .tc := ⟨.hbm, 526, rfl⟩
abbrev main_v272 : Ref sig .tc := ⟨.hbm, 527, rfl⟩
abbrev main_cst_70 : Ref sig .tc := ⟨.hbm, 528, rfl⟩
abbrev main_v273 : Ref sig .tc := ⟨.hbm, 529, rfl⟩
abbrev main_v274 : Ref sig .tc := ⟨.hbm, 530, rfl⟩
abbrev main_v275 : Ref sig .tc := ⟨.hbm, 531, rfl⟩
abbrev main_v276 : Ref sig .tc := ⟨.hbm, 532, rfl⟩
abbrev main_cst_71 : Ref sig .tc := ⟨.hbm, 533, rfl⟩
abbrev main_v277 : Ref sig .tc := ⟨.hbm, 534, rfl⟩
abbrev main_cst_72 : Ref sig .tc := ⟨.hbm, 535, rfl⟩
abbrev main_v278 : Ref sig .tc := ⟨.hbm, 536, rfl⟩
abbrev main_v279 : Ref sig .tc := ⟨.hbm, 537, rfl⟩
abbrev main_v280 : Ref sig .tc := ⟨.hbm, 538, rfl⟩
abbrev main_v281 : Ref sig .tc := ⟨.hbm, 539, rfl⟩
abbrev main_v282 : Ref sig .tc := ⟨.hbm, 540, rfl⟩
abbrev main_v283 : Ref sig .tc := ⟨.hbm, 541, rfl⟩
abbrev main_cst_73 : Ref sig .tc := ⟨.hbm, 542, rfl⟩
abbrev main_v284 : Ref sig .tc := ⟨.hbm, 543, rfl⟩
abbrev main_cst_74 : Ref sig .tc := ⟨.hbm, 544, rfl⟩
abbrev main_v285 : Ref sig .tc := ⟨.hbm, 545, rfl⟩
abbrev main_cst_75 : Ref sig .tc := ⟨.hbm, 546, rfl⟩
abbrev main_v286 : Ref sig .tc := ⟨.hbm, 547, rfl⟩
abbrev main_cst_76 : Ref sig .tc := ⟨.hbm, 548, rfl⟩
abbrev main_v287 : Ref sig .tc := ⟨.hbm, 549, rfl⟩
abbrev main_v288 : Ref sig .tc := ⟨.hbm, 550, rfl⟩
abbrev main_v289 : Ref sig .tc := ⟨.hbm, 551, rfl⟩
abbrev main_v290 : Ref sig .tc := ⟨.hbm, 552, rfl⟩
abbrev main_v291 : Ref sig .tc := ⟨.hbm, 553, rfl⟩
abbrev main_v292 : Ref sig .tc := ⟨.hbm, 554, rfl⟩
abbrev main_cst_77 : Ref sig .tc := ⟨.hbm, 555, rfl⟩
abbrev main_v293 : Ref sig .tc := ⟨.hbm, 556, rfl⟩
abbrev main_v294 : Ref sig .tc := ⟨.hbm, 557, rfl⟩
abbrev main_cst_78 : Ref sig .tc := ⟨.hbm, 558, rfl⟩
abbrev main_v295 : Ref sig .tc := ⟨.hbm, 559, rfl⟩
abbrev main_v296 : Ref sig .tc := ⟨.hbm, 560, rfl⟩
abbrev main_v297 : Ref sig .tc := ⟨.hbm, 561, rfl⟩
abbrev main_v298 : Ref sig .tc := ⟨.hbm, 562, rfl⟩
abbrev main_v299 : Ref sig .tc := ⟨.hbm, 563, rfl⟩
abbrev main_v300 : Ref sig .tc := ⟨.hbm, 564, rfl⟩
abbrev main_v301 : Ref sig .tc := ⟨.hbm, 565, rfl⟩
abbrev main_cst_79 : Ref sig .tc := ⟨.hbm, 566, rfl⟩
abbrev main_v302 : Ref sig .tc := ⟨.hbm, 567, rfl⟩
abbrev main_v303 : Ref sig .tc := ⟨.hbm, 568, rfl⟩
abbrev main_v304 : Ref sig .tc := ⟨.hbm, 569, rfl⟩
abbrev main_v305 : Ref sig .tc := ⟨.hbm, 570, rfl⟩
abbrev main_v306 : Ref sig .tc := ⟨.hbm, 571, rfl⟩
abbrev main_call14_v0 : Ref sig .tc := ⟨.hbm, 572, rfl⟩
abbrev main_call14_cst : Ref sig .tc := ⟨.hbm, 573, rfl⟩
abbrev main_call14_c : Ref sig .tc := ⟨.hbm, 574, rfl⟩
abbrev main_call14_v1_0 : Ref sig .tc := ⟨.hbm, 575, rfl⟩
abbrev main_v307 : Ref sig .tc := ⟨.hbm, 576, rfl⟩
abbrev main_v308 : Ref sig .tc := ⟨.hbm, 577, rfl⟩
abbrev main_call15_c : Ref sig .tc := ⟨.hbm, 578, rfl⟩
abbrev main_call15_v0 : Ref sig .tc := ⟨.hbm, 579, rfl⟩
abbrev main_call15_v1 : Ref sig .tc := ⟨.hbm, 580, rfl⟩
abbrev main_call15_c_0 : Ref sig .tc := ⟨.hbm, 581, rfl⟩
abbrev main_call15_v2 : Ref sig .tc := ⟨.hbm, 582, rfl⟩
abbrev main_call15_v3 : Ref sig .tc := ⟨.hbm, 583, rfl⟩
abbrev main_call15_v4 : Ref sig .tc := ⟨.hbm, 584, rfl⟩
abbrev main_call15_v5 : Ref sig .tc := ⟨.hbm, 585, rfl⟩
abbrev main_call15_c_1 : Ref sig .tc := ⟨.hbm, 586, rfl⟩
abbrev main_call15_c_2 : Ref sig .tc := ⟨.hbm, 587, rfl⟩
abbrev main_call15_v6 : Ref sig .tc := ⟨.hbm, 588, rfl⟩
abbrev main_call15_v7 : Ref sig .tc := ⟨.hbm, 589, rfl⟩
abbrev main_call15_v8 : Ref sig .tc := ⟨.hbm, 590, rfl⟩
abbrev main_call15_v9 : Ref sig .tc := ⟨.hbm, 591, rfl⟩
abbrev main_call15_v10 : Ref sig .tc := ⟨.hbm, 592, rfl⟩
abbrev main_call15_v11 : Ref sig .tc := ⟨.hbm, 593, rfl⟩
abbrev main_call15_c_3 : Ref sig .tc := ⟨.hbm, 594, rfl⟩
abbrev main_call15_v12 : Ref sig .tc := ⟨.hbm, 595, rfl⟩
abbrev main_call15_v13 : Ref sig .tc := ⟨.hbm, 596, rfl⟩
abbrev main_call15_v14 : Ref sig .tc := ⟨.hbm, 597, rfl⟩
abbrev main_call15_cst : Ref sig .tc := ⟨.hbm, 598, rfl⟩
abbrev main_call15_v15 : Ref sig .tc := ⟨.hbm, 599, rfl⟩
abbrev main_v309 : Ref sig .tc := ⟨.hbm, 600, rfl⟩
abbrev main_v310 : Ref sig .tc := ⟨.hbm, 601, rfl⟩
abbrev main_v311 : Ref sig .tc := ⟨.hbm, 602, rfl⟩
abbrev main_v312 : Ref sig .tc := ⟨.hbm, 603, rfl⟩
abbrev main_cst_80 : Ref sig .tc := ⟨.hbm, 604, rfl⟩
abbrev main_v313 : Ref sig .tc := ⟨.hbm, 605, rfl⟩
abbrev main_cst_81 : Ref sig .tc := ⟨.hbm, 606, rfl⟩
abbrev main_v314 : Ref sig .tc := ⟨.hbm, 607, rfl⟩
abbrev main_v315 : Ref sig .tc := ⟨.hbm, 608, rfl⟩
abbrev main_v316 : Ref sig .tc := ⟨.hbm, 609, rfl⟩
abbrev main_v317 : Ref sig .tc := ⟨.hbm, 610, rfl⟩
abbrev main_cst_82 : Ref sig .tc := ⟨.hbm, 611, rfl⟩
abbrev main_v318 : Ref sig .tc := ⟨.hbm, 612, rfl⟩
abbrev main_cst_83 : Ref sig .tc := ⟨.hbm, 613, rfl⟩
abbrev main_v319 : Ref sig .tc := ⟨.hbm, 614, rfl⟩
abbrev main_v320 : Ref sig .tc := ⟨.hbm, 615, rfl⟩
abbrev main_v321 : Ref sig .tc := ⟨.hbm, 616, rfl⟩
abbrev main_v322 : Ref sig .tc := ⟨.hbm, 617, rfl⟩
abbrev main_v323 : Ref sig .tc := ⟨.hbm, 618, rfl⟩
abbrev main_v324 : Ref sig .tc := ⟨.hbm, 619, rfl⟩
abbrev main_cst_84 : Ref sig .tc := ⟨.hbm, 620, rfl⟩
abbrev main_v325 : Ref sig .tc := ⟨.hbm, 621, rfl⟩
abbrev main_cst_85 : Ref sig .tc := ⟨.hbm, 622, rfl⟩
abbrev main_v326 : Ref sig .tc := ⟨.hbm, 623, rfl⟩
abbrev main_cst_86 : Ref sig .tc := ⟨.hbm, 624, rfl⟩
abbrev main_v327 : Ref sig .tc := ⟨.hbm, 625, rfl⟩
abbrev main_cst_87 : Ref sig .tc := ⟨.hbm, 626, rfl⟩
abbrev main_v328 : Ref sig .tc := ⟨.hbm, 627, rfl⟩
abbrev main_v329 : Ref sig .tc := ⟨.hbm, 628, rfl⟩
abbrev main_v330 : Ref sig .tc := ⟨.hbm, 629, rfl⟩
abbrev main_v331 : Ref sig .tc := ⟨.hbm, 630, rfl⟩
abbrev main_v332 : Ref sig .tc := ⟨.hbm, 631, rfl⟩
abbrev main_v333 : Ref sig .tc := ⟨.hbm, 632, rfl⟩
abbrev main_v334 : Ref sig .tc := ⟨.hbm, 633, rfl⟩
abbrev main_v335 : Ref sig .tc := ⟨.hbm, 634, rfl⟩
abbrev main_v336 : Ref sig .tc := ⟨.hbm, 635, rfl⟩
abbrev main_v337 : Ref sig .tc := ⟨.hbm, 636, rfl⟩
abbrev main_v338 : Ref sig .tc := ⟨.hbm, 637, rfl⟩
abbrev main_v339 : Ref sig .tc := ⟨.hbm, 638, rfl⟩
abbrev main_v340 : Ref sig .tc := ⟨.hbm, 639, rfl⟩
abbrev main_v341 : Ref sig .tc := ⟨.hbm, 640, rfl⟩
abbrev main_v342 : Ref sig .tc := ⟨.hbm, 641, rfl⟩
abbrev main_v343 : Ref sig .tc := ⟨.hbm, 642, rfl⟩
abbrev main_v344 : Ref sig .tc := ⟨.hbm, 643, rfl⟩
abbrev main_v345 : Ref sig .tc := ⟨.hbm, 644, rfl⟩
abbrev main_v346 : Ref sig .tc := ⟨.hbm, 645, rfl⟩
abbrev main_v347 : Ref sig .tc := ⟨.hbm, 646, rfl⟩
abbrev main_v348 : Ref sig .tc := ⟨.hbm, 647, rfl⟩
abbrev main_v349 : Ref sig .tc := ⟨.hbm, 648, rfl⟩
abbrev main_v350 : Ref sig .tc := ⟨.hbm, 649, rfl⟩
abbrev main_v351 : Ref sig .tc := ⟨.hbm, 650, rfl⟩
abbrev main_v352 : Ref sig .tc := ⟨.hbm, 651, rfl⟩
abbrev main_v353 : Ref sig .tc := ⟨.hbm, 652, rfl⟩
abbrev main_v354 : Ref sig .tc := ⟨.hbm, 653, rfl⟩
abbrev main_v355 : Ref sig .tc := ⟨.hbm, 654, rfl⟩
abbrev main_v356 : Ref sig .tc := ⟨.hbm, 655, rfl⟩
abbrev main_v357 : Ref sig .tc := ⟨.hbm, 656, rfl⟩
abbrev main_v358 : Ref sig .tc := ⟨.hbm, 657, rfl⟩
abbrev main_v359 : Ref sig .tc := ⟨.hbm, 658, rfl⟩
abbrev main_v360 : Ref sig .tc := ⟨.hbm, 659, rfl⟩
abbrev main_v361 : Ref sig .tc := ⟨.hbm, 660, rfl⟩
abbrev main_v362 : Ref sig .tc := ⟨.hbm, 661, rfl⟩
abbrev main_v363 : Ref sig .tc := ⟨.hbm, 662, rfl⟩
abbrev main_v364 : Ref sig .tc := ⟨.hbm, 663, rfl⟩

abbrev nD : Nat := 1
abbrev τ : Topo := Topo.v7x

variable {F : FTy → Type} [FloatOps F]
-- ==== Proof.KernelBody.lean ====
/- One grid point's body of the kernel over any floats: it runs, and leaves its input blocks as they were. What it leaves in the
   result blocks is not said here. -/
module

public import proofs.«01_k».proof.Proof.Gen.Kernel.Skeleton
public import proofs.«01_k».proof.Proof.Gen.Kernel.Loops
public import proofs.«01_k».proof.Proof.Gen.Kernel.Frame

@[expose] public section

set_option maxRecDepth 16384

noncomputable section

namespace Cert.Kernel.Rvq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

/-- The kernel's own test for the first grid point. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

set_option maxHeartbeats 2000000 in
/-- The body runs at every grid point, whether or not it clears the loss block there, and hands every buffer back: the
    input blocks unchanged, the others at some contents. -/
theorem body_runs (c : Dev nD) (i : grid0.Coords) (arg2 : Memref sig .tc .vmem S1x256x1024 .f32) (harg2 : arg2.IsWhole) (arg3 : Memref sig .tc .vmem S8x1024x256 .f32) (harg3 : arg3.IsWhole) (arg4 : Memref sig .tc .vmem S8x1024 .f32) (harg4 : arg4.IsWhole) (arg5 : Memref sig .tc .vmem S8x1024x256 .bf16) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S1x256x1024 .f32) (harg8 : arg8.IsWhole) (arg9 : Memref sig .tc .vmem S1x8x1024 .i32) (harg9 : arg9.IsWhole) (arg10 : Memref sig .tc .vmem S8x256 .f32) (harg10 : arg10.IsWhole) (arg11 : Memref sig .tc .vmem S8x1x256x1024 .f32) (harg11 : arg11.IsWhole) (arg12 : Memref sig .tc .vmem S1024x256 .f32) (harg12 : arg12.IsWhole) (arg13 : Memref sig .tc .vmem S1024x256 .f32) (harg13 : arg13.IsWhole)
    (x2 : Vec F S1x256x1024 .f32) (x3 : Vec F S8x1024x256 .f32) (x4 : Vec F S8x1024 .f32) (x5 : Vec F S8x1024x256 .bf16) (x6 : Vec F S8x1024x256 .bf16) (x7 : Vec F S8x1024x256 .bf16) (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
      ⊢ wp frame (wpE (defs₀ (F := F)) Variants.none c none) E (cc0__rvq_kernel i arg2 harg2 arg3 harg3 arg4 harg4 arg5 harg5 arg6 harg6 arg7 harg7 arg8 harg8 arg9 harg9 arg10 harg10 arg11 harg11 arg12 harg12 arg13 harg13) K := by
  simp only [cc0__rvq_kernel_eq_skeleton]; unfold cc0__rvq_kernel_skel
  unfold owns
  iintro ⟨⟨%f2, %e2, H2⟩, ⟨%f3, %e3, H3⟩, ⟨%f4, %e4, H4⟩, ⟨%f5, %e5, H5⟩, ⟨%f6, %e6, H6⟩, ⟨%f7, %e7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
  obtain rfl := harg2.eq_unread e2; obtain rfl := harg3.eq_unread e3; obtain rfl := harg4.eq_unread e4; obtain rfl := harg5.eq_unread e5; obtain rfl := harg6.eq_unread e6; obtain rfl := harg7.eq_unread e7
  by_cases hc0 : atStart i
  all_goals
    sl_exec (disch := first | sl_exact hc0)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexists _, _; isplitr; swap; · iexact H13
    ipureintro; rfl

end Cert.Kernel.Rvq

end
-- ==== Proof.KernelFrame.lean ====
/- The kernel over any floats: it terminates without fault, leaves its arguments unchanged and every semaphore counter at
   zero. Nothing is said of the four result arrays, nor of what the host computes from them afterwards. -/
module

public import proofs.«01_k».proof.Proof.KernelBody
public import Idealize.ShloMosaic.Lib.Claim

@[expose] public section

set_option maxRecDepth 16384

noncomputable section

namespace Cert.Kernel.Rvq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The result windows, of whose contents nothing is said. -/
def unsaid : Fin 10 → Bool := fun w => decide (6 ≤ w.val)

/-- The pipeline's data: every input block is left in place, the result blocks are not named. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
    | ⟨7, h⟩ => Dat.unnamed (cfg := cfg0) ⟨7, h⟩ t
    | ⟨8, h⟩ => Dat.unnamed (cfg := cfg0) ⟨8, h⟩ t
    | ⟨9, h⟩ => Dat.unnamed (cfg := cfg0) ⟨9, h⟩ t
  Φ _ := Pipeline.ΦA spec0 c
  q _ := fullShare
  owed _ := 0

/-- The arrays are those that the region finds. -/
theorem dats_A (c : Dev nD) (w : Fin cfg0.W) : (dats m 0 c).A w = V m c (Pipeline.arrRef spec0 w) := by
  dsimp only [dats]

/-- The body leaves input window 0 as it was. -/
theorem after_0 (c : Dev nD) (t : Fin cfg0.N) : (dats m 0 c).after 0 t = iblk m c 0 t := by dsimp only [dats]
/-- The body leaves input window 1 as it was. -/
theorem after_1 (c : Dev nD) (t : Fin cfg0.N) : (dats m 0 c).after 1 t = iblk m c 1 t := by dsimp only [dats]
/-- The body leaves input window 2 as it was. -/
theorem after_2 (c : Dev nD) (t : Fin cfg0.N) : (dats m 0 c).after 2 t = iblk m c 2 t := by dsimp only [dats]
/-- The body leaves input window 3 as it was. -/
theorem after_3 (c : Dev nD) (t : Fin cfg0.N) : (dats m 0 c).after 3 t = iblk m c 3 t := by dsimp only [dats]
/-- The body leaves input window 4 as it was. -/
theorem after_4 (c : Dev nD) (t : Fin cfg0.N) : (dats m 0 c).after 4 t = iblk m c 4 t := by dsimp only [dats]
/-- The body leaves input window 5 as it was. -/
theorem after_5 (c : Dev nD) (t : Fin cfg0.N) : (dats m 0 c).after 5 t = iblk m c 5 t := by dsimp only [dats]

/-- The body finds in input window 0 the block of its array at the grid point. -/
theorem before_0 (c : Dev nD) (t : Fin cfg0.N) (d) : (dats m 0 c).before 0 t d = iblk m c 0 t :=
  before0_0_of m (dats m 0 c) (dats_A m c 0) (after_0 m c) t d
/-- The body finds in input window 1 the block of its array at the grid point. -/
theorem before_1 (c : Dev nD) (t : Fin cfg0.N) (d) : (dats m 0 c).before 1 t d = iblk m c 1 t :=
  before0_1_of m (dats m 0 c) (dats_A m c 1) (after_1 m c) t d
/-- The body finds in input window 2 the block of its array at the grid point. -/
theorem before_2 (c : Dev nD) (t : Fin cfg0.N) (d) : (dats m 0 c).before 2 t d = iblk m c 2 t :=
  before0_2_of m (dats m 0 c) (dats_A m c 2) (after_2 m c) t d
/-- The body finds in input window 3 the block of its array at the grid point. -/
theorem before_3 (c : Dev nD) (t : Fin cfg0.N) (d) : (dats m 0 c).before 3 t d = iblk m c 3 t :=
  before0_3_of m (dats m 0 c) (dats_A m c 3) (after_3 m c) t d
/-- The body finds in input window 4 the block of its array at the grid point. -/
theorem before_4 (c : Dev nD) (t : Fin cfg0.N) (d) : (dats m 0 c).before 4 t d = iblk m c 4 t :=
  before0_4_of m (dats m 0 c) (dats_A m c 4) (after_4 m c) t d
/-- The body finds in input window 5 the block of its array at the grid point. -/
theorem before_5 (c : Dev nD) (t : Fin cfg0.N) (d) : (dats m 0 c).before 5 t d = iblk m c 5 t :=
  before0_5_of m (dats m 0 c) (dats_A m c 5) (after_5 m c) t d

/-- Between points the core holds its two scratch buffers and its generator register, each at some contents. -/
theorem rest_eq (c : Dev nD) :
    (Pipeline.ΦA spec0 c : sProp 𝕄)
      = iprop(iprop((∃ d, owns (c : Thread nD τ) (Memref.whole cc0_scratch0 : Memref sig .tc .vmem S1024x256 .f32) fullShare d) ∗ (∃ d, owns (c : Thread nD τ) (Memref.whole cc0_scratch1 : Memref sig .tc .vmem S1024x256 .f32) fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

/-- and what it hands back. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ d, owns (c : Thread nD τ) (st0_6 t) fullShare d)
    ∗ (∃ d, owns (c : Thread nD τ) (st0_7 t) fullShare d)
    ∗ (∃ d, owns (c : Thread nD τ) (st0_8 t) fullShare d)
    ∗ (∃ d, owns (c : Thread nD τ) (st0_9 t) fullShare d))

set_option maxHeartbeats 2400000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5]
  rw [show (dats m 0 c).Φ t.castSucc = Pipeline.ΦA spec0 c from rfl, rest_eq]
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (body_runs c (grid0.coords t) _ _ _ _ _ _ _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  isplitl [H9]; · iexists _; iexact H9
  isplitl [HS0]; · iexact HS0
  isplitl [HS1]; · iexact HS1
  iintro ⟨H0, H1, H2, H3, H4, H5, H6, H7, H8, H9, HS0, HS1⟩
  isplitl [HS0 HS1 Hg]
  · isplitl [HS0 HS1]
    · isplitl [HS0]
      · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The body table's entry at a point is the body at that point's buffers. -/
theorem defs_at (t : Fin cfg0.N) : defs₀ (F := F) .tc cfg0.body (cfg0.bodyArgs t (cfg0.slots t)) = bodyAt0 t := by
  unfold defs₀; rw [Defs.onTc_tc]

/-- The pipeline's obligation on the body. -/
theorem obligation (c : Dev nD) : BodyObligation (dats (F := F) m 0 c) (defs₀ (F := F)) Variants.none () Set.univ unsaid := fun t => by
  rw [bigSep_W0, bigSep_W0, defs_at]
  exact triple_restated (body_at m c t) rfl .rfl fun _ => .rfl

/-- What the host writes after the region. -/
def tail : Finset (Ref sig .tc) := {main_call0_cst_7, main_call0_cst_8, main_call0_v51, main_call0_v52, main_v0_1, main_v0_2}

/-- Each operation after the region writes only buffers of `tail`. -/
theorem tail_writes : ∀ ops ∈ ([hostOps1] : List (List (HloOp τ sig (Elt F)))), ∀ op ∈ ops,
    ∀ b : Ref sig .tc, Proc.devRef .tc b ∈ op.writes → b ∈ tail := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton] at hb; cases Proc.devRef_injective _ hb; decide

-- the theorem's implicit arguments are found by unfolding plain definitions
set_option backward.isDefEq.respectTransparency.types false in
set_option maxHeartbeats 800000 in
/-- The launch. -/
theorem run_quiet : θ_run defs (onTc (τ := τ) (main (F := F))) (s₀ m ρ) (fun r => (Pipeline.RDat.FramePostR (cfgs 0) (fun c => (dats m 0 c).toRForget unsaid) tail (V m)) r ∧ r.2.sem = fun _ => 0) :=
  Pipeline.θ_run_frame_around_T_forget (Q' := _) cfgs (dats m) (0 : Fin 1) launch0 defs₀ Variants.none unsaid tail m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps) (hT := tail_writes)
    (hmain := hmain m Variants.none) (hA := dats_A m) (hΦ := fun _ _ => rfl)

/-- The frame: at every final state the arguments are unchanged and every semaphore counter is zero. -/
theorem frame_holds : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
      ⟨(Pipeline.RDat.FramePostR.arr_in h.1 c 0 rfl).trans ((dats_A m c 0).trans (V_main_arg0 m c)),
        (Pipeline.RDat.FramePostR.arr_in h.1 c 1 rfl).trans ((dats_A m c 1).trans (V_main_arg1 m c))⟩, h.2⟩) (run_quiet m ρ)

end Cert.Kernel.Rvq

end
-- ==== Proof.Sub.lean ====
/- One quantizer step on one half of the block's tokens, as a program of its own. The kernel's loop region is eight of
   them in a row, and what one of them writes is read off its run once. -/
module

public import proofs.«01_k».proof.Proof.Gen.KernelIdeal.Loops
public import Idealize.ShloMosaic.Lib.Pipeline.Kit

@[expose] public section

set_option maxRecDepth 65536

noncomputable section

namespace Cert.KernelIdeal.Rvq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The offsets of one step: the rows of the two scratch buffers, the codebook's slab, its row of squared norms, the row
of the loss block, and the places of the index block and of the block of all quantized vectors. Each lies in bounds. -/
structure Place where
  rows : Fin 2 → ℕ
  rows_ok : ∀ a, rows a + S512x256.size a ≤ S1024x256.size a
  slab : Fin 3 → ℕ
  slab_ok : ∀ a, slab a + S1x1024x256.size a ≤ S8x1024x256.size a
  norms : Fin 2 → ℕ
  norms_ok : ∀ a, norms a + S1x1024.size a ≤ S8x1024.size a
  loss : Fin 2 → ℕ
  loss_ok : ∀ a, loss a + S1x256.size a ≤ S8x256.size a
  word : Fin 3 → ℕ
  word_ok : ∀ a, word a + S1x1x512.size a ≤ S1x8x1024.size a
  vecs : Fin 4 → ℕ
  vecs_ok : ∀ a, vecs a + S1x1x256x512.size a ≤ S8x1x256x1024.size a

/-- Step `r` of trip `k` on the lower half of the tokens. -/
def lower (k : Fin k0_t1_loop.trips) (r : Fin 4) : Place where
  rows := ![0, 0]
  rows_ok := inb_S1024x256_S512x256_0_0
  slab := k0_off1 k (BitVec.ofNat 32 r.val)
  slab_ok := k0_off1_inb k r
  norms := k0_off2 k (BitVec.ofNat 32 r.val)
  norms_ok := k0_off2_inb k r
  loss := k0_off3 k (BitVec.ofNat 32 r.val)
  loss_ok := k0_off3_inb k r
  word := k0_off4 k (BitVec.ofNat 32 r.val)
  word_ok := k0_off4_inb k r
  vecs := k0_off5 k (BitVec.ofNat 32 r.val)
  vecs_ok := k0_off5_inb k r

/-- Step `r` of trip `k` on the upper half of the tokens. -/
def upper (k : Fin k0_t1_loop.trips) (r : Fin 4) : Place where
  rows := ![512, 0]
  rows_ok := inb_S1024x256_S512x256_512_0
  slab := k0_off1 k (BitVec.ofNat 32 r.val)
  slab_ok := k0_off1_inb k r
  norms := k0_off2 k (BitVec.ofNat 32 r.val)
  norms_ok := k0_off2_inb k r
  loss := k0_off3 k (BitVec.ofNat 32 r.val)
  loss_ok := k0_off3_inb k r
  word := k0_off6 k (BitVec.ofNat 32 r.val)
  word_ok := k0_off6_inb k r
  vecs := k0_off7 k (BitVec.ofNat 32 r.val)
  vecs_ok := k0_off7_inb k r

section Step

variable (arg2 : Memref sig .tc .vmem S1x256x1024 .f32) (harg2 : arg2.IsWhole) (arg3 : Memref sig .tc .vmem S8x1024x256 .f32) (harg3 : arg3.IsWhole) (arg4 : Memref sig .tc .vmem S8x1024 .f32) (harg4 : arg4.IsWhole) (arg5 : Memref sig .tc .vmem S8x1024x256 .bf16) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S1x256x1024 .f32) (harg8 : arg8.IsWhole) (arg9 : Memref sig .tc .vmem S1x8x1024 .i32) (harg9 : arg9.IsWhole) (arg10 : Memref sig .tc .vmem S8x256 .f32) (harg10 : arg10.IsWhole) (arg11 : Memref sig .tc .vmem S8x1x256x1024 .f32) (harg11 : arg11.IsWhole) (arg12 : Memref sig .tc .vmem S1024x256 .f32) (harg12 : arg12.IsWhole) (arg13 : Memref sig .tc .vmem S1024x256 .f32) (harg13 : arg13.IsWhole) (v5 : IVec S512x1024 32)

/-- One step: read the residual rows, the codebook, its squared norms and its three pieces; add the quantized vectors to
the accumulator, their squared errors to the loss row, and store the indices, the quantized vectors and the new residual. -/
def sub (P : Place) : Prog (TpuEff nD τ sig (Elt F) Λ₀ .tc) PUnit := do
  let r : Vec F S512x256 .f32 ← Prog.lift (.load arg12 (Rect.unit (s := S1024x256) P.rows S512x256.size P.rows_ok).toLoadRect (View.loadsAt_vmem h_S512x256))
  let cb : Vec F S1x1024x256 .f32 ← Prog.lift (.load arg3 (Rect.unit (s := S8x1024x256) P.slab S1x1024x256.size P.slab_ok).toLoadRect (View.loadsAt_vmem h_S1x1024x256))
  let sq : Vec F S1x1024 .f32 ← Prog.lift (.load arg4 (Rect.unit (s := S8x1024) P.norms S1x1024.size P.norms_ok).toLoadRect (View.loadsAt_vmem h_S1x1024))
  let p1 : Vec F S1x1024x256 .bf16 ← Prog.lift (.load arg5 (Rect.unit (s := S8x1024x256) P.slab S1x1024x256.size P.slab_ok).toLoadRect (View.loadsAt_vmem h_S1x1024x256))
  let p2 : Vec F S1x1024x256 .bf16 ← Prog.lift (.load arg6 (Rect.unit (s := S8x1024x256) P.slab S1x1024x256.size P.slab_ok).toLoadRect (View.loadsAt_vmem h_S1x1024x256))
  let p3 : Vec F S1x1024x256 .bf16 ← Prog.lift (.load arg7 (Rect.unit (s := S8x1024x256) P.slab S1x1024x256.size P.slab_ok).toLoadRect (View.loadsAt_vmem h_S1x1024x256))
  let a : Vec F S512x256 .f32 ← Prog.lift (.load arg13 (Rect.unit (s := S1024x256) P.rows S512x256.size P.rows_ok).toLoadRect (View.loadsAt_vmem h_S512x256))
  let _ : Vec F S512x256 .f32 ← Prog.lift (.load arg13 (Rect.unit (s := S1024x256) P.rows S512x256.size P.rows_ok).toLoadRect (View.loadsAt_vmem h_S512x256))
  Prog.lift (.store arg13 (Rect.unit (s := S1024x256) P.rows S512x256.size P.rows_ok) (k0_pay12 r (k0_pay6 v5 r cb sq) (k0_pay7 p1) (k0_pay8 p2) (k0_pay9 p3) a) Finset.univ (View.stores_vmem_bits_univ h_S512x256 rfl) (.inl rfl))
  let l : Vec F S1x256 .f32 ← Prog.lift (.load arg10 (Rect.unit (s := S8x256) P.loss S1x256.size P.loss_ok).toLoadRect (View.loadsAt_vmem h_S1x256))
  let _ : Vec F S1x256 .f32 ← Prog.lift (.load arg10 (Rect.unit (s := S8x256) P.loss S1x256.size P.loss_ok).toLoadRect (View.loadsAt_vmem h_S1x256))
  Prog.lift (.store arg10 (Rect.unit (s := S8x256) P.loss S1x256.size P.loss_ok) (k0_pay13 r (k0_pay6 v5 r cb sq) (k0_pay7 p1) (k0_pay8 p2) (k0_pay9 p3) l) Finset.univ (View.stores_vmem_bits_univ h_S1x256 rfl) (.inl rfl))
  let _ : Vec F S1x1x512 .i32 ← Prog.lift (.load arg9 (Rect.unit (s := S1x8x1024) P.word S1x1x512.size P.word_ok).toLoadRect (View.loadsAt_vmem h_S1x1x512))
  Prog.lift (.store arg9 (Rect.unit (s := S1x8x1024) P.word S1x1x512.size P.word_ok) (k0_pay14 (k0_pay5 v5 r cb sq)) Finset.univ (View.stores_vmem_bits_univ h_S1x1x512 rfl) (.inl rfl))
  let _ : Vec F S1x1x256x512 .f32 ← Prog.lift (.load arg11 (Rect.unit (s := S8x1x256x1024) P.vecs S1x1x256x512.size P.vecs_ok).toLoadRect (View.loadsAt_vmem h_S1x1x256x512))
  Prog.lift (.store arg11 (Rect.unit (s := S8x1x256x1024) P.vecs S1x1x256x512.size P.vecs_ok) (k0_pay15 r (k0_pay6 v5 r cb sq) (k0_pay7 p1) (k0_pay8 p2) (k0_pay9 p3)) Finset.univ (View.stores_vmem_bits_univ h_S1x1x256x512 rfl) (.inl rfl))
  let _ : Vec F S512x256 .f32 ← Prog.lift (.load arg12 (Rect.unit (s := S1024x256) P.rows S512x256.size P.rows_ok).toLoadRect (View.loadsAt_vmem h_S512x256))
  Prog.lift (.store arg12 (Rect.unit (s := S1024x256) P.rows S512x256.size P.rows_ok) (k0_pay16 r (k0_pay6 v5 r cb sq) (k0_pay7 p1) (k0_pay8 p2) (k0_pay9 p3)) Finset.univ (View.stores_vmem_bits_univ h_S512x256 rfl) (.inl rfl))
  pure ⟨⟩

/-- The loop's region at trip `k` is its eight steps in order, lower half before upper half. -/
theorem body_eq (i : grid0.Coords) (k : Fin k0_t1_loop.trips) :
    k0_t1_body (F := F) i arg2 harg2 arg3 harg3 arg4 harg4 arg5 harg5 arg6 harg6 arg7 harg7 arg8 harg8 arg9 harg9 arg10 harg10 arg11 harg11 arg12 harg12 arg13 harg13 v5 k ()
      = (do
        sub arg3 arg4 arg5 arg6 arg7 arg9 arg10 arg11 arg12 arg13 v5 (lower k 0)
        sub arg3 arg4 arg5 arg6 arg7 arg9 arg10 arg11 arg12 arg13 v5 (upper k 0)
        sub arg3 arg4 arg5 arg6 arg7 arg9 arg10 arg11 arg12 arg13 v5 (lower k 1)
        sub arg3 arg4 arg5 arg6 arg7 arg9 arg10 arg11 arg12 arg13 v5 (upper k 1)
        sub arg3 arg4 arg5 arg6 arg7 arg9 arg10 arg11 arg12 arg13 v5 (lower k 2)
        sub arg3 arg4 arg5 arg6 arg7 arg9 arg10 arg11 arg12 arg13 v5 (upper k 2)
        sub arg3 arg4 arg5 arg6 arg7 arg9 arg10 arg11 arg12 arg13 v5 (lower k 3)
        sub arg3 arg4 arg5 arg6 arg7 arg9 arg10 arg11 arg12 arg13 v5 (upper k 3)
        pure ⟨⟩) := rfl

section Triple

variable (𝒱 : Variants) (c : Dev nD) (bd : Option 𝒱.V) (E : Set ℕ)
  (X3 : arg3.view.ty.Contents (Elt F)) (X4 : arg4.view.ty.Contents (Elt F)) (X5 : arg5.view.ty.Contents (Elt F)) (X6 : arg6.view.ty.Contents (Elt F)) (X7 : arg7.view.ty.Contents (Elt F))
  (f9 : arg9.view.ty.Contents (Elt F)) (f10 : arg10.view.ty.Contents (Elt F)) (f11 : arg11.view.ty.Contents (Elt F)) (f12 : arg12.view.ty.Contents (Elt F)) (f13 : arg13.view.ty.Contents (Elt F))

/-- What a step works on: the codebook's five operands at their contents, the three result blocks and the two scratch
buffers at theirs. -/
abbrev held : sProp (MT nD τ sig Unit (Elt F) ℕ (UR sig nD τ) ℕ) :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13))

/-- The residual rows a step reads. -/
abbrev rdR (P : Place) : Vec F S512x256 .f32 := arg12.view.readAt (Elt F) (Rect.unit (s := S1024x256) P.rows S512x256.size P.rows_ok).toLoadRect f12
/-- The codebook a step reads. -/
abbrev rdC (P : Place) : Vec F S1x1024x256 .f32 := arg3.view.readAt (Elt F) (Rect.unit (s := S8x1024x256) P.slab S1x1024x256.size P.slab_ok).toLoadRect X3
/-- The row of squared norms a step reads. -/
abbrev rdN (P : Place) : Vec F S1x1024 .f32 := arg4.view.readAt (Elt F) (Rect.unit (s := S8x1024) P.norms S1x1024.size P.norms_ok).toLoadRect X4
/-- One of the codebook's three pieces as a step reads it. -/
abbrev rdP (m : Memref sig .tc .vmem S8x1024x256 .bf16) (X : m.view.ty.Contents (Elt F)) (P : Place) : Vec F S1x1024x256 .bf16 := m.view.readAt (Elt F) (Rect.unit (s := S8x1024x256) P.slab S1x1024x256.size P.slab_ok).toLoadRect X
/-- The accumulator rows a step reads. -/
abbrev rdA (P : Place) : Vec F S512x256 .f32 := arg13.view.readAt (Elt F) (Rect.unit (s := S1024x256) P.rows S512x256.size P.rows_ok).toLoadRect f13
/-- The loss row a step reads. -/
abbrev rdL (P : Place) : Vec F S1x256 .f32 := arg10.view.readAt (Elt F) (Rect.unit (s := S8x256) P.loss S1x256.size P.loss_ok).toLoadRect f10

/-- The one-hot rows a step forms. -/
abbrev hot (P : Place) : FVec F S512x1024 .bf16 := k0_pay6 v5 (rdR arg12 f12 P) (rdC arg3 X3 P) (rdN arg4 X4 P)

set_option maxHeartbeats 4000000 in
/-- What one step leaves in each buffer: one store into each of the five it writes. -/
theorem sub_wp (P : Place) :
    held arg3 arg4 arg5 arg6 arg7 arg9 arg10 arg11 arg12 arg13 c X3 X4 X5 X6 X7 f9 f10 f11 f12 f13
      ⊢ wp frame (wpE (defs₀ (F := F)) 𝒱 (c : Thread nD τ) bd) E (sub arg3 arg4 arg5 arg6 arg7 arg9 arg10 arg11 arg12 arg13 v5 P)
          (fun _ => held arg3 arg4 arg5 arg6 arg7 arg9 arg10 arg11 arg12 arg13 c X3 X4 X5 X6 X7
            (arg9.view.writes (Elt F) f9 [⟨Rect.unit (s := S1x8x1024) P.word S1x1x512.size P.word_ok, k0_pay14 (k0_pay5 v5 (rdR arg12 f12 P) (rdC arg3 X3 P) (rdN arg4 X4 P))⟩])
            (arg10.view.writes (Elt F) f10 [⟨Rect.unit (s := S8x256) P.loss S1x256.size P.loss_ok, k0_pay13 (rdR arg12 f12 P) (hot arg3 arg4 arg12 v5 X3 X4 f12 P) (k0_pay7 (rdP arg5 X5 P)) (k0_pay8 (rdP arg6 X6 P)) (k0_pay9 (rdP arg7 X7 P)) (rdL arg10 f10 P)⟩])
            (arg11.view.writes (Elt F) f11 [⟨Rect.unit (s := S8x1x256x1024) P.vecs S1x1x256x512.size P.vecs_ok, k0_pay15 (rdR arg12 f12 P) (hot arg3 arg4 arg12 v5 X3 X4 f12 P) (k0_pay7 (rdP arg5 X5 P)) (k0_pay8 (rdP arg6 X6 P)) (k0_pay9 (rdP arg7 X7 P))⟩])
            (arg12.view.writes (Elt F) f12 [⟨Rect.unit (s := S1024x256) P.rows S512x256.size P.rows_ok, k0_pay16 (rdR arg12 f12 P) (hot arg3 arg4 arg12 v5 X3 X4 f12 P) (k0_pay7 (rdP arg5 X5 P)) (k0_pay8 (rdP arg6 X6 P)) (k0_pay9 (rdP arg7 X7 P))⟩])
            (arg13.view.writes (Elt F) f13 [⟨Rect.unit (s := S1024x256) P.rows S512x256.size P.rows_ok, k0_pay12 (rdR arg12 f12 P) (hot arg3 arg4 arg12 v5 X3 X4 f12 P) (k0_pay7 (rdP arg5 X5 P)) (k0_pay8 (rdP arg6 X6 P)) (k0_pay9 (rdP arg7 X7 P)) (rdA arg13 f13 P)⟩])) := by
  unfold sub held
  iintro ⟨HR_arg3, HR_arg4, HR_arg5, HR_arg6, HR_arg7, HW_arg9, HW_arg10, HW_arg11, HW_arg12, HW_arg13⟩
  sl_exec
  sl_step
  sl_close

end Triple

end Step

end Cert.KernelIdeal.Rvq
-- ==== Proof.Lead.lean ====
/- The first index at which a function is least: what both programs choose by, and how the kernel finds it as the least
   of the numbers at which the function equals its own minimum. -/
module

public import Idealize.ShloMosaic.Lib.Pointwise
public import Mathlib.Data.Finset.Max

@[expose] public section

noncomputable section

namespace Cert.Rvq

open Idealize.ShloMosaic

variable {N : ℕ} [NeZero N]

/-- Some index is one of least value. -/
theorem exists_least (f : Fin N → EReal) : (Finset.univ.filter fun k => ∀ j, f k ≤ f j).Nonempty := by
  obtain ⟨k, -, h⟩ := Finset.exists_min_image (Finset.univ : Finset (Fin N)) f ⟨0, Finset.mem_univ _⟩
  exact ⟨k, by simpa using h⟩

/-- The first index at which `f` is least. -/
def lead (f : Fin N → EReal) : Fin N := (Finset.univ.filter fun k => ∀ j, f k ≤ f j).min' (exists_least f)

/-- The value at the chosen index is a least one. -/
theorem lead_le (f : Fin N → EReal) (j : Fin N) : f (lead f) ≤ f j :=
  (Finset.mem_filter.mp (Finset.min'_mem _ (exists_least f))).2 j

/-- Any other index of least value comes later. -/
theorem lead_first (f : Fin N → EReal) (k : Fin N) (h : ∀ j, f k ≤ f j) : lead f ≤ k :=
  Finset.min'_le _ _ (Finset.mem_filter.mpr ⟨Finset.mem_univ _, h⟩)

/-- The chosen index is the only one of least value that no other of least value precedes. -/
theorem eq_lead (f : Fin N → EReal) (k : Fin N) (h : ∀ j, f k ≤ f j) (h' : ∀ j, f j ≤ f k → k ≤ j) : k = lead f :=
  le_antisymm (h' _ (lead_le f k)) (lead_first f k h)

/-- The minimum of all values, started at infinity, is the value at the chosen index. -/
theorem fold_min_eq (f : Fin N → EReal) : Finset.fold min (⊤ : EReal) f Finset.univ = f (lead f) := by
  apply le_antisymm
  · exact Finset.fold_min_le _ |>.mpr (Or.inr ⟨_, Finset.mem_univ _, le_rfl⟩)
  · exact Finset.le_fold_min _ |>.mpr ⟨le_top, fun x _ => lead_le f x⟩

/-- A number below 2^31, as a 32-bit word read signed. -/
theorem toInt_ofNat (n : ℕ) (h : n < 2 ^ 31) : (BitVec.ofNat 32 n).toInt = n := by
  rw [BitVec.toInt_eq_toNat_of_lt (by rw [BitVec.toNat_ofNat]; omega), BitVec.toNat_ofNat]
  omega

/-- The signed minimum of words, read as a number. -/
theorem toInt_fold_minsi {ι : Type} (s : Finset ι) (b : BitVec 32) (g : ι → BitVec 32) :
    (Finset.fold IntOp.minsi b g s).toInt = Finset.fold min b.toInt (fun x => (g x).toInt) s := by
  refine (Finset.fold_hom (op := IntOp.minsi) (op' := min) (m := BitVec.toInt) fun x y => ?_).symm
  unfold IntOp.minsi
  rw [BitVec.slt_eq_decide]
  by_cases h : x.toInt < y.toInt
  · rw [if_pos (by simpa using h)]; omega
  · rw [if_neg (by simpa using h)]; omega

/-- Among `N` numbers, the least of those at which `f` equals its minimum, the others replaced by a number past the end. -/
theorem fold_minsi_eq (f : Fin N → EReal) (hN : N < 2 ^ 31) :
    Finset.fold IntOp.minsi (2147483647#32)
        (fun x => if f x = Finset.fold min (⊤ : EReal) f Finset.univ then BitVec.ofNat 32 x.val else BitVec.ofNat 32 N) Finset.univ
      = BitVec.ofNat 32 (lead f).val := by
  rw [fold_min_eq]
  apply BitVec.eq_of_toInt_eq
  have hl := (lead f).isLt
  rw [toInt_fold_minsi, toInt_ofNat (lead f).val (by omega)]
  apply le_antisymm
  · refine Finset.fold_min_le _ |>.mpr (Or.inr ⟨lead f, Finset.mem_univ _, ?_⟩)
    rw [if_pos rfl, toInt_ofNat (lead f).val (by omega)]
  · refine Finset.le_fold_min _ |>.mpr ⟨?_, fun x _ => ?_⟩
    · have h1 := (lead f).isLt
      have : (2147483647#32 : BitVec 32).toInt = 2147483647 := by decide
      omega
    · have h1 := (lead f).isLt
      have h2 := x.isLt
      split
      · rename_i h
        rw [toInt_ofNat x.val (by omega)]
        have := lead_first f x fun j => h ▸ lead_le f j
        exact_mod_cast this
      · rw [toInt_ofNat N hN]; omega

end Cert.Rvq
-- ==== Proof.Tok.lean ====
/- The mathematics of one token: the distances to a codebook's entries, the entry chosen, the vector it is replaced by and
   the residual that remains, step by step; and the kernel's vector expressions of one step read as these. -/
module

public import proofs.«01_k».proof.Proof.Sub
public import proofs.«01_k».proof.Proof.Lead
public import Idealize.ShloMosaic.Lib.Pointwise

@[expose] public section

set_option maxRecDepth 16384

noncomputable section

namespace Cert.Rvq

open Idealize.ShloMosaic

/-- One token's vector. -/
abbrev Row := Fin 256 → EReal

/-- A codebook as a step uses it: its entries for the distances, their squared norms, and the entries a token is
replaced by. -/
structure Book where
  entry : Fin 1024 → Row
  norm : Fin 1024 → EReal
  value : Fin 1024 → Row

/-- The squared distance of a token to entry `k`, as the programs expand it. -/
def dist (B : Book) (ρ : Row) (k : Fin 1024) : EReal :=
  ((∑ d, ρ d * ρ d) - ∑ d, (ρ d + ρ d) * B.entry k d) + B.norm k

/-- The entry chosen for a token: the first of least distance. -/
def pick (B : Book) (ρ : Row) : Fin 1024 := lead (dist B ρ)

/-- The token's quantized vector, added through the residual as the programs do. -/
def quant (B : Book) (ρ : Row) : Row := fun d => ρ d + (B.value (pick B ρ) d - ρ d)

/-- The residual that a step leaves. -/
def rest (B : Book) (ρ : Row) : Row := fun d => ρ d - quant B ρ d

/-- The squared error of a step. -/
def err (B : Book) (ρ : Row) : Row := fun d => (B.value (pick B ρ) d - ρ d) * (B.value (pick B ρ) d - ρ d)

/-- The residual before step `q`. -/
def resid (B : ℕ → Book) (ρ : Row) : ℕ → Row
  | 0 => ρ
  | q + 1 => rest (B q) (resid B ρ q)

/-- The sum of the first `q` quantized vectors. -/
def total (B : ℕ → Book) (ρ : Row) : ℕ → Row
  | 0 => fun _ => 0
  | q + 1 => fun d => total B ρ q d + quant (B q) (resid B ρ q) d

end Cert.Rvq

namespace Cert.KernelIdeal.Rvq

open Idealize.ShloMosaic Cert.KernelIdeal.Gen Cert.Rvq

/-- The column numbers of a 512 × 1024 table, which the kernel forms once. -/
abbrev io : IVec S512x1024 32 := iota .tc S512x1024 32 [1] iota_S512x1024_d1_w32

/-- The codebook that a step's five loads hold. -/
def bookOf (cb : Vec Ideal S1x1024x256 .f32) (sq : Vec Ideal S1x1024 .f32) (p1 p2 p3 : Vec Ideal S1x1024x256 .bf16) : Book where
  entry k d := cb (ix3 0 k d)
  norm k := sq (ix2 0 k)
  value k d := (p1 (ix3 0 k d) + p2 (ix3 0 k d)) + p3 (ix3 0 k d)

variable (r : Vec Ideal S512x256 .f32) (cb : Vec Ideal S1x1024x256 .f32) (sq : Vec Ideal S1x1024 .f32) (p1 p2 p3 : Vec Ideal S1x1024x256 .bf16)

/-- Token `n` of the rows a step reads. -/
abbrev row (n : Fin 512) : Row := fun d => r (ix2 n d)

/-- The pattern of positive infinity. -/
theorem ofBits_inf : Ideal.ofBits FTy.f32 0x7F800000#32 = (⊤ : EReal) := by
  simp [Ideal.ofBits, Ideal.ieee]

/-- The index word of token `n` is the number of the entry chosen for it. -/
theorem pay5_eq (n : Fin 512) (b : Fin 1) :
    k0_pay5 io r cb sq (ix2 n b) = BitVec.ofNat 32 (pick (bookOf cb sq p1 p2 p3) (row r n)).val := by
  have h := fold_minsi_eq (dist (bookOf cb sq p1 p2 p3) (row r n)) (by norm_num)
  rw [← ofBits_inf] at h
  pointwise [k0_pay5, io]
  exact h

/-- The one-hot entry of token `n` at `k`. -/
theorem pay6_eq (n : Fin 512) (k : Fin 1024) :
    k0_pay6 io r cb sq (ix2 n k) = if k = pick (bookOf cb sq p1 p2 p3) (row r n) then (1 : EReal) else 0 := by
  pointwise [k0_pay6, io]
  rw [pay5_eq r cb sq p1 p2 p3]
  generalize pick (bookOf cb sq p1 p2 p3) (row r n) = w
  have e : (BitVec.ofNat 32 k.val = BitVec.ofNat 32 w.val) ↔ k = w := by
    constructor
    · intro h
      have := congrArg BitVec.toNat h
      simp only [BitVec.toNat_ofNat] at this
      have h1 := k.isLt
      have h2 := w.isLt
      exact Fin.ext (by omega)
    · rintro rfl; rfl
  by_cases h : k = w
  · rw [if_pos h, h]
    simp [IntOp.cmpi, FloatOps.sitofp]
  · rw [if_neg h]
    have h' : ¬ BitVec.ofNat 32 k.val = BitVec.ofNat 32 w.val := fun x => h (e.mp x)
    have hb : (BitVec.ofNat 32 k.val == BitVec.ofNat 32 w.val) = false := beq_eq_false_iff_ne.mpr h'
    simp [IntOp.cmpi, FloatOps.sitofp, hb]

/-- The vector that token `n` is replaced by. -/
theorem pay10_eq (n : Fin 512) (d : Fin 256) :
    k0_pay10 (k0_pay6 io r cb sq) (k0_pay7 p1) (k0_pay8 p2) (k0_pay9 p3) (ix2 n d)
      = (bookOf cb sq p1 p2 p3).value (pick (bookOf cb sq p1 p2 p3) (row r n)) d := by
  have h : ∀ p : Vec Ideal S1x1024x256 .bf16, (∑ x : Fin 1024, (k0_pay6 io r cb sq (ix2 n x) : EReal) * p (ix3 0 x d))
      = p (ix3 0 (pick (bookOf cb sq p1 p2 p3) (row r n)) d) := fun p => by
    rw [Finset.sum_eq_single (pick (bookOf cb sq p1 p2 p3) (row r n))]
    · rw [pay6_eq r cb sq p1 p2 p3, if_pos rfl, one_mul]
    · intro x _ hx
      rw [pay6_eq r cb sq p1 p2 p3, if_neg hx, zero_mul]
    · intro hx; exact absurd (Finset.mem_univ _) hx
  pointwise [k0_pay10, k0_pay7, k0_pay8, k0_pay9]
  exact congrArg₂ (· + ·) (congrArg₂ (· + ·) (h p1) (h p2)) (h p3)

/-- The accumulator rows a step stores. -/
theorem pay12_eq (a : Vec Ideal S512x256 .f32) (n : Fin 512) (d : Fin 256) :
    k0_pay12 r (k0_pay6 io r cb sq) (k0_pay7 p1) (k0_pay8 p2) (k0_pay9 p3) a (ix2 n d)
      = (a (ix2 n d) + quant (bookOf cb sq p1 p2 p3) (row r n) d : EReal) := by
  pointwise [k0_pay12, k0_pay11]
  rw [pay10_eq]; rfl

/-- The loss row a step stores. -/
theorem pay13_eq (l : Vec Ideal S1x256 .f32) (b : Fin 1) (d : Fin 256) :
    k0_pay13 r (k0_pay6 io r cb sq) (k0_pay7 p1) (k0_pay8 p2) (k0_pay9 p3) l (ix2 b d)
      = (l (ix2 0 d) + ∑ n : Fin 512, err (bookOf cb sq p1 p2 p3) (row r n) d : EReal) := by
  pointwise [k0_pay13]
  simp only [pay10_eq]; rfl

/-- The index words a step stores. -/
theorem pay14_eq (a b : Fin 1) (n : Fin 512) :
    k0_pay14 (k0_pay5 io r cb sq) (ix3 a b n) = BitVec.ofNat 32 (pick (bookOf cb sq p1 p2 p3) (row r n)).val := by
  pointwise [k0_pay14]
  exact pay5_eq r cb sq p1 p2 p3 n 0

/-- The quantized vectors a step stores. -/
theorem pay15_eq (a b : Fin 1) (d : Fin 256) (n : Fin 512) :
    k0_pay15 r (k0_pay6 io r cb sq) (k0_pay7 p1) (k0_pay8 p2) (k0_pay9 p3) (ix4 a b d n)
      = (quant (bookOf cb sq p1 p2 p3) (row r n) d : EReal) := by
  pointwise [k0_pay15, k0_pay11]
  rw [pay10_eq]; rfl

/-- The residual rows a step stores. -/
theorem pay16_eq (n : Fin 512) (d : Fin 256) :
    k0_pay16 r (k0_pay6 io r cb sq) (k0_pay7 p1) (k0_pay8 p2) (k0_pay9 p3) (ix2 n d)
      = (rest (bookOf cb sq p1 p2 p3) (row r n) d : EReal) := by
  pointwise [k0_pay16, k0_pay11]
  rw [pay10_eq]; rfl

end Cert.KernelIdeal.Rvq
-- ==== Proof.Inv.lean ====
/- What the two scratch buffers and the three result blocks hold after each of the block's sixteen half steps, and that a
   half step takes it from one to the next. -/
module

public import proofs.«01_k».proof.Proof.Tok
public import Idealize.ShloMosaic.Lib.VecWindow

@[expose] public section

set_option maxRecDepth 16384

noncomputable section

namespace Cert.KernelIdeal.Rvq

open Idealize.ShloMosaic Cert.KernelIdeal.Gen Cert.Rvq

/-- A place is that of step `q` on half `h` of the tokens. -/
structure Place.At (P : Place) (q h : ℕ) : Prop where
  rows : P.rows = ![512 * h, 0]
  slab : P.slab = ![q, 0, 0]
  norms : P.norms = ![q, 0]
  loss : P.loss = ![q, 0]
  word : P.word = ![0, q, 512 * h]
  vecs : P.vecs = ![q, 0, 0, 512 * h]

/-- The offsets the kernel computes for step `r` of trip `k` are those of step `4 k + r`. -/
theorem offs : ∀ (k : Fin k0_t1_loop.trips) (r : Fin 4),
    k0_off1 k (BitVec.ofNat 32 r.val) = ![4 * k.val + r.val, 0, 0] ∧ k0_off2 k (BitVec.ofNat 32 r.val) = ![4 * k.val + r.val, 0]
    ∧ k0_off3 k (BitVec.ofNat 32 r.val) = ![4 * k.val + r.val, 0] ∧ k0_off4 k (BitVec.ofNat 32 r.val) = ![0, 4 * k.val + r.val, 0]
    ∧ k0_off5 k (BitVec.ofNat 32 r.val) = ![4 * k.val + r.val, 0, 0, 0] ∧ k0_off6 k (BitVec.ofNat 32 r.val) = ![0, 4 * k.val + r.val, 512]
    ∧ k0_off7 k (BitVec.ofNat 32 r.val) = ![4 * k.val + r.val, 0, 0, 512] := by decide +kernel

/-- The first half-step of step `r` of trip `k` is step `4 k + r` on the first half of the rows. -/
theorem lower_at (k : Fin k0_t1_loop.trips) (r : Fin 4) : (lower k r).At (4 * k.val + r.val) 0 := by
  obtain ⟨h1, h2, h3, h4, h5, h6, h7⟩ := offs k r
  exact ⟨rfl, h1, h2, h3, h4, h5⟩

/-- The second half-step of step `r` of trip `k` is step `4 k + r` on the second half of the rows. -/
theorem upper_at (k : Fin k0_t1_loop.trips) (r : Fin 4) : (upper k r).At (4 * k.val + r.val) 1 := by
  obtain ⟨h1, h2, h3, h4, h5, h6, h7⟩ := offs k r
  exact ⟨rfl, h1, h2, h3, h6, h7⟩

/-- The contents of the buffers a block's steps write: the residual rows, the accumulator, the index block, the loss
block and the block of all quantized vectors. -/
structure St where
  R : Vec Ideal S1024x256 .f32
  A : Vec Ideal S1024x256 .f32
  I : Vec Ideal S1x8x1024 .i32
  L : Vec Ideal S8x256 .f32
  Q : Vec Ideal S8x1x256x1024 .f32

/-- How many of the eight steps token `n` has had after `s` half steps. -/
def lev (s n : ℕ) : ℕ := (s + 1 - n / 512) / 2

/-- The number of token `n` of half `h`. -/
def tok (h : ℕ) (hh : h < 2) (n : Fin 512) : Fin 1024 := ⟨512 * h + n.val, by have := n.isLt; omega⟩

/-- The squared errors of step `q` over half `h` of the tokens. -/
def errs (B : ℕ → Book) (ρ : Fin 1024 → Row) (q h : ℕ) (hh : h < 2) (d : Fin 256) : EReal :=
  ∑ n : Fin 512, err (B q) (resid B (ρ (tok h hh n)) q) d

/-- The rows a buffer of rows holds. -/
def rows (R : Vec Ideal S1024x256 .f32) (n : Fin 1024) : Row := fun d => R (ix2 n d)

/-- The residual rows after `s` half steps from the rows `R0`. -/
def AtR (B : ℕ → Book) (R0 : Vec Ideal S1024x256 .f32) (s : ℕ) (R : Vec Ideal S1024x256 .f32) : Prop :=
  ∀ n d, R (ix2 n d) = resid B (rows R0 n) (lev s n.val) d

/-- The accumulator after `s` half steps from `A0`. -/
def AtA (B : ℕ → Book) (R0 A0 : Vec Ideal S1024x256 .f32) (s : ℕ) (A : Vec Ideal S1024x256 .f32) : Prop :=
  ∀ n d, A (ix2 n d) = (A0 (ix2 n d) + total B (rows R0 n) (lev s n.val) d : EReal)

/-- The index block after `s` half steps from `I0`. -/
def AtI (B : ℕ → Book) (R0 : Vec Ideal S1024x256 .f32) (I0 : Vec Ideal S1x8x1024 .i32) (s : ℕ) (I : Vec Ideal S1x8x1024 .i32) : Prop :=
  ∀ (q : Fin 8) n, I (ix3 0 q n) = if q.val < lev s n.val then BitVec.ofNat 32 (pick (B q) (resid B (rows R0 n) q)).val else I0 (ix3 0 q n)

/-- The loss block after `s` half steps from `L0`. -/
def AtL (B : ℕ → Book) (R0 : Vec Ideal S1024x256 .f32) (L0 : Vec Ideal S8x256 .f32) (s : ℕ) (L : Vec Ideal S8x256 .f32) : Prop :=
  ∀ (q : Fin 8) d, L (ix2 q d) = ((L0 (ix2 q d) + (if 2 * q.val < s then errs B (rows R0) q 0 (by decide) d else 0)) + (if 2 * q.val + 1 < s then errs B (rows R0) q 1 (by decide) d else 0) : EReal)

/-- The block of all quantized vectors after `s` half steps from `Q0`. -/
def AtQ (B : ℕ → Book) (R0 : Vec Ideal S1024x256 .f32) (Q0 : Vec Ideal S8x1x256x1024 .f32) (s : ℕ) (Q : Vec Ideal S8x1x256x1024 .f32) : Prop :=
  ∀ (q : Fin 8) d n, Q (ix4 q 0 d n) = if q.val < lev s n.val then quant (B q) (resid B (rows R0 n) q) d else Q0 (ix4 q 0 d n)

/-- The contents after `s` half steps from the contents `O`. -/
structure Inv (B : ℕ → Book) (O : St) (s : ℕ) (S : St) : Prop where
  R : AtR B O.R s S.R
  A : AtA B O.R O.A s S.A
  I : AtI B O.R O.I s S.I
  L : AtL B O.R O.L s S.L
  Q : AtQ B O.R O.Q s S.Q

/-- Before the first half step the contents are what they were. -/
theorem inv_zero (B : ℕ → Book) (O : St) : Inv B O 0 O := by
  have e : ∀ n : Fin 1024, lev 0 n.val = 0 := fun n => by have := n.isLt; simp only [lev]; omega
  constructor
  · intro n d; rw [e]; rfl
  · intro n d; rw [e]; exact (add_zero _).symm
  · intro q n; rw [e, if_neg (Nat.not_lt_zero _)]
  · intro q d; rw [if_neg (Nat.not_lt_zero _), if_neg (Nat.not_lt_zero _), add_zero, add_zero]
  · intro q d n; rw [e, if_neg (Nat.not_lt_zero _)]

section Step

variable (arg3 : Memref sig .tc .vmem S8x1024x256 .f32) (arg4 : Memref sig .tc .vmem S8x1024 .f32) (arg5 arg6 arg7 : Memref sig .tc .vmem S8x1024x256 .bf16) (arg9 : Memref sig .tc .vmem S1x8x1024 .i32) (arg10 : Memref sig .tc .vmem S8x256 .f32) (arg11 : Memref sig .tc .vmem S8x1x256x1024 .f32) (arg12 arg13 : Memref sig .tc .vmem S1024x256 .f32)
  (X3 : arg3.view.ty.Contents (Elt Ideal)) (X4 : arg4.view.ty.Contents (Elt Ideal)) (X5 : arg5.view.ty.Contents (Elt Ideal)) (X6 : arg6.view.ty.Contents (Elt Ideal)) (X7 : arg7.view.ty.Contents (Elt Ideal))
  (f9 : arg9.view.ty.Contents (Elt Ideal)) (f10 : arg10.view.ty.Contents (Elt Ideal)) (f11 : arg11.view.ty.Contents (Elt Ideal)) (f12 : arg12.view.ty.Contents (Elt Ideal)) (f13 : arg13.view.ty.Contents (Elt Ideal))

/-- What five buffers read as. -/
def stOf : St where
  R := arg12.view.read (Elt Ideal) f12
  A := arg13.view.read (Elt Ideal) f13
  I := arg9.view.read (Elt Ideal) f9
  L := arg10.view.read (Elt Ideal) f10
  Q := arg11.view.read (Elt Ideal) f11

/-- The codebooks of five operand arrays: number `q`'s entries, squared norms, and the sum of its three pieces. -/
def books (c3 : Vec Ideal S8x1024x256 .f32) (c4 : Vec Ideal S8x1024 .f32) (c5 c6 c7 : Vec Ideal S8x1024x256 .bf16) (q : ℕ) : Book where
  entry k d := c3 (ix3 (Fin.ofNat 8 q) k d)
  norm k := c4 (ix2 (Fin.ofNat 8 q) k)
  value k d := ((c5 (ix3 (Fin.ofNat 8 q) k d) + c6 (ix3 (Fin.ofNat 8 q) k d)) + c7 (ix3 (Fin.ofNat 8 q) k d) : EReal)

/-- The codebooks that the five operand blocks read as. -/
def booksOf : ℕ → Book :=
  books (arg3.view.read (Elt Ideal) X3) (arg4.view.read (Elt Ideal) X4) (arg5.view.read (Elt Ideal) X5) (arg6.view.read (Elt Ideal) X6) (arg7.view.read (Elt Ideal) X7)

variable {P : Place} {q h : ℕ} (hP : P.At q h) (hq : q < 8) (hh : h < 2)

include hP hq in
/-- A slab of a codebook-shaped operand, at an index. -/
theorem rdSlab {e : EltTy} (m : Memref sig .tc .vmem S8x1024x256 e) (X : m.view.ty.Contents (Elt Ideal)) (k : Fin 1024) (d : Fin 256) :
    m.view.readAt (Elt Ideal) (Rect.unit (s := S8x1024x256) P.slab S1x1024x256.size P.slab_ok).toLoadRect X (ix3 0 k d)
      = m.view.read (Elt Ideal) X (ix3 (Fin.ofNat 8 q) k d) := by
  refine congrArg (m.view.read (Elt Ideal) X) (funext fun a => Fin.ext ?_)
  refine (congrArg (· + _) (congrFun hP.slab a)).trans ?_
  match a with
  | 0 => simp [ix3, Fin.ofNat, Nat.mod_eq_of_lt hq]
  | 1 => simp [ix3]
  | 2 => simp [ix3]

include hP hq in
/-- A row of the squared norms, at an index. -/
theorem rdNorm (k : Fin 1024) : rdN arg4 X4 P (ix2 0 k) = arg4.view.read (Elt Ideal) X4 (ix2 (Fin.ofNat 8 q) k) := by
  refine congrArg (arg4.view.read (Elt Ideal) X4) (funext fun a => Fin.ext ?_)
  refine (congrArg (· + _) (congrFun hP.norms a)).trans ?_
  match a with
  | 0 => simp [ix2, Fin.ofNat, Nat.mod_eq_of_lt hq]
  | 1 => simp [ix2]

include hP hq in
/-- The codebook a step's loads hold is codebook `q`. -/
theorem book_eq : bookOf (rdC arg3 X3 P) (rdN arg4 X4 P) (rdP arg5 X5 P) (rdP arg6 X6 P) (rdP arg7 X7 P)
    = booksOf arg3 arg4 arg5 arg6 arg7 X3 X4 X5 X6 X7 q := by
  unfold bookOf booksOf books
  congr 1
  · funext k d; exact rdSlab hP hq arg3 X3 k d
  · funext k; exact rdNorm arg4 X4 hP hq k
  · funext k d
    exact congrArg₂ (· + ·) (congrArg₂ (· + ·) (rdSlab hP hq arg5 X5 k d) (rdSlab hP hq arg6 X6 k d)) (rdSlab hP hq arg7 X7 k d)

include hP in
/-- A half of a buffer of rows, at an index. -/
theorem rdRows (m : Memref sig .tc .vmem S1024x256 .f32) (f : m.view.ty.Contents (Elt Ideal)) (n : Fin 512) (d : Fin 256) :
    m.view.readAt (Elt Ideal) (Rect.unit (s := S1024x256) P.rows S512x256.size P.rows_ok).toLoadRect f (ix2 n d)
      = m.view.read (Elt Ideal) f (ix2 (tok h hh n) d) := by
  refine congrArg (m.view.read (Elt Ideal) f) (funext fun a => Fin.ext ?_)
  refine (congrArg (· + _) (congrFun hP.rows a)).trans ?_
  match a with
  | 0 => simp [ix2, tok]
  | 1 => simp [ix2]

include hP hq in
/-- A row of the loss block, at an index. -/
theorem rdLoss (d : Fin 256) : rdL arg10 f10 P (ix2 0 d) = arg10.view.read (Elt Ideal) f10 (ix2 ⟨q, hq⟩ d) := by
  refine congrArg (arg10.view.read (Elt Ideal) f10) (funext fun a => Fin.ext ?_)
  refine (congrArg (· + _) (congrFun hP.loss a)).trans ?_
  match a with
  | 0 => simp [ix2]
  | 1 => simp [ix2]

include hP in
/-- A buffer of rows after a store of half `h`: the stored row on that half, the old one on the other. -/
theorem wrRows (m : Memref sig .tc .vmem S1024x256 .f32) (f : m.view.ty.Contents (Elt Ideal)) (w : Vec Ideal S512x256 .f32) (n : Fin 1024) (d : Fin 256) :
    m.view.read (Elt Ideal) (m.view.writes (Elt Ideal) f [⟨Rect.unit (s := S1024x256) P.rows S512x256.size P.rows_ok, w⟩]) (ix2 n d)
      = if n.val / 512 = h then w (ix2 ⟨n.val % 512, Nat.mod_lt _ (by decide)⟩ d) else m.view.read (Elt Ideal) f (ix2 n d) := by
  have hn := n.isLt
  split
  · rename_i e
    refine View.read_writes_cons_unit_of_mem m.view f P.rows_ok w [] (ix2 n d) (ix2 ⟨n.val % 512, Nat.mod_lt _ (by decide)⟩ d) hP.rows ?_
    intro a
    match a with
    | 0 => simp [ix2]; omega
    | 1 => simp [ix2]
  · rename_i e
    refine View.read_writes_cons_unit_of_not_mem m.view f P.rows_ok w [] (ix2 n d) hP.rows 0 ?_
    simp [ix2]; omega

include hP in
/-- The index block after a step's store. -/
theorem wrWord (w : Vec Ideal S1x1x512 .i32) (p : Fin 8) (n : Fin 1024) :
    arg9.view.read (Elt Ideal) (arg9.view.writes (Elt Ideal) f9 [⟨Rect.unit (s := S1x8x1024) P.word S1x1x512.size P.word_ok, w⟩]) (ix3 0 p n)
      = if p.val = q ∧ n.val / 512 = h then w (ix3 0 0 ⟨n.val % 512, Nat.mod_lt _ (by decide)⟩) else arg9.view.read (Elt Ideal) f9 (ix3 0 p n) := by
  have hn := n.isLt
  split
  · rename_i e
    refine View.read_writes_cons_unit_of_mem arg9.view f9 P.word_ok w [] (ix3 0 p n) (ix3 0 0 ⟨n.val % 512, Nat.mod_lt _ (by decide)⟩) hP.word ?_
    intro a
    match a with
    | 0 => simp [ix3]
    | 1 => simp [ix3]; omega
    | 2 => simp [ix3]; omega
  · rename_i e
    by_cases e' : p.val = q
    · refine View.read_writes_cons_unit_of_not_mem arg9.view f9 P.word_ok w [] (ix3 0 p n) hP.word 2 ?_
      simp [ix3]; omega
    · refine View.read_writes_cons_unit_of_not_mem arg9.view f9 P.word_ok w [] (ix3 0 p n) hP.word 1 ?_
      simp [ix3]; omega

include hP in
/-- The loss block after a step's store. -/
theorem wrLoss (w : Vec Ideal S1x256 .f32) (p : Fin 8) (d : Fin 256) :
    arg10.view.read (Elt Ideal) (arg10.view.writes (Elt Ideal) f10 [⟨Rect.unit (s := S8x256) P.loss S1x256.size P.loss_ok, w⟩]) (ix2 p d)
      = if p.val = q then w (ix2 0 d) else arg10.view.read (Elt Ideal) f10 (ix2 p d) := by
  split
  · rename_i e
    refine View.read_writes_cons_unit_of_mem arg10.view f10 P.loss_ok w [] (ix2 p d) (ix2 0 d) hP.loss ?_
    intro a
    match a with
    | 0 => simp [ix2]; omega
    | 1 => simp [ix2]
  · rename_i e
    refine View.read_writes_cons_unit_of_not_mem arg10.view f10 P.loss_ok w [] (ix2 p d) hP.loss 0 ?_
    simp [ix2]; omega

include hP in
/-- The block of all quantized vectors after a step's store. -/
theorem wrVecs (w : Vec Ideal S1x1x256x512 .f32) (p : Fin 8) (d : Fin 256) (n : Fin 1024) :
    arg11.view.read (Elt Ideal) (arg11.view.writes (Elt Ideal) f11 [⟨Rect.unit (s := S8x1x256x1024) P.vecs S1x1x256x512.size P.vecs_ok, w⟩]) (ix4 p 0 d n)
      = if p.val = q ∧ n.val / 512 = h then w (ix4 0 0 d ⟨n.val % 512, Nat.mod_lt _ (by decide)⟩) else arg11.view.read (Elt Ideal) f11 (ix4 p 0 d n) := by
  have hn := n.isLt
  split
  · rename_i e
    refine View.read_writes_cons_unit_of_mem arg11.view f11 P.vecs_ok w [] (ix4 p 0 d n) (ix4 0 0 d ⟨n.val % 512, Nat.mod_lt _ (by decide)⟩) hP.vecs ?_
    intro a
    match a with
    | 0 => simp [ix4]; omega
    | 1 => simp [ix4]
    | 2 => simp [ix4]
    | 3 => simp [ix4]; omega
  · rename_i e
    by_cases e' : p.val = q
    · refine View.read_writes_cons_unit_of_not_mem arg11.view f11 P.vecs_ok w [] (ix4 p 0 d n) hP.vecs 3 ?_
      simp [ix4]; omega
    · refine View.read_writes_cons_unit_of_not_mem arg11.view f11 P.vecs_ok w [] (ix4 p 0 d n) hP.vecs 0 ?_
      simp [ix4]; omega

include hP hq hh in
/-- One half step takes the contents from those after `2 q + h` half steps to those after one more. -/
theorem inv_step (B : ℕ → Book) (hB : booksOf arg3 arg4 arg5 arg6 arg7 X3 X4 X5 X6 X7 = B) (O : St) {v5 : IVec S512x1024 32} (hv : v5 = io)
    (H : Inv B O (2 * q + h) (stOf arg9 arg10 arg11 arg12 arg13 f9 f10 f11 f12 f13)) :
    Inv B O (2 * q + h + 1) (stOf arg9 arg10 arg11 arg12 arg13
      (arg9.view.writes (Elt Ideal) f9 [⟨Rect.unit (s := S1x8x1024) P.word S1x1x512.size P.word_ok, k0_pay14 (k0_pay5 v5 (rdR arg12 f12 P) (rdC arg3 X3 P) (rdN arg4 X4 P))⟩])
      (arg10.view.writes (Elt Ideal) f10 [⟨Rect.unit (s := S8x256) P.loss S1x256.size P.loss_ok, k0_pay13 (rdR arg12 f12 P) (hot arg3 arg4 arg12 v5 X3 X4 f12 P) (k0_pay7 (rdP arg5 X5 P)) (k0_pay8 (rdP arg6 X6 P)) (k0_pay9 (rdP arg7 X7 P)) (rdL arg10 f10 P)⟩])
      (arg11.view.writes (Elt Ideal) f11 [⟨Rect.unit (s := S8x1x256x1024) P.vecs S1x1x256x512.size P.vecs_ok, k0_pay15 (rdR arg12 f12 P) (hot arg3 arg4 arg12 v5 X3 X4 f12 P) (k0_pay7 (rdP arg5 X5 P)) (k0_pay8 (rdP arg6 X6 P)) (k0_pay9 (rdP arg7 X7 P))⟩])
      (arg12.view.writes (Elt Ideal) f12 [⟨Rect.unit (s := S1024x256) P.rows S512x256.size P.rows_ok, k0_pay16 (rdR arg12 f12 P) (hot arg3 arg4 arg12 v5 X3 X4 f12 P) (k0_pay7 (rdP arg5 X5 P)) (k0_pay8 (rdP arg6 X6 P)) (k0_pay9 (rdP arg7 X7 P))⟩])
      (arg13.view.writes (Elt Ideal) f13 [⟨Rect.unit (s := S1024x256) P.rows S512x256.size P.rows_ok, k0_pay12 (rdR arg12 f12 P) (hot arg3 arg4 arg12 v5 X3 X4 f12 P) (k0_pay7 (rdP arg5 X5 P)) (k0_pay8 (rdP arg6 X6 P)) (k0_pay9 (rdP arg7 X7 P)) (rdA arg13 f13 P)⟩])) := by
  subst hv
  have hbk := (book_eq arg3 arg4 arg5 arg6 arg7 X3 X4 X5 X6 X7 hP hq).trans (congrFun hB q)
  have hlev : ∀ n : Fin 512, lev (2 * q + h) (tok h hh n).val = q := fun n => by
    have := n.isLt; simp only [lev, tok]; omega
  have hrow : ∀ n : Fin 512, row (rdR arg12 f12 P) n = resid B (rows O.R (tok h hh n)) q := fun n => funext fun d => by
    refine (rdRows hP hh arg12 f12 n d).trans ((H.R (tok h hh n) d).trans ?_)
    rw [hlev]
  have htok : ∀ n : Fin 1024, n.val / 512 = h → tok h hh ⟨n.val % 512, Nat.mod_lt _ (by decide)⟩ = n := fun n e =>
    Fin.ext (by simp only [tok]; omega)
  constructor
  · intro n d
    refine (wrRows hP arg12 f12 _ n d).trans ?_
    have hn := n.isLt
    split
    · rename_i e
      have e1 : lev (2 * q + h + 1) n.val = q + 1 := by simp only [lev]; omega
      rw [pay16_eq, hbk, hrow, htok n e, e1]; rfl
    · rename_i e
      have e1 : lev (2 * q + h + 1) n.val = lev (2 * q + h) n.val := by simp only [lev]; omega
      rw [e1]; exact H.R n d
  · intro n d
    refine (wrRows hP arg13 f13 _ n d).trans ?_
    have hn := n.isLt
    split
    · rename_i e
      have e1 : lev (2 * q + h + 1) n.val = q + 1 := by simp only [lev]; omega
      have e2 : lev (2 * q + h) n.val = q := by simp only [lev]; omega
      have e3 : rdA arg13 f13 P (ix2 ⟨n.val % 512, Nat.mod_lt _ (by decide)⟩ d) = (O.A (ix2 n d) + total B (rows O.R n) q d : EReal) := by
        refine (rdRows hP hh arg13 f13 _ d).trans ?_
        rw [htok n e]
        refine (H.A n d).trans ?_
        rw [e2]
      rw [pay12_eq, hbk, hrow, htok n e, e1, e3]; exact add_assoc _ _ _
    · rename_i e
      have e1 : lev (2 * q + h + 1) n.val = lev (2 * q + h) n.val := by simp only [lev]; omega
      rw [e1]; exact H.A n d
  · intro p n
    refine (wrWord arg9 f9 hP _ p n).trans ?_
    have hn := n.isLt
    split
    · rename_i e
      have e1 : p.val < lev (2 * q + h + 1) n.val := by simp only [lev]; omega
      rw [if_pos e1, pay14_eq _ _ _ (rdP arg5 X5 P) (rdP arg6 X6 P) (rdP arg7 X7 P), hbk, hrow, htok n e.2, e.1]
    · rename_i e
      have e1 : (p.val < lev (2 * q + h + 1) n.val) ↔ (p.val < lev (2 * q + h) n.val) := by simp only [lev]; omega
      simp only [e1]; exact H.I p n
  · intro p d
    refine (wrLoss arg10 f10 hP _ p d).trans ?_
    split
    · rename_i e
      subst e
      rw [pay13_eq, hbk, rdLoss arg10 f10 hP hq]
      refine (congrArg (· + _) (H.L p d)).trans ?_
      simp only [hrow]
      have e0 : (∑ n : Fin 512, err (B p.val) (resid B (rows O.R (tok h hh n)) p.val) d) = errs B (rows O.R) p.val h hh d := rfl
      rw [e0]
      interval_cases h
      · rw [if_neg (by omega), if_neg (by omega), if_pos (by omega), if_neg (by omega), add_zero, add_zero, add_zero]
      · rw [if_pos (by omega), if_neg (by omega), if_pos (by omega), if_pos (by omega), add_zero]
    · rename_i e
      have e1 : (2 * p.val < 2 * q + h + 1) ↔ (2 * p.val < 2 * q + h) := by omega
      have e2 : (2 * p.val + 1 < 2 * q + h + 1) ↔ (2 * p.val + 1 < 2 * q + h) := by omega
      simp only [e1, e2]; exact H.L p d
  · intro p d n
    refine (wrVecs arg11 f11 hP _ p d n).trans ?_
    have hn := n.isLt
    split
    · rename_i e
      have e1 : p.val < lev (2 * q + h + 1) n.val := by simp only [lev]; omega
      rw [if_pos e1, pay15_eq, hbk, hrow, htok n e.2, e.1]
    · rename_i e
      have e1 : (p.val < lev (2 * q + h + 1) n.val) ↔ (p.val < lev (2 * q + h) n.val) := by simp only [lev]; omega
      simp only [e1]; exact H.Q p d n

end Step

end Cert.KernelIdeal.Rvq
-- ==== Proof.Loop.lean ====
/- The kernel's loop over the quantizers by its invariant: before trip `k` the buffers hold what they hold after eight `k`
   half steps. -/
module

public import proofs.«01_k».proof.Proof.Sub
public import proofs.«01_k».proof.Proof.Inv

@[expose] public section

set_option maxRecDepth 16384

noncomputable section

namespace Cert.KernelIdeal.Rvq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Rvq

variable (arg2 : Memref sig .tc .vmem S1x256x1024 .f32) (harg2 : arg2.IsWhole) (arg3 : Memref sig .tc .vmem S8x1024x256 .f32) (harg3 : arg3.IsWhole) (arg4 : Memref sig .tc .vmem S8x1024 .f32) (harg4 : arg4.IsWhole) (arg5 : Memref sig .tc .vmem S8x1024x256 .bf16) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S1x256x1024 .f32) (harg8 : arg8.IsWhole) (arg9 : Memref sig .tc .vmem S1x8x1024 .i32) (harg9 : arg9.IsWhole) (arg10 : Memref sig .tc .vmem S8x256 .f32) (harg10 : arg10.IsWhole) (arg11 : Memref sig .tc .vmem S8x1x256x1024 .f32) (harg11 : arg11.IsWhole) (arg12 : Memref sig .tc .vmem S1024x256 .f32) (harg12 : arg12.IsWhole) (arg13 : Memref sig .tc .vmem S1024x256 .f32) (harg13 : arg13.IsWhole)
  (v5 : IVec S512x1024 32) (𝒱 : Variants) (c : Dev nD) (bd : Option 𝒱.V) (E : Set ℕ)
  (X3 : arg3.view.ty.Contents (Elt Ideal)) (X4 : arg4.view.ty.Contents (Elt Ideal)) (X5 : arg5.view.ty.Contents (Elt Ideal)) (X6 : arg6.view.ty.Contents (Elt Ideal)) (X7 : arg7.view.ty.Contents (Elt Ideal))
  (G9 : arg9.view.ty.Contents (Elt Ideal)) (G10 : arg10.view.ty.Contents (Elt Ideal)) (G11 : arg11.view.ty.Contents (Elt Ideal)) (G12 : arg12.view.ty.Contents (Elt Ideal)) (G13 : arg13.view.ty.Contents (Elt Ideal))

/-- What is held after `s` half steps from the contents `G`: the operands at their contents, the five written buffers at
contents that read as those after `s` half steps when the vector `v5` the steps are given is the column index. -/
abbrev kept (s : ℕ) : sProp (MT nD τ sig Unit (Elt Ideal) ℕ (UR sig nD τ) ℕ) :=
  iprop((arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (∃ f, (arg9.view.loc (c : Thread nD τ) ↦[arg9.view.set]{fullShare} f) ∗ ⌜v5 = io → AtI (booksOf arg3 arg4 arg5 arg6 arg7 X3 X4 X5 X6 X7) (arg12.view.read (Elt Ideal) G12) (arg9.view.read (Elt Ideal) G9) s (arg9.view.read (Elt Ideal) f)⌝) ∗ (∃ f, (arg10.view.loc (c : Thread nD τ) ↦[arg10.view.set]{fullShare} f) ∗ ⌜v5 = io → AtL (booksOf arg3 arg4 arg5 arg6 arg7 X3 X4 X5 X6 X7) (arg12.view.read (Elt Ideal) G12) (arg10.view.read (Elt Ideal) G10) s (arg10.view.read (Elt Ideal) f)⌝) ∗ (∃ f, (arg11.view.loc (c : Thread nD τ) ↦[arg11.view.set]{fullShare} f) ∗ ⌜v5 = io → AtQ (booksOf arg3 arg4 arg5 arg6 arg7 X3 X4 X5 X6 X7) (arg12.view.read (Elt Ideal) G12) (arg11.view.read (Elt Ideal) G11) s (arg11.view.read (Elt Ideal) f)⌝) ∗ (∃ f, (arg12.view.loc (c : Thread nD τ) ↦[arg12.view.set]{fullShare} f) ∗ ⌜v5 = io → AtR (booksOf arg3 arg4 arg5 arg6 arg7 X3 X4 X5 X6 X7) (arg12.view.read (Elt Ideal) G12) s (arg12.view.read (Elt Ideal) f)⌝) ∗ (∃ f, (arg13.view.loc (c : Thread nD τ) ↦[arg13.view.set]{fullShare} f) ∗ ⌜v5 = io → AtA (booksOf arg3 arg4 arg5 arg6 arg7 X3 X4 X5 X6 X7) (arg12.view.read (Elt Ideal) G12) (arg13.view.read (Elt Ideal) G13) s (arg13.view.read (Elt Ideal) f)⌝))

set_option maxHeartbeats 1600000 in
/-- One half step, on what is held. -/
theorem sub_kept {P : Place} {q h : ℕ} (hP : P.At q h) (hq : q < 8) (hh : h < 2) :
    kept arg3 arg4 arg5 arg6 arg7 arg9 arg10 arg11 arg12 arg13 v5 c X3 X4 X5 X6 X7 G9 G10 G11 G12 G13 (2 * q + h)
      ⊢ wp frame (wpE (defs₀ (F := Ideal)) 𝒱 (c : Thread nD τ) bd) E (sub arg3 arg4 arg5 arg6 arg7 arg9 arg10 arg11 arg12 arg13 v5 P) (fun _ => kept arg3 arg4 arg5 arg6 arg7 arg9 arg10 arg11 arg12 arg13 v5 c X3 X4 X5 X6 X7 G9 G10 G11 G12 G13 (2 * q + h + 1)) := by
  iintro ⟨H3, H4, H5, H6, H7, ⟨%f9, W9, %h9⟩, ⟨%f10, W10, %h10⟩, ⟨%f11, W11, %h11⟩, ⟨%f12, W12, %h12⟩, ⟨%f13, W13, %h13⟩⟩
  iapply (wp_wand_r Idealize.ShloMosaic.frame (wpE (defs₀ (F := Ideal)) 𝒱 (c : Thread nD τ) bd) E)
  isplitl [H3 H4 H5 H6 H7 W9 W10 W11 W12 W13]
  · iapply (sub_wp arg3 arg4 arg5 arg6 arg7 arg9 arg10 arg11 arg12 arg13 v5 𝒱 c bd E X3 X4 X5 X6 X7 f9 f10 f11 f12 f13 P)
    isplitl [H3]; · iexact H3
    isplitl [H4]; · iexact H4
    isplitl [H5]; · iexact H5
    isplitl [H6]; · iexact H6
    isplitl [H7]; · iexact H7
    isplitl [W9]; · iexact W9
    isplitl [W10]; · iexact W10
    isplitl [W11]; · iexact W11
    isplitl [W12]; · iexact W12
    iexact W13
  · have H := fun hv : v5 = io => inv_step arg3 arg4 arg5 arg6 arg7 arg9 arg10 arg11 arg12 arg13 X3 X4 X5 X6 X7 f9 f10 f11 f12 f13 hP hq hh _ rfl
        (stOf arg9 arg10 arg11 arg12 arg13 G9 G10 G11 G12 G13) hv ⟨h12 hv, h13 hv, h9 hv, h10 hv, h11 hv⟩
    iintro %_ ⟨H3, H4, H5, H6, H7, W9, W10, W11, W12, W13⟩
    isplitl [H3]; · iexact H3
    isplitl [H4]; · iexact H4
    isplitl [H5]; · iexact H5
    isplitl [H6]; · iexact H6
    isplitl [H7]; · iexact H7
    isplitl [W9]
    · iexists _; isplitl [W9]; · iexact W9
      ipureintro; exact fun hv => (H hv).I
    isplitl [W10]
    · iexists _; isplitl [W10]; · iexact W10
      ipureintro; exact fun hv => (H hv).L
    isplitl [W11]
    · iexists _; isplitl [W11]; · iexact W11
      ipureintro; exact fun hv => (H hv).Q
    isplitl [W12]
    · iexists _; isplitl [W12]; · iexact W12
      ipureintro; exact fun hv => (H hv).R
    iexists _; isplitl [W13]; · iexact W13
    ipureintro; exact fun hv => (H hv).A

/-- One half step and what follows it. -/
theorem sub_then {P : Place} {q h : ℕ} (hP : P.At q h) (hq : q < 8) (hh : h < 2) (rest : Prog (TpuEff nD τ sig (Elt Ideal) Λ₀ .tc) PUnit) (Φ : PUnit → sProp (MT nD τ sig Unit (Elt Ideal) ℕ (UR sig nD τ) ℕ))
    (hr : kept arg3 arg4 arg5 arg6 arg7 arg9 arg10 arg11 arg12 arg13 v5 c X3 X4 X5 X6 X7 G9 G10 G11 G12 G13 (2 * q + h + 1) ⊢ wp frame (wpE (defs₀ (F := Ideal)) 𝒱 (c : Thread nD τ) bd) E rest Φ) :
    kept arg3 arg4 arg5 arg6 arg7 arg9 arg10 arg11 arg12 arg13 v5 c X3 X4 X5 X6 X7 G9 G10 G11 G12 G13 (2 * q + h)
      ⊢ wp frame (wpE (defs₀ (F := Ideal)) 𝒱 (c : Thread nD τ) bd) E (do sub arg3 arg4 arg5 arg6 arg7 arg9 arg10 arg11 arg12 arg13 v5 P; rest) Φ := by
  refine (sub_kept arg3 arg4 arg5 arg6 arg7 arg9 arg10 arg11 arg12 arg13 v5 𝒱 c bd E X3 X4 X5 X6 X7 G9 G10 G11 G12 G13 hP hq hh).trans ?_
  refine (wp_mono _ _ _ fun _ => hr).trans ?_
  rw [wp_bind]

/-- One trip of the loop is eight half steps. -/
theorem trip_kept (i : grid0.Coords) (k : Fin k0_t1_loop.trips) :
    kept arg3 arg4 arg5 arg6 arg7 arg9 arg10 arg11 arg12 arg13 v5 c X3 X4 X5 X6 X7 G9 G10 G11 G12 G13 (8 * k.val)
      ⊢ wp frame (wpE (defs₀ (F := Ideal)) 𝒱 (c : Thread nD τ) bd) E (k0_t1_body (F := Ideal) i arg2 harg2 arg3 harg3 arg4 harg4 arg5 harg5 arg6 harg6 arg7 harg7 arg8 harg8 arg9 harg9 arg10 harg10 arg11 harg11 arg12 harg12 arg13 harg13 v5 k ()) (fun _ => kept arg3 arg4 arg5 arg6 arg7 arg9 arg10 arg11 arg12 arg13 v5 c X3 X4 X5 X6 X7 G9 G10 G11 G12 G13 (8 * (k.val + 1))) := by
  have hk : k.val < 2 := Nat.lt_of_lt_of_le k.isLt k0_t1_abs.2.1
  rw [body_eq]
  have e0 : 8 * k.val + 0 = 2 * (4 * k.val + (0 : Fin 4).val) + 0 := by show 8 * k.val + 0 = 2 * (4 * k.val + 0) + 0; omega
  have e1 : 8 * k.val + 1 = 2 * (4 * k.val + (0 : Fin 4).val) + 1 := by show 8 * k.val + 1 = 2 * (4 * k.val + 0) + 1; omega
  have e2 : 8 * k.val + 2 = 2 * (4 * k.val + (1 : Fin 4).val) + 0 := by show 8 * k.val + 2 = 2 * (4 * k.val + 1) + 0; omega
  have e3 : 8 * k.val + 3 = 2 * (4 * k.val + (1 : Fin 4).val) + 1 := by show 8 * k.val + 3 = 2 * (4 * k.val + 1) + 1; omega
  have e4 : 8 * k.val + 4 = 2 * (4 * k.val + (2 : Fin 4).val) + 0 := by show 8 * k.val + 4 = 2 * (4 * k.val + 2) + 0; omega
  have e5 : 8 * k.val + 5 = 2 * (4 * k.val + (2 : Fin 4).val) + 1 := by show 8 * k.val + 5 = 2 * (4 * k.val + 2) + 1; omega
  have e6 : 8 * k.val + 6 = 2 * (4 * k.val + (3 : Fin 4).val) + 0 := by show 8 * k.val + 6 = 2 * (4 * k.val + 3) + 0; omega
  have e7 : 8 * k.val + 7 = 2 * (4 * k.val + (3 : Fin 4).val) + 1 := by show 8 * k.val + 7 = 2 * (4 * k.val + 3) + 1; omega
  rw [show 8 * k.val = 2 * (4 * k.val + (0 : Fin 4).val) + 0 from e0]
  refine sub_then arg3 arg4 arg5 arg6 arg7 arg9 arg10 arg11 arg12 arg13 v5 𝒱 c bd E X3 X4 X5 X6 X7 G9 G10 G11 G12 G13 (lower_at k 0) (by show 4 * k.val + 0 < 8; omega) (by decide) _ _ ?_
  rw [← e0, Nat.add_assoc, e1]
  refine sub_then arg3 arg4 arg5 arg6 arg7 arg9 arg10 arg11 arg12 arg13 v5 𝒱 c bd E X3 X4 X5 X6 X7 G9 G10 G11 G12 G13 (upper_at k 0) (by show 4 * k.val + 0 < 8; omega) (by decide) _ _ ?_
  rw [← e1, Nat.add_assoc, e2]
  refine sub_then arg3 arg4 arg5 arg6 arg7 arg9 arg10 arg11 arg12 arg13 v5 𝒱 c bd E X3 X4 X5 X6 X7 G9 G10 G11 G12 G13 (lower_at k 1) (by show 4 * k.val + 1 < 8; omega) (by decide) _ _ ?_
  rw [← e2, Nat.add_assoc, e3]
  refine sub_then arg3 arg4 arg5 arg6 arg7 arg9 arg10 arg11 arg12 arg13 v5 𝒱 c bd E X3 X4 X5 X6 X7 G9 G10 G11 G12 G13 (upper_at k 1) (by show 4 * k.val + 1 < 8; omega) (by decide) _ _ ?_
  rw [← e3, Nat.add_assoc, e4]
  refine sub_then arg3 arg4 arg5 arg6 arg7 arg9 arg10 arg11 arg12 arg13 v5 𝒱 c bd E X3 X4 X5 X6 X7 G9 G10 G11 G12 G13 (lower_at k 2) (by show 4 * k.val + 2 < 8; omega) (by decide) _ _ ?_
  rw [← e4, Nat.add_assoc, e5]
  refine sub_then arg3 arg4 arg5 arg6 arg7 arg9 arg10 arg11 arg12 arg13 v5 𝒱 c bd E X3 X4 X5 X6 X7 G9 G10 G11 G12 G13 (upper_at k 2) (by show 4 * k.val + 2 < 8; omega) (by decide) _ _ ?_
  rw [← e5, Nat.add_assoc, e6]
  refine sub_then arg3 arg4 arg5 arg6 arg7 arg9 arg10 arg11 arg12 arg13 v5 𝒱 c bd E X3 X4 X5 X6 X7 G9 G10 G11 G12 G13 (lower_at k 3) (by show 4 * k.val + 3 < 8; omega) (by decide) _ _ ?_
  rw [← e6, Nat.add_assoc, e7]
  refine sub_then arg3 arg4 arg5 arg6 arg7 arg9 arg10 arg11 arg12 arg13 v5 𝒱 c bd E X3 X4 X5 X6 X7 G9 G10 G11 G12 G13 (upper_at k 3) (by show 4 * k.val + 3 < 8; omega) (by decide) _ _ ?_
  rw [← e7, Nat.add_assoc]
  rw [wp_pure]
  exact fupd_intro

set_option maxHeartbeats 1600000 in
/-- What is held before the first half step is what is kept after none. -/
theorem kept_zero : held arg3 arg4 arg5 arg6 arg7 arg9 arg10 arg11 arg12 arg13 c X3 X4 X5 X6 X7 G9 G10 G11 G12 G13 ⊢ kept arg3 arg4 arg5 arg6 arg7 arg9 arg10 arg11 arg12 arg13 v5 c X3 X4 X5 X6 X7 G9 G10 G11 G12 G13 0 := by
  have H := inv_zero (booksOf arg3 arg4 arg5 arg6 arg7 X3 X4 X5 X6 X7) (stOf arg9 arg10 arg11 arg12 arg13 G9 G10 G11 G12 G13)
  iintro ⟨H3, H4, H5, H6, H7, W9, W10, W11, W12, W13⟩
  isplitl [H3]; · iexact H3
  isplitl [H4]; · iexact H4
  isplitl [H5]; · iexact H5
  isplitl [H6]; · iexact H6
  isplitl [H7]; · iexact H7
  isplitl [W9]
  · iexists _; isplitl [W9]; · iexact W9
    ipureintro; exact fun _ => H.I
  isplitl [W10]
  · iexists _; isplitl [W10]; · iexact W10
    ipureintro; exact fun _ => H.L
  isplitl [W11]
  · iexists _; isplitl [W11]; · iexact W11
    ipureintro; exact fun _ => H.Q
  isplitl [W12]
  · iexists _; isplitl [W12]; · iexact W12
    ipureintro; exact fun _ => H.R
  iexists _; isplitl [W13]; · iexact W13
  ipureintro; exact fun _ => H.A

set_option warn.classDefReducibility false in
/-- The loop by its invariant. -/
@[sl_loop] def steps_k0_t1 (i : grid0.Coords) :
    LoopInvTy_k0_t1 (F := Ideal) Unit ℕ (UR sig nD τ) ℕ 𝒱 c bd E i arg2 harg2 arg3 harg3 arg4 harg4 arg5 harg5 arg6 harg6 arg7 harg7 arg8 harg8 arg9 harg9 arg10 harg10 arg11 harg11 arg12 harg12 arg13 harg13 v5 where
  inv k _ := match k with
    | 0 => held arg3 arg4 arg5 arg6 arg7 arg9 arg10 arg11 arg12 arg13 c X3 X4 X5 X6 X7 G9 G10 G11 G12 G13
    | k + 1 => kept arg3 arg4 arg5 arg6 arg7 arg9 arg10 arg11 arg12 arg13 v5 c X3 X4 X5 X6 X7 G9 G10 G11 G12 G13 (8 * (k + 1))
  step k acc := by
    match k with
    | ⟨0, h⟩ => exact (kept_zero arg3 arg4 arg5 arg6 arg7 arg9 arg10 arg11 arg12 arg13 v5 c X3 X4 X5 X6 X7 G9 G10 G11 G12 G13).trans (trip_kept arg2 harg2 arg3 harg3 arg4 harg4 arg5 harg5 arg6 harg6 arg7 harg7 arg8 harg8 arg9 harg9 arg10 harg10 arg11 harg11 arg12 harg12 arg13 harg13 v5 𝒱 c bd E X3 X4 X5 X6 X7 G9 G10 G11 G12 G13 i ⟨0, h⟩)
    | ⟨k + 1, h⟩ => exact trip_kept arg2 harg2 arg3 harg3 arg4 harg4 arg5 harg5 arg6 harg6 arg7 harg7 arg8 harg8 arg9 harg9 arg10 harg10 arg11 harg11 arg12 harg12 arg13 harg13 v5 𝒱 c bd E X3 X4 X5 X6 X7 G9 G10 G11 G12 G13 i ⟨k + 1, h⟩

/-- The loop runs two trips. -/
theorem trips_eq : Scf.trips k0_t1_loop.lb k0_t1_loop.ub k0_t1_loop.st = 2 := by decide +kernel

/-- After the loop sixteen half steps are done. -/
instance exit_k0_t1 (i : grid0.Coords) : LoopExit (steps_k0_t1 arg2 harg2 arg3 harg3 arg4 harg4 arg5 harg5 arg6 harg6 arg7 harg7 arg8 harg8 arg9 harg9 arg10 harg10 arg11 harg11 arg12 harg12 arg13 harg13 v5 𝒱 c bd E X3 X4 X5 X6 X7 G9 G10 G11 G12 G13 i) where
  post _ := kept arg3 arg4 arg5 arg6 arg7 arg9 arg10 arg11 arg12 arg13 v5 c X3 X4 X5 X6 X7 G9 G10 G11 G12 G13 16
  exit acc := by
    rw [trips_eq]
    exact .rfl

end Cert.KernelIdeal.Rvq

end
-- ==== Proof.Ends.lean ====
/- What one grid point's body leaves in its four result blocks, as functions of its input blocks and of what the loss block
   held: the ends of the sixteen half steps. -/
module

public import proofs.«01_k».proof.Proof.Inv

@[expose] public section

set_option maxRecDepth 16384

noncomputable section

namespace Cert.KernelIdeal.Rvq

open Idealize.ShloMosaic Cert.KernelIdeal.Gen Cert.Rvq

/-- The token rows of a block of the input, which holds them as columns. -/
def cols (x2 : Vec Ideal S1x256x1024 .f32) (n : Fin 1024) : Row := fun d => x2 (ix3 0 d n)

section Outs

variable (B : ℕ → Book) (ρ : Fin 1024 → Row)

/-- The block of summed quantized vectors. -/
def out6 : Vec Ideal S1x256x1024 .f32 := fun j => total B (ρ (j 2)) 8 (j 1)

/-- The block of indices. -/
def out7 : Vec Ideal S1x8x1024 .i32 := fun j => BitVec.ofNat 32 (pick (B (j 1).val) (resid B (ρ (j 2)) (j 1).val)).val

/-- The loss block, from what it held. -/
def out8 (l : Vec Ideal S8x256 .f32) : Vec Ideal S8x256 .f32 := fun j =>
  ((l j + errs B ρ (j 0).val 0 (by decide) (j 1)) + errs B ρ (j 0).val 1 (by decide) (j 1) : EReal)

/-- The block of all quantized vectors. -/
def out9 : Vec Ideal S8x1x256x1024 .f32 := fun j => quant (B (j 0).val) (resid B (ρ (j 3)) (j 0).val) (j 2)

end Outs

/-- The loss block is cleared to zero. -/
theorem pay1_eq : (k0_pay1 : FVec Ideal S8x256 .f32) = fun _ => (0 : EReal) := by
  funext j; pointwise [k0_pay1]

/-- The residual rows start as the tokens of the input block. -/
theorem pay2_eq (v : Vec Ideal S1x256x1024 .f32) : rows (k0_pay2 v) = cols v := by
  funext n d
  show k0_pay2 v (ix2 n d) = v (ix3 0 d n)
  pointwise [k0_pay2]

/-- The accumulator starts at zero. -/
theorem pay3_eq : (k0_pay3 : FVec Ideal S1024x256 .f32) = fun _ => (0 : EReal) := by
  funext j; pointwise [k0_pay3]

/-- The accumulator is stored as columns. -/
theorem pay4_eq (v : Vec Ideal S1024x256 .f32) (a : Fin 1) (d : Fin 256) (n : Fin 1024) : k0_pay4 v (ix3 a d n) = v (ix2 n d) := by
  pointwise [k0_pay4]

/-- After the sixteen half-steps every row has gone through eight layers. -/
theorem lev_end (n : Fin 1024) : lev 16 n.val = 8 := by have := n.isLt; simp only [lev]; omega

variable (B : ℕ → Book) (R0 : Vec Ideal S1024x256 .f32)

/-- The accumulator at the end, stored as columns, is the block of sums. -/
theorem end6 {A : Vec Ideal S1024x256 .f32} (H : AtA B R0 (fun _ => (0 : EReal)) 16 A) : k0_pay4 A = out6 B (rows R0) := by
  funext j
  idx_vars j
  rw [pay4_eq, H, lev_end]
  exact zero_add _

/-- The numbers at the end are the block of the entries picked. -/
theorem end7 {I0 I : Vec Ideal S1x8x1024 .i32} (H : AtI B R0 I0 16 I) : I = out7 B (rows R0) := by
  funext j
  idx_vars j
  obtain rfl : j0 = 0 := Subsingleton.elim _ _
  rw [H, lev_end, if_pos j1.isLt]; rfl

/-- The losses at the end are those found, increased by the block's errors. -/
theorem end8 {L0 L : Vec Ideal S8x256 .f32} (H : AtL B R0 L0 16 L) : L = out8 B (rows R0) L0 := by
  funext j
  idx_vars j
  rw [H, if_pos (by have := j0.isLt; omega), if_pos (by have := j0.isLt; omega)]; rfl

/-- The quantized vectors at the end are the block of them, layer by layer. -/
theorem end9 {Q0 Q : Vec Ideal S8x1x256x1024 .f32} (H : AtQ B R0 Q0 16 Q) : Q = out9 B (rows R0) := by
  funext j
  idx_vars j
  obtain rfl : j1 = 0 := Subsingleton.elim _ _
  rw [H, lev_end, if_pos j0.isLt]; rfl

end Cert.KernelIdeal.Rvq

end
-- ==== Proof.Body.lean ====
/- The triple of one grid point's body: from its input blocks and what the loss block held, what it leaves in its four
   result blocks. -/
module

public import proofs.«01_k».proof.Proof.Loop
public import proofs.«01_k».proof.Proof.Ends
public import proofs.«01_k».proof.Proof.Gen.KernelIdeal.Points

@[expose] public section

set_option maxRecDepth 16384

noncomputable section

namespace Cert.KernelIdeal.Rvq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen Cert.Rvq

local notation "𝕄" => MT nD τ sig Unit (Elt Ideal) ℕ (UR sig nD τ) ℕ

/-- The kernel's own test for the first grid point. -/
abbrev atStart (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1

/-- It holds at point 0 alone. -/
theorem atStart_iff : ∀ t : Fin grid0.N, atStart (grid0.coords t) ↔ t.val = 0 := by decide +kernel

set_option maxHeartbeats 1000000 in
/-- The body at the first grid point, which clears the loss block. -/
theorem run_first (c : Dev nD) (i : grid0.Coords) (arg2 : Memref sig .tc .vmem S1x256x1024 .f32) (harg2 : arg2.IsWhole) (arg3 : Memref sig .tc .vmem S8x1024x256 .f32) (harg3 : arg3.IsWhole) (arg4 : Memref sig .tc .vmem S8x1024 .f32) (harg4 : arg4.IsWhole) (arg5 : Memref sig .tc .vmem S8x1024x256 .bf16) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S1x256x1024 .f32) (harg8 : arg8.IsWhole) (arg9 : Memref sig .tc .vmem S1x8x1024 .i32) (harg9 : arg9.IsWhole) (arg10 : Memref sig .tc .vmem S8x256 .f32) (harg10 : arg10.IsWhole) (arg11 : Memref sig .tc .vmem S8x1x256x1024 .f32) (harg11 : arg11.IsWhole) (arg12 : Memref sig .tc .vmem S1024x256 .f32) (harg12 : arg12.IsWhole) (arg13 : Memref sig .tc .vmem S1024x256 .f32) (harg13 : arg13.IsWhole) (hc0 : atStart i)
    (x2 : Vec Ideal S1x256x1024 .f32) (x3 : Vec Ideal S8x1024x256 .f32) (x4 : Vec Ideal S8x1024 .f32) (x5 : Vec Ideal S8x1024x256 .bf16) (x6 : Vec Ideal S8x1024x256 .bf16) (x7 : Vec Ideal S8x1024x256 .bf16) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out6 (books x3 x4 x5 x6 x7) (cols x2)) ∗ owns (c : Thread nD τ) arg9 fullShare (out7 (books x3 x4 x5 x6 x7) (cols x2)) ∗ owns (c : Thread nD τ) arg10 fullShare (out8 (books x3 x4 x5 x6 x7) (cols x2) (fun _ => (0 : EReal))) ∗ owns (c : Thread nD τ) arg11 fullShare (out9 (books x3 x4 x5 x6 x7) (cols x2)) ∗ (∃ d, owns (c : Thread nD τ) arg12 fullShare d) ∗ (∃ d, owns (c : Thread nD τ) arg13 fullShare d)) -∗ K ⟨⟩))
          ⊢ wp frame (wpE (defs₀ (F := Ideal)) Variants.none c none) E (cc0__rvq_kernel i arg2 harg2 arg3 harg3 arg4 harg4 arg5 harg5 arg6 harg6 arg7 harg7 arg8 harg8 arg9 harg9 arg10 harg10 arg11 harg11 arg12 harg12 arg13 harg13) K := by
    intro E K
    simp only [cc0__rvq_kernel_eq_skeleton]; unfold cc0__rvq_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hk⟩
    sl_exec (disch := first | sl_exact hc0)
    sl_step
    have e12 : arg12.view.read (Elt Ideal) (arg12.view.writes (Elt Ideal) arg12.view.junk (run_first.sl.H12_1 c arg2 f2)) = k0_pay2 x2 := by
      refine (View.read_writes_full arg12.view _ inb_S1024x256_S1024x256_0_0 _ []).trans (congrArg k0_pay2 ?_)
      exact (View.readAt_full arg2.view f2 _).trans hf2
    have e13 : arg13.view.read (Elt Ideal) (arg13.view.writes (Elt Ideal) arg13.view.junk run_first.sl.H13_1) = fun _ => (0 : EReal) :=
      (View.read_writes_full arg13.view _ inb_S1024x256_S1024x256_0_0 _ []).trans pay3_eq
    have e10 : arg10.view.read (Elt Ideal) (arg10.view.writes (Elt Ideal) arg10.view.junk run_first.sl.H10_1) = fun _ => (0 : EReal) :=
      (View.read_writes_full arg10.view _ inb_S8x256_S8x256_0_0 _ []).trans pay1_eq
    have hB : booksOf arg3 arg4 arg5 arg6 arg7 f3 f4 f5 f6 f7 = books x3 x4 x5 x6 x7 := by
      unfold booksOf; rw [hf3, hf4, hf5, hf6, hf7]
    have k9 := hL6 rfl
    have k10 := hL8 rfl
    have k11 := hL10 rfl
    have k13 := hL14 rfl
    rw [hB, e12] at k9 k10 k11 k13
    rw [e10] at k10
    rw [e13] at k13
    have r9 := (end7 _ _ k9).trans (congrArg (out7 _) (pay2_eq x2))
    have r10 := (end8 _ _ k10).trans (congrArg (fun ρ => out8 _ ρ _) (pay2_eq x2))
    have r11 := (end9 _ _ k11).trans (congrArg (out9 _) (pay2_eq x2))
    have r8 := (end6 _ _ k13).trans (congrArg (out6 _) (pay2_eq x2))
    iapply Hk
    isplitl [H2]
    · iexists _; isplitr; · ipureintro; exact hf2
      iexact H2
    isplitl [HL0]
    · iexists _; isplitr; · ipureintro; exact hf3
      iexact HL0
    isplitl [HL1]
    · iexists _; isplitr; · ipureintro; exact hf4
      iexact HL1
    isplitl [HL2]
    · iexists _; isplitr; · ipureintro; exact hf5
      iexact HL2
    isplitl [HL3]
    · iexists _; isplitr; · ipureintro; exact hf6
      iexact HL3
    isplitl [HL4]
    · iexists _; isplitr; · ipureintro; exact hf7
      iexact HL4
    isplitl [H8]
    · iexists _; isplitr; swap; · iexact H8
      ipureintro
      refine (View.read_writes_full arg8.view f8 inb_S1x256x1024_S1x256x1024_0_0_0 _ []).trans ?_
      exact (congrArg k0_pay4 (View.readAt_full arg13.view _ _)).trans r8
    isplitl [HL5]
    · iexists _; isplitr; · ipureintro; exact r9
      iexact HL5
    isplitl [HL7]
    · iexists _; isplitr; · ipureintro; exact r10
      iexact HL7
    isplitl [HL9]
    · iexists _; isplitr; · ipureintro; exact r11
      iexact HL9
    isplitl [HL11]
    · iexists _, _; isplitr; swap; · iexact HL11
      ipureintro; rfl
    iexists _, _; isplitr; swap; · iexact HL13
    ipureintro; rfl

set_option maxHeartbeats 1000000 in
/-- The body at any other point, which adds to what the loss block held. -/
theorem run_next (c : Dev nD) (i : grid0.Coords) (arg2 : Memref sig .tc .vmem S1x256x1024 .f32) (harg2 : arg2.IsWhole) (arg3 : Memref sig .tc .vmem S8x1024x256 .f32) (harg3 : arg3.IsWhole) (arg4 : Memref sig .tc .vmem S8x1024 .f32) (harg4 : arg4.IsWhole) (arg5 : Memref sig .tc .vmem S8x1024x256 .bf16) (harg5 : arg5.IsWhole) (arg6 : Memref sig .tc .vmem S8x1024x256 .bf16) (harg6 : arg6.IsWhole) (arg7 : Memref sig .tc .vmem S8x1024x256 .bf16) (harg7 : arg7.IsWhole) (arg8 : Memref sig .tc .vmem S1x256x1024 .f32) (harg8 : arg8.IsWhole) (arg9 : Memref sig .tc .vmem S1x8x1024 .i32) (harg9 : arg9.IsWhole) (arg10 : Memref sig .tc .vmem S8x256 .f32) (harg10 : arg10.IsWhole) (arg11 : Memref sig .tc .vmem S8x1x256x1024 .f32) (harg11 : arg11.IsWhole) (arg12 : Memref sig .tc .vmem S1024x256 .f32) (harg12 : arg12.IsWhole) (arg13 : Memref sig .tc .vmem S1024x256 .f32) (harg13 : arg13.IsWhole) (hc0 : ¬ atStart i)
    (x2 : Vec Ideal S1x256x1024 .f32) (x3 : Vec Ideal S8x1024x256 .f32) (x4 : Vec Ideal S8x1024 .f32) (x5 : Vec Ideal S8x1024x256 .bf16) (x6 : Vec Ideal S8x1024x256 .bf16) (x7 : Vec Ideal S8x1024x256 .bf16) (l : Vec Ideal S8x256 .f32) :
      ∀ (E : Set ℕ) (K : PUnit → sProp 𝕄),
        iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare l ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (out6 (books x3 x4 x5 x6 x7) (cols x2)) ∗ owns (c : Thread nD τ) arg9 fullShare (out7 (books x3 x4 x5 x6 x7) (cols x2)) ∗ owns (c : Thread nD τ) arg10 fullShare (out8 (books x3 x4 x5 x6 x7) (cols x2) l) ∗ owns (c : Thread nD τ) arg11 fullShare (out9 (books x3 x4 x5 x6 x7) (cols x2)) ∗ (∃ d, owns (c : Thread nD τ) arg12 fullShare d) ∗ (∃ d, owns (c : Thread nD τ) arg13 fullShare d)) -∗ K ⟨⟩))
          ⊢ wp frame (wpE (defs₀ (F := Ideal)) Variants.none c none) E (cc0__rvq_kernel i arg2 harg2 arg3 harg3 arg4 harg4 arg5 harg5 arg6 harg6 arg7 harg7 arg8 harg8 arg9 harg9 arg10 harg10 arg11 harg11 arg12 harg12 arg13 harg13) K := by
    intro E K
    simp only [cc0__rvq_kernel_eq_skeleton]; unfold cc0__rvq_kernel_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%d11, %f11, -, H11⟩, ⟨%d12, %f12, -, H12⟩, ⟨%d13, %f13, -, H13⟩, Hk⟩
    sl_exec (disch := first | sl_exact hc0)
    sl_step
    have e12 : arg12.view.read (Elt Ideal) (arg12.view.writes (Elt Ideal) arg12.view.junk (run_next.sl.H12_1 c arg2 f2)) = k0_pay2 x2 := by
      refine (View.read_writes_full arg12.view _ inb_S1024x256_S1024x256_0_0 _ []).trans (congrArg k0_pay2 ?_)
      exact (View.readAt_full arg2.view f2 _).trans hf2
    have e13 : arg13.view.read (Elt Ideal) (arg13.view.writes (Elt Ideal) arg13.view.junk run_next.sl.H13_1) = fun _ => (0 : EReal) :=
      (View.read_writes_full arg13.view _ inb_S1024x256_S1024x256_0_0 _ []).trans pay3_eq
    have hB : booksOf arg3 arg4 arg5 arg6 arg7 f3 f4 f5 f6 f7 = books x3 x4 x5 x6 x7 := by
      unfold booksOf; rw [hf3, hf4, hf5, hf6, hf7]
    have k9 := hL6 rfl
    have k10 := hL8 rfl
    have k11 := hL10 rfl
    have k13 := hL14 rfl
    rw [hB, e12] at k9 k10 k11 k13
    rw [hf10] at k10
    rw [e13] at k13
    have r9 := (end7 _ _ k9).trans (congrArg (out7 _) (pay2_eq x2))
    have r10 := (end8 _ _ k10).trans (congrArg (fun ρ => out8 _ ρ _) (pay2_eq x2))
    have r11 := (end9 _ _ k11).trans (congrArg (out9 _) (pay2_eq x2))
    have r8 := (end6 _ _ k13).trans (congrArg (out6 _) (pay2_eq x2))
    iapply Hk
    isplitl [H2]
    · iexists _; isplitr; · ipureintro; exact hf2
      iexact H2
    isplitl [HL0]
    · iexists _; isplitr; · ipureintro; exact hf3
      iexact HL0
    isplitl [HL1]
    · iexists _; isplitr; · ipureintro; exact hf4
      iexact HL1
    isplitl [HL2]
    · iexists _; isplitr; · ipureintro; exact hf5
      iexact HL2
    isplitl [HL3]
    · iexists _; isplitr; · ipureintro; exact hf6
      iexact HL3
    isplitl [HL4]
    · iexists _; isplitr; · ipureintro; exact hf7
      iexact HL4
    isplitl [H8]
    · iexists _; isplitr; swap; · iexact H8
      ipureintro
      refine (View.read_writes_full arg8.view f8 inb_S1x256x1024_S1x256x1024_0_0_0 _ []).trans ?_
      exact (congrArg k0_pay4 (View.readAt_full arg13.view _ _)).trans r8
    isplitl [HL5]
    · iexists _; isplitr; · ipureintro; exact r9
      iexact HL5
    isplitl [HL7]
    · iexists _; isplitr; · ipureintro; exact r10
      iexact HL7
    isplitl [HL9]
    · iexists _; isplitr; · ipureintro; exact r11
      iexact HL9
    isplitl [HL11]
    · iexists _, _; isplitr; swap; · iexact HL11
      ipureintro; rfl
    iexists _, _; isplitr; swap; · iexact HL13
    ipureintro; rfl

end Cert.KernelIdeal.Rvq

end
-- ==== Proof.Run.lean ====
/- The kernel over the extended reals, launched: what each grid point leaves in its result blocks, and what the run ends with. -/
module

public import proofs.«01_k».proof.Proof.Body
public import proofs.«01_k».proof.Proof.Gen.KernelIdeal.Frame
public import Idealize.ShloMosaic.Lib.Claim

@[expose] public section

set_option maxRecDepth 16384

noncomputable section

namespace Cert.KernelIdeal.Rvq

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)
open Cert.KernelIdeal.Gen Cert.Rvq

local notation "𝕄" => MT nD τ sig Unit (Elt Ideal) ℕ (UR sig nD τ) ℕ

variable (m : (ℓ : Loc nD τ sig) → Buf (Elt Ideal) ℓ) (ρ : Dev nD → PrngReg)

/-- The codebooks as grid point `t` reads them. -/
def bookAt (c : Dev nD) (t : Fin cfg0.N) : ℕ → Book := books (iblk m c 1 t) (iblk m c 2 t) (iblk m c 3 t) (iblk m c 4 t) (iblk m c 5 t)

/-- The token rows of grid point `t`. -/
def rowAt (c : Dev nD) (t : Fin cfg0.N) : Fin 1024 → Row := cols (iblk m c 0 t)

/-- The loss block after grid point `n`: each point adds its tokens' errors, the first to zero. -/
def lossAt (c : Dev nD) : (n : ℕ) → n < cfg0.N → Vec Ideal S8x256 .f32
  | 0, h => out8 (bookAt m c ⟨0, h⟩) (rowAt m c ⟨0, h⟩) (fun _ => (0 : EReal))
  | n + 1, h => out8 (bookAt m c ⟨n + 1, h⟩) (rowAt m c ⟨n + 1, h⟩) (lossAt c n (Nat.lt_of_succ_lt h))

/-- At the first grid point the losses start from zero. -/
theorem lossAt_first (c : Dev nD) (t : Fin cfg0.N) (h : t.val = 0) :
    lossAt m c t.val t.isLt = out8 (bookAt m c t) (rowAt m c t) (fun _ => (0 : EReal)) := by
  obtain ⟨n, hn⟩ := t
  obtain rfl : n = 0 := h
  rfl

/-- At a later grid point the losses start from those of the point before. -/
theorem lossAt_next (c : Dev nD) (t : Fin cfg0.N) (h : t.val ≠ 0) :
    lossAt m c t.val t.isLt = out8 (bookAt m c t) (rowAt m c t) (lossAt m c (t.val - 1) (Nat.lt_of_le_of_lt (Nat.sub_le _ _) t.isLt)) := by
  obtain ⟨n, hn⟩ := t
  cases n with
  | zero => exact absurd rfl h
  | succ n => rfl

/-- The pipeline's data: every input block is left in place; the result blocks hold the point's own values, the loss block
    what has been accumulated so far. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (bookAt m c t) (rowAt m c t)
    | ⟨7, _⟩ => out7 (bookAt m c t) (rowAt m c t)
    | ⟨8, _⟩ => lossAt m c t.val t.isLt
    | ⟨9, _⟩ => out9 (bookAt m c t) (rowAt m c t)
  Φ _ := Pipeline.ΦA spec0 c
  q _ := fullShare
  owed _ := 0

/-- The arrays are those that the region finds. -/
theorem dats_A (c : Dev nD) (w : Fin cfg0.W) : (dats m 0 c).A w = V m c (Pipeline.arrRef spec0 w) := by
  dsimp only [dats]

/-- The body leaves input window 0 as it was. -/
theorem after_0 (c : Dev nD) (t : Fin cfg0.N) : (dats m 0 c).after 0 t = iblk m c 0 t := by dsimp only [dats]
/-- The body leaves input window 1 as it was. -/
theorem after_1 (c : Dev nD) (t : Fin cfg0.N) : (dats m 0 c).after 1 t = iblk m c 1 t := by dsimp only [dats]
/-- The body leaves input window 2 as it was. -/
theorem after_2 (c : Dev nD) (t : Fin cfg0.N) : (dats m 0 c).after 2 t = iblk m c 2 t := by dsimp only [dats]
/-- The body leaves input window 3 as it was. -/
theorem after_3 (c : Dev nD) (t : Fin cfg0.N) : (dats m 0 c).after 3 t = iblk m c 3 t := by dsimp only [dats]
/-- The body leaves input window 4 as it was. -/
theorem after_4 (c : Dev nD) (t : Fin cfg0.N) : (dats m 0 c).after 4 t = iblk m c 4 t := by dsimp only [dats]
/-- The body leaves input window 5 as it was. -/
theorem after_5 (c : Dev nD) (t : Fin cfg0.N) : (dats m 0 c).after 5 t = iblk m c 5 t := by dsimp only [dats]
/-- The body leaves the sums in output window 6. -/
theorem after_6 (c : Dev nD) (t : Fin cfg0.N) : (dats m 0 c).after 6 t = out6 (bookAt m c t) (rowAt m c t) := by dsimp only [dats]
/-- The body leaves the numbers picked in output window 7. -/
theorem after_7 (c : Dev nD) (t : Fin cfg0.N) : (dats m 0 c).after 7 t = out7 (bookAt m c t) (rowAt m c t) := by dsimp only [dats]
/-- The body leaves the losses so far in output window 8. -/
theorem after_8 (c : Dev nD) (t : Fin cfg0.N) : (dats m 0 c).after 8 t = lossAt m c t.val t.isLt := by dsimp only [dats]
/-- The body leaves the quantized vectors in output window 9. -/
theorem after_9 (c : Dev nD) (t : Fin cfg0.N) : (dats m 0 c).after 9 t = out9 (bookAt m c t) (rowAt m c t) := by dsimp only [dats]

/-- The body finds in input window 0 the block of its array at the grid point. -/
theorem before_0 (c : Dev nD) (t : Fin cfg0.N) (d) : (dats m 0 c).before 0 t d = iblk m c 0 t :=
  before0_0_of m (dats m 0 c) (dats_A m c 0) (after_0 m c) t d
/-- The body finds in input window 1 the block of its array at the grid point. -/
theorem before_1 (c : Dev nD) (t : Fin cfg0.N) (d) : (dats m 0 c).before 1 t d = iblk m c 1 t :=
  before0_1_of m (dats m 0 c) (dats_A m c 1) (after_1 m c) t d
/-- The body finds in input window 2 the block of its array at the grid point. -/
theorem before_2 (c : Dev nD) (t : Fin cfg0.N) (d) : (dats m 0 c).before 2 t d = iblk m c 2 t :=
  before0_2_of m (dats m 0 c) (dats_A m c 2) (after_2 m c) t d
/-- The body finds in input window 3 the block of its array at the grid point. -/
theorem before_3 (c : Dev nD) (t : Fin cfg0.N) (d) : (dats m 0 c).before 3 t d = iblk m c 3 t :=
  before0_3_of m (dats m 0 c) (dats_A m c 3) (after_3 m c) t d
/-- The body finds in input window 4 the block of its array at the grid point. -/
theorem before_4 (c : Dev nD) (t : Fin cfg0.N) (d) : (dats m 0 c).before 4 t d = iblk m c 4 t :=
  before0_4_of m (dats m 0 c) (dats_A m c 4) (after_4 m c) t d
/-- The body finds in input window 5 the block of its array at the grid point. -/
theorem before_5 (c : Dev nD) (t : Fin cfg0.N) (d) : (dats m 0 c).before 5 t d = iblk m c 5 t :=
  before0_5_of m (dats m 0 c) (dats_A m c 5) (after_5 m c) t d

/-- After the first point the loss block holds what the point before left. -/
theorem before_8 (c : Dev nD) (t : Fin cfg0.N) (h : t.val ≠ 0) (d) :
    (dats m 0 c).before 8 t d = lossAt m c (t.val - 1) (Nat.lt_of_le_of_lt (Nat.sub_le _ _) t.isLt) := by
  have hN : t.val < 16 := Nat.lt_of_lt_of_eq t.isLt N_0
  refine ((dats m 0 c).before_out_kept 8 rfl t h ?_ (fun _ => rfl) (fun _ _ => rfl) d).trans (after_8 m c _)
  refine Bool.eq_false_iff.mpr fun hf => ?_
  have := (flush0_8 _).mp hf
  dsimp only at this
  omega

/-- Between points the core holds its two scratch buffers and its generator register, each at some contents. -/
theorem rest_eq (c : Dev nD) :
    (Pipeline.ΦA spec0 c : sProp 𝕄)
      = iprop(iprop((∃ d, owns (c : Thread nD τ) (Memref.whole cc0_scratch0 : Memref sig .tc .vmem S1024x256 .f32) fullShare d) ∗ (∃ d, owns (c : Thread nD τ) (Memref.whole cc0_scratch1 : Memref sig .tc .vmem S1024x256 .f32) fullShare d)) ∗ (∃ r, prngReg c r)) := by
  unfold Pipeline.ΦA; rw [scopedRest0_eq]; simp only [owns_whole]; try rfl

/-- What the body is called with at a point, -/
def bodyPre (c : Dev nD) (t : Fin cfg0.N) : sProp 𝕄 :=
  iprop((dats m 0 c).Φ t.castSucc
    ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d)))

/-- and what it hands back. -/
def bodyPost (c : Dev nD) (t : Fin cfg0.N) : sProp 𝕄 :=
  iprop((dats m 0 c).Φ t.succ
    ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t))

set_option maxHeartbeats 2400000 in
/-- The body at any point. -/
theorem body_at (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before_0, before_1, before_2, before_3, before_4, before_5]
  rw [show (dats m 0 c).Φ t.succ = (dats m 0 c).Φ t.castSucc from rfl,
    show (dats m 0 c).owesAt () t.succ = (dats m 0 c).owesAt () t.castSucc from rfl,
    after_0, after_1, after_2, after_3, after_4, after_5, after_6, after_7, after_8, after_9]
  rw [show (dats m 0 c).Φ t.castSucc = Pipeline.ΦA spec0 c from rfl, rest_eq]
  by_cases h0 : t.val = 0
  · rw [lossAt_first m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_first c (grid0.coords t) _ _ _ _ _ _ _ _ _ _ _ _ _ _ _ _ _ _ _ _ _ _ _ _ ((atStart_iff t).mpr h0) (iblk m c 0 t) (iblk m c 1 t) (iblk m c 2 t) (iblk m c 3 t) (iblk m c 4 t) (iblk m c 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · simp only [before_8 m c t h0]
    rw [lossAt_next m c t h0]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (run_next c (grid0.coords t) _ _ _ _ _ _ _ _ _ _ _ _ _ _ _ _ _ _ _ _ _ _ _ _ (fun h => h0 ((atStart_iff t).mp h)) (iblk m c 0 t) (iblk m c 1 t) (iblk m c 2 t) (iblk m c 3 t) (iblk m c 4 t) (iblk m c 5 t) (lossAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexact H8
    isplitl [H9]; · iexists _; iexact H9
    isplitl [HS0]; · iexact HS0
    isplitl [HS1]; · iexact HS1
    iintro ⟨H0, H1, H2, H3, H4, H5, H6, H7, H8, H9, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9

/-- The body table's entry at a point is the body at that point's buffers. -/
theorem defs_at (t : Fin cfg0.N) : defs₀ (F := Ideal) .tc cfg0.body (cfg0.bodyArgs t (cfg0.slots t)) = bodyAt0 t := by
  unfold defs₀; rw [Defs.onTc_tc]

/-- The pipeline's obligation on the body. -/
theorem obligation (c : Dev nD) : BodyObligation (dats m 0 c) (defs₀ (F := Ideal)) Variants.none () Set.univ := fun t => by
  rw [bigSep_W0, bigSep_W0, defs_at]
  exact triple_restated (body_at m c t) rfl .rfl fun _ => .rfl

-- the theorem's implicit arguments are found by unfolding plain definitions
set_option backward.isDefEq.respectTransparency.types false in
set_option maxHeartbeats 800000 in
/-- The launch: the arrays end at what the grid points wrote back, the other buffers at what the host computes from them, and
    every semaphore counter at zero. -/
theorem run_quiet : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The run without the counters. -/
theorem run_main : θ_run defs (onTc (τ := τ) (main (F := Ideal))) (s₀ m ρ) (Pipeline.FramePost cfgs (dats m) 0 (Pipeline.afterTail₀ cfgs (dats m) 0 (V0 m) [hostOps1])) :=
  (θ_run defs _ _).mono (fun _ h => h.1) (run_quiet m ρ)

/-- The frame: at every final state the arguments are unchanged and every semaphore counter is zero. -/
theorem frame_holds : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  θ_run_and (frame_of m ρ (dats m) (dats_A m) (run_main m ρ)) ((θ_run defs _ _).mono (fun _ h => h.2) (run_quiet m ρ))

end Cert.KernelIdeal.Rvq

end
-- ==== Proof.RefOps.lean ====
/- The reference's host program as a list of operations: eight layers of one shape, each over buffers of its own, between two
   operations that make the zero array and the thirty-six that stack the layers' results. -/
module

public import proofs.«01_k».proof.Proof.Gen.ReferenceIdeal
public import Idealize.ShloMosaic.Lib.StableHlo.Run
public import Idealize.ShloMosaic.Lib.Pipeline.Frame

@[expose] public section

set_option maxRecDepth 16384

noncomputable section

namespace Cert.ReferenceIdeal.Rvq

open Cert.ReferenceIdeal Cert.ReferenceIdeal.Gen Idealize.ShloMosaic Idealize.ShloMosaic.TcCoe Idealize.SL.Sem
open Idealize.ShloMosaic.StableHlo

variable {F : FTy → Type} [FloatOps F]

/-- The buffer of layer `q`'s value number `k`: the layers' values lie one after the other. -/
abbrev cell (q : Fin 8) (k : Fin 78) : Ref sig .tc := ⟨.hbm, ⟨4 + 78 * q.val + k.val, by have := q.isLt; have := k.isLt; show _ < 664; omega⟩, rfl⟩

/-- That buffer with the type of its contents. -/
abbrev val (q : Fin 8) (k : Fin 78) (T : BufTy) (h : (cell q k).ty = T) : TRef sig T := ⟨cell q k, h, by show Space.hbm ≠ Space.host; decide, rfl⟩

/-- The slice of one codebook is in bounds. -/
theorem slices (q : Fin 8) : S8x1024x256.Slices ![q.val, 0, 0] S1x1024x256 := by
  fin_cases q <;> decide

/-- The codebooks' buffer. -/
abbrev books : TRef sig ⟨S8x1024x256, .f32⟩ := .of main_arg1

/-! The values of a layer in the order the program writes them, under the printed names: `t` and a number for the values, `c` for
the constants, `a_` for those of the arg-max, `g_` for those of the gather. -/

abbrev t1 (q : Fin 8) : TRef sig ⟨S1x1024x256, .f32⟩ := val q 0 _ (by fin_cases q <;> rfl)
abbrev t2 (q : Fin 8) : TRef sig ⟨S1024x256, .f32⟩ := val q 1 _ (by fin_cases q <;> rfl)
abbrev t3 (q : Fin 8) : TRef sig ⟨S8x2048x256, .f32⟩ := val q 2 _ (by fin_cases q <;> rfl)
abbrev t4 (q : Fin 8) : TRef sig ⟨S16384x256, .f32⟩ := val q 3 _ (by fin_cases q <;> rfl)
abbrev t5 (q : Fin 8) : TRef sig ⟨S16384x256, .f32⟩ := val q 4 _ (by fin_cases q <;> rfl)
abbrev c0 (q : Fin 8) : TRef sig ⟨S_, .f32⟩ := val q 5 _ (by fin_cases q <;> rfl)
abbrev t6 (q : Fin 8) : TRef sig ⟨S16384, .f32⟩ := val q 6 _ (by fin_cases q <;> rfl)
abbrev t7 (q : Fin 8) : TRef sig ⟨S16384x1, .f32⟩ := val q 7 _ (by fin_cases q <;> rfl)
abbrev c1 (q : Fin 8) : TRef sig ⟨S_, .f32⟩ := val q 8 _ (by fin_cases q <;> rfl)
abbrev t8 (q : Fin 8) : TRef sig ⟨S16384x256, .f32⟩ := val q 9 _ (by fin_cases q <;> rfl)
abbrev t9 (q : Fin 8) : TRef sig ⟨S16384x256, .f32⟩ := val q 10 _ (by fin_cases q <;> rfl)
abbrev t10 (q : Fin 8) : TRef sig ⟨S256x1024, .f32⟩ := val q 11 _ (by fin_cases q <;> rfl)
abbrev t11 (q : Fin 8) : TRef sig ⟨S16384x1024, .f32⟩ := val q 12 _ (by fin_cases q <;> rfl)
abbrev t12 (q : Fin 8) : TRef sig ⟨S16384x1024, .f32⟩ := val q 13 _ (by fin_cases q <;> rfl)
abbrev t13 (q : Fin 8) : TRef sig ⟨S16384x1024, .f32⟩ := val q 14 _ (by fin_cases q <;> rfl)
abbrev t14 (q : Fin 8) : TRef sig ⟨S1024x256, .f32⟩ := val q 15 _ (by fin_cases q <;> rfl)
abbrev c2 (q : Fin 8) : TRef sig ⟨S_, .f32⟩ := val q 16 _ (by fin_cases q <;> rfl)
abbrev t15 (q : Fin 8) : TRef sig ⟨S1024, .f32⟩ := val q 17 _ (by fin_cases q <;> rfl)
abbrev t16 (q : Fin 8) : TRef sig ⟨S1x1024, .f32⟩ := val q 18 _ (by fin_cases q <;> rfl)
abbrev t17 (q : Fin 8) : TRef sig ⟨S16384x1024, .f32⟩ := val q 19 _ (by fin_cases q <;> rfl)
abbrev t18 (q : Fin 8) : TRef sig ⟨S16384x1024, .f32⟩ := val q 20 _ (by fin_cases q <;> rfl)
abbrev t19 (q : Fin 8) : TRef sig ⟨S16384x1024, .f32⟩ := val q 21 _ (by fin_cases q <;> rfl)
abbrev a_v0 (q : Fin 8) : TRef sig ⟨S16384x1024, .i32⟩ := val q 22 _ (by fin_cases q <;> rfl)
abbrev a_cst (q : Fin 8) : TRef sig ⟨S_, .f32⟩ := val q 23 _ (by fin_cases q <;> rfl)
abbrev a_c (q : Fin 8) : TRef sig ⟨S_, .i32⟩ := val q 24 _ (by fin_cases q <;> rfl)
abbrev a_v1_0 (q : Fin 8) : TRef sig ⟨S16384, .f32⟩ := val q 25 _ (by fin_cases q <;> rfl)
abbrev t20 (q : Fin 8) : TRef sig ⟨S16384, .i32⟩ := val q 26 _ (by fin_cases q <;> rfl)
abbrev t21 (q : Fin 8) : TRef sig ⟨S8x2048, .i32⟩ := val q 27 _ (by fin_cases q <;> rfl)
abbrev g_c (q : Fin 8) : TRef sig ⟨S_, .i32⟩ := val q 28 _ (by fin_cases q <;> rfl)
abbrev g_v0 (q : Fin 8) : TRef sig ⟨S8x2048, .i32⟩ := val q 29 _ (by fin_cases q <;> rfl)
abbrev g_v1 (q : Fin 8) : TRef sig ⟨S8x2048, .i1⟩ := val q 30 _ (by fin_cases q <;> rfl)
abbrev g_c_0 (q : Fin 8) : TRef sig ⟨S_, .i32⟩ := val q 31 _ (by fin_cases q <;> rfl)
abbrev g_v2 (q : Fin 8) : TRef sig ⟨S8x2048, .i32⟩ := val q 32 _ (by fin_cases q <;> rfl)
abbrev g_v3 (q : Fin 8) : TRef sig ⟨S8x2048, .i32⟩ := val q 33 _ (by fin_cases q <;> rfl)
abbrev g_v4 (q : Fin 8) : TRef sig ⟨S8x2048, .i32⟩ := val q 34 _ (by fin_cases q <;> rfl)
abbrev g_v5 (q : Fin 8) : TRef sig ⟨S8x2048x1, .i32⟩ := val q 35 _ (by fin_cases q <;> rfl)
abbrev g_c_1 (q : Fin 8) : TRef sig ⟨S1, .i32⟩ := val q 36 _ (by fin_cases q <;> rfl)
abbrev g_c_2 (q : Fin 8) : TRef sig ⟨S_, .i32⟩ := val q 37 _ (by fin_cases q <;> rfl)
abbrev g_v6 (q : Fin 8) : TRef sig ⟨S8x2048x1, .i32⟩ := val q 38 _ (by fin_cases q <;> rfl)
abbrev g_v7 (q : Fin 8) : TRef sig ⟨S8x2048x1, .i1⟩ := val q 39 _ (by fin_cases q <;> rfl)
abbrev g_v8 (q : Fin 8) : TRef sig ⟨S1x1x1, .i32⟩ := val q 40 _ (by fin_cases q <;> rfl)
abbrev g_v9 (q : Fin 8) : TRef sig ⟨S8x2048x1, .i32⟩ := val q 41 _ (by fin_cases q <;> rfl)
abbrev g_v10 (q : Fin 8) : TRef sig ⟨S8x2048x1, .i1⟩ := val q 42 _ (by fin_cases q <;> rfl)
abbrev g_v11 (q : Fin 8) : TRef sig ⟨S8x2048x1, .i1⟩ := val q 43 _ (by fin_cases q <;> rfl)
abbrev g_c_3 (q : Fin 8) : TRef sig ⟨S_, .i1⟩ := val q 44 _ (by fin_cases q <;> rfl)
abbrev g_v12 (q : Fin 8) : TRef sig ⟨S8x2048, .i1⟩ := val q 45 _ (by fin_cases q <;> rfl)
abbrev g_v13 (q : Fin 8) : TRef sig ⟨S8x2048x256, .f32⟩ := val q 46 _ (by fin_cases q <;> rfl)
abbrev g_v14 (q : Fin 8) : TRef sig ⟨S8x2048x256, .i1⟩ := val q 47 _ (by fin_cases q <;> rfl)
abbrev g_cst (q : Fin 8) : TRef sig ⟨S_, .f32⟩ := val q 48 _ (by fin_cases q <;> rfl)
abbrev g_v15 (q : Fin 8) : TRef sig ⟨S8x2048x256, .f32⟩ := val q 49 _ (by fin_cases q <;> rfl)
abbrev t22 (q : Fin 8) : TRef sig ⟨S8x2048x256, .f32⟩ := val q 50 _ (by fin_cases q <;> rfl)
abbrev t23 (q : Fin 8) : TRef sig ⟨S8x256x2048, .f32⟩ := val q 51 _ (by fin_cases q <;> rfl)
abbrev t24 (q : Fin 8) : TRef sig ⟨S8x256x2048, .f32⟩ := val q 52 _ (by fin_cases q <;> rfl)
abbrev t25 (q : Fin 8) : TRef sig ⟨S8x256x2048, .f32⟩ := val q 53 _ (by fin_cases q <;> rfl)
abbrev c3 (q : Fin 8) : TRef sig ⟨S_, .f32⟩ := val q 54 _ (by fin_cases q <;> rfl)
abbrev t26 (q : Fin 8) : TRef sig ⟨S8, .f32⟩ := val q 55 _ (by fin_cases q <;> rfl)
abbrev c4 (q : Fin 8) : TRef sig ⟨S_, .f32⟩ := val q 56 _ (by fin_cases q <;> rfl)
abbrev t27 (q : Fin 8) : TRef sig ⟨S8, .f32⟩ := val q 57 _ (by fin_cases q <;> rfl)
abbrev t28 (q : Fin 8) : TRef sig ⟨S8, .f32⟩ := val q 58 _ (by fin_cases q <;> rfl)
abbrev t29 (q : Fin 8) : TRef sig ⟨S8x256x2048, .f32⟩ := val q 59 _ (by fin_cases q <;> rfl)
abbrev t30 (q : Fin 8) : TRef sig ⟨S8x256x2048, .f32⟩ := val q 60 _ (by fin_cases q <;> rfl)
abbrev c5 (q : Fin 8) : TRef sig ⟨S_, .f32⟩ := val q 61 _ (by fin_cases q <;> rfl)
abbrev t31 (q : Fin 8) : TRef sig ⟨S8, .f32⟩ := val q 62 _ (by fin_cases q <;> rfl)
abbrev c6 (q : Fin 8) : TRef sig ⟨S_, .f32⟩ := val q 63 _ (by fin_cases q <;> rfl)
abbrev t32 (q : Fin 8) : TRef sig ⟨S8, .f32⟩ := val q 64 _ (by fin_cases q <;> rfl)
abbrev t33 (q : Fin 8) : TRef sig ⟨S8, .f32⟩ := val q 65 _ (by fin_cases q <;> rfl)
abbrev t34 (q : Fin 8) : TRef sig ⟨S8x256x2048, .f32⟩ := val q 66 _ (by fin_cases q <;> rfl)
abbrev t35 (q : Fin 8) : TRef sig ⟨S8x256x2048, .f32⟩ := val q 67 _ (by fin_cases q <;> rfl)
abbrev t36 (q : Fin 8) : TRef sig ⟨S8x256x2048, .f32⟩ := val q 68 _ (by fin_cases q <;> rfl)
abbrev t37 (q : Fin 8) : TRef sig ⟨S8x256x2048, .f32⟩ := val q 69 _ (by fin_cases q <;> rfl)
abbrev c7 (q : Fin 8) : TRef sig ⟨S_, .f32⟩ := val q 70 _ (by fin_cases q <;> rfl)
abbrev t38 (q : Fin 8) : TRef sig ⟨S_, .f32⟩ := val q 71 _ (by fin_cases q <;> rfl)
abbrev c8 (q : Fin 8) : TRef sig ⟨S_, .f32⟩ := val q 72 _ (by fin_cases q <;> rfl)
abbrev t39 (q : Fin 8) : TRef sig ⟨S_, .f32⟩ := val q 73 _ (by fin_cases q <;> rfl)
abbrev c9 (q : Fin 8) : TRef sig ⟨S_, .f32⟩ := val q 74 _ (by fin_cases q <;> rfl)
abbrev t40 (q : Fin 8) : TRef sig ⟨S_, .f32⟩ := val q 75 _ (by fin_cases q <;> rfl)
abbrev c10 (q : Fin 8) : TRef sig ⟨S_, .f32⟩ := val q 76 _ (by fin_cases q <;> rfl)
abbrev t41 (q : Fin 8) : TRef sig ⟨S_, .f32⟩ := val q 77 _ (by fin_cases q <;> rfl)

/-- The operations of layer `q` that find the nearest entry of every token of the residual `x`. -/
abbrev findOps (q : Fin 8) (x : TRef sig ⟨S8x256x2048, .f32⟩) : List (HloOp τ sig (Elt F)) :=
  [ TRef.unary books (t1 q) (extractStridedSlice S1x1024x256 ![q.val, 0, 0] · (slices q)),
    TRef.reshape (t1 q) (t2 q) rfl shapeCasts_S1x1024x256_S1024x256,
    TRef.unary x (t3 q) (transpose S8x2048x256 [0, 2, 1] · transposes_S8x256x2048_S8x2048x256_0_2_1),
    TRef.reshape (t3 q) (t4 q) rfl shapeCasts_S8x2048x256_S16384x256,
    TRef.binary (t4 q) (t4 q) (t5 q) mulf,
    TRef.nullary (c0 q) (constant S_ .f32 0x00000000#32),
    TRef.binary (t5 q) (c0 q) (t6 q) (fun x v => Host.reduceAdd x v reducesTo_S16384x256_S16384_d1 h_S_),
    TRef.unary (t6 q) (t7 q) (broadcastInDim S16384x1 ![0] bcast_S16384_S16384x1_0),
    TRef.nullary (c1 q) (constant S_ .f32 0x40000000#32),
    TRef.unary (c1 q) (t8 q) (broadcastInDim S16384x256 ![] bcast_S_S16384x256),
    TRef.binary (t8 q) (t4 q) (t9 q) mulf,
    TRef.unary (t2 q) (t10 q) (transpose S256x1024 [1, 0] · transposes_S1024x256_S256x1024_1_0),
    TRef.binary (t9 q) (t10 q) (t11 q) (fun l r => Host.dotGeneral dot_S16384x256_S256x1024_S16384x1024_1_0_0_1_n_n none l r),
    TRef.unary (t7 q) (t12 q) (broadcastInDim S16384x1024 ![0, 1] bcast_S16384x1_S16384x1024_0_1),
    TRef.binary (t12 q) (t11 q) (t13 q) subf,
    TRef.binary (t2 q) (t2 q) (t14 q) mulf,
    TRef.nullary (c2 q) (constant S_ .f32 0x00000000#32),
    TRef.binary (t14 q) (c2 q) (t15 q) (fun x v => Host.reduceAdd x v reducesTo_S1024x256_S1024_d1 h_S_),
    TRef.unary (t15 q) (t16 q) (broadcastInDim S1x1024 ![1] bcast_S1024_S1x1024_1),
    TRef.unary (t16 q) (t17 q) (broadcastInDim S16384x1024 ![0, 1] bcast_S1x1024_S16384x1024_0_1),
    TRef.binary (t13 q) (t17 q) (t18 q) addf,
    TRef.unary (t18 q) (t19 q) Host.negf,
    TRef.nullary (a_v0 q) (iotaInDim S16384x1024 32 1),
    TRef.nullary (a_cst q) (constant S_ .f32 0xFF800000#32),
    TRef.nullary (a_c q) (constantI S_ 32 0#32),
    TRef.quaternary (t19 q) (a_v0 q) (a_cst q) (a_c q) (a_v1_0 q) (fun x y u v j => (Host.argReduce reducer_argmax_f32_i32 x y u v reducesTo_S16384x1024_S16384_d1 h_S_ j).1),
    TRef.quaternary (t19 q) (a_v0 q) (a_cst q) (a_c q) (t20 q) (fun x y u v j => (Host.argReduce reducer_argmax_f32_i32 x y u v reducesTo_S16384x1024_S16384_d1 h_S_ j).2),
    TRef.reshape (t20 q) (t21 q) rfl shapeCasts_S16384_S8x2048 ]

/-- The operations of layer `q` that gather the entries found. -/
abbrev takeOps (q : Fin 8) : List (HloOp τ sig (Elt F)) :=
  [ TRef.nullary (g_c q) (constantI S_ 32 0#32),
    TRef.unary (g_c q) (g_v0 q) (broadcastInDim S8x2048 ![] bcast_S_S8x2048),
    TRef.binary (t21 q) (g_v0 q) (g_v1 q) (cmpi .slt),
    TRef.nullary (g_c_0 q) (constantI S_ 32 1024#32),
    TRef.unary (g_c_0 q) (g_v2 q) (broadcastInDim S8x2048 ![] bcast_S_S8x2048),
    TRef.binary (t21 q) (g_v2 q) (g_v3 q) addi,
    TRef.ternary (g_v1 q) (g_v3 q) (t21 q) (g_v4 q) select,
    TRef.unary (g_v4 q) (g_v5 q) (broadcastInDim S8x2048x1 ![0, 1] bcast_S8x2048_S8x2048x1_0_1),
    TRef.nullary (g_c_1 q) (constantI S1 32 1023#32),
    TRef.nullary (g_c_2 q) (constantI S_ 32 0#32),
    TRef.unary (g_c_2 q) (g_v6 q) (broadcastInDim S8x2048x1 ![] bcast_S_S8x2048x1),
    TRef.binary (g_v5 q) (g_v6 q) (g_v7 q) (cmpi .sge),
    TRef.unary (g_c_1 q) (g_v8 q) (broadcastInDim S1x1x1 ![2] bcast_S1_S1x1x1_2),
    TRef.unary (g_v8 q) (g_v9 q) (broadcastInDim S8x2048x1 ![0, 1, 2] bcast_S1x1x1_S8x2048x1_0_1_2),
    TRef.binary (g_v5 q) (g_v9 q) (g_v10 q) (cmpi .sle),
    TRef.binary (g_v7 q) (g_v10 q) (g_v11 q) andi,
    TRef.nullary (g_c_3 q) (constantI S_ 1 1#1),
    TRef.binary (g_v11 q) (g_c_3 q) (g_v12 q) (fun x v => Host.reduce IntOp.andi x v reducesTo_S8x2048x1_S8x2048_d2 h_S_),
    TRef.binary (t2 q) (g_v5 q) (g_v13 q) (fun x i => Host.gather gather_S1024x256_S8x2048x1_S8x2048x256_2_0_n_n_0_2_1256 x i),
    TRef.unary (g_v12 q) (g_v14 q) (broadcastInDim S8x2048x256 ![0, 1] bcast_S8x2048_S8x2048x256_0_1),
    TRef.nullary (g_cst q) (constant S_ .f32 0x7FC00000#32),
    TRef.unary (g_cst q) (g_v15 q) (broadcastInDim S8x2048x256 ![] bcast_S_S8x2048x256),
    TRef.ternary (g_v14 q) (g_v13 q) (g_v15 q) (t22 q) select ]

/-- The operations of layer `q` that update the sum `a` and the residual `x` and compute the two losses. -/
abbrev stepOps (q : Fin 8) (x : TRef sig ⟨S8x256x2048, .f32⟩) (a : TRef sig ⟨S8x256x2048, .f32⟩) : List (HloOp τ sig (Elt F)) :=
  [ TRef.unary (t22 q) (t23 q) (transpose S8x256x2048 [0, 2, 1] · transposes_S8x2048x256_S8x256x2048_0_2_1),
    TRef.binary x (t23 q) (t24 q) subf,
    TRef.binary (t24 q) (t24 q) (t25 q) mulf,
    TRef.nullary (c3 q) (constant S_ .f32 0x00000000#32),
    TRef.binary (t25 q) (c3 q) (t26 q) (fun x v => Host.reduceAdd x v reducesTo_S8x256x2048_S8_d1_2 h_S_),
    TRef.nullary (c4 q) (constant S_ .f32 0x49000000#32),
    TRef.unary (c4 q) (t27 q) (broadcastInDim S8 ![] bcast_S_S8),
    TRef.binary (t26 q) (t27 q) (t28 q) Host.divf,
    TRef.binary (t23 q) x (t29 q) subf,
    TRef.binary (t29 q) (t29 q) (t30 q) mulf,
    TRef.nullary (c5 q) (constant S_ .f32 0x00000000#32),
    TRef.binary (t30 q) (c5 q) (t31 q) (fun x v => Host.reduceAdd x v reducesTo_S8x256x2048_S8_d1_2 h_S_),
    TRef.nullary (c6 q) (constant S_ .f32 0x49000000#32),
    TRef.unary (c6 q) (t32 q) (broadcastInDim S8 ![] bcast_S_S8),
    TRef.binary (t31 q) (t32 q) (t33 q) Host.divf,
    TRef.binary (t23 q) x (t34 q) subf,
    TRef.binary x (t34 q) (t35 q) addf,
    TRef.binary a (t35 q) (t36 q) addf,
    TRef.binary x (t35 q) (t37 q) subf,
    TRef.nullary (c7 q) (constant S_ .f32 0x00000000#32),
    TRef.binary (t28 q) (c7 q) (t38 q) (fun x v => Host.reduceAdd x v reducesTo_S8_S_d0 h_S_),
    TRef.nullary (c8 q) (constant S_ .f32 0x41000000#32),
    TRef.binary (t38 q) (c8 q) (t39 q) Host.divf,
    TRef.nullary (c9 q) (constant S_ .f32 0x00000000#32),
    TRef.binary (t33 q) (c9 q) (t40 q) (fun x v => Host.reduceAdd x v reducesTo_S8_S_d0 h_S_),
    TRef.nullary (c10 q) (constant S_ .f32 0x41000000#32),
    TRef.binary (t40 q) (c10 q) (t41 q) Host.divf ]

/-- Layer `q`'s operations, from the residual `x` and the sum `a` so far. -/
abbrev layerOps (q : Fin 8) (x a : TRef sig ⟨S8x256x2048, .f32⟩) : List (HloOp τ sig (Elt F)) :=
  findOps q x ++ (takeOps q ++ stepOps q x a)

/-- The zero array. -/
abbrev zeroOps : List (HloOp τ sig (Elt F)) :=
  [ TRef.nullary (.of (T := ⟨S_, .f32⟩) main_cst) (constant S_ .f32 0x00000000#32),
    TRef.unary (.of (T := ⟨S_, .f32⟩) main_cst) (.of (T := ⟨S8x256x2048, .f32⟩) main_v0) (broadcastInDim S8x256x2048 ![] bcast_S_S8x256x2048) ]

/-- The layers' indices, one after the other. -/
def stackIdx (u : Fin 8 → (⟨S1x8x2048, .i32⟩ : BufTy).Contents (Elt F)) : (⟨S8x8x2048, .i32⟩ : BufTy).Contents (Elt F) :=
  concatenate S8x8x2048 0 [⟨S1x8x2048, u 0⟩, ⟨S1x8x2048, u 1⟩, ⟨S1x8x2048, u 2⟩, ⟨S1x8x2048, u 3⟩, ⟨S1x8x2048, u 4⟩, ⟨S1x8x2048, u 5⟩, ⟨S1x8x2048, u 6⟩, ⟨S1x8x2048, u 7⟩] concatenates_S1x8x2048_S1x8x2048_S1x8x2048_S1x8x2048_S1x8x2048_S1x8x2048_S1x8x2048_S1x8x2048_S8x8x2048_d0

/-- The layers' losses, one after the other. -/
def stackLoss (u : Fin 8 → (⟨S1, .f32⟩ : BufTy).Contents (Elt F)) : (⟨S8, .f32⟩ : BufTy).Contents (Elt F) :=
  concatenate S8 0 [⟨S1, u 0⟩, ⟨S1, u 1⟩, ⟨S1, u 2⟩, ⟨S1, u 3⟩, ⟨S1, u 4⟩, ⟨S1, u 5⟩, ⟨S1, u 6⟩, ⟨S1, u 7⟩] concatenates_S1_S1_S1_S1_S1_S1_S1_S1_S8_d0

/-- The layers' quantized arrays, one after the other. -/
def stackQuant (u : Fin 8 → (⟨S1x8x256x2048, .f32⟩ : BufTy).Contents (Elt F)) : (⟨S8x8x256x2048, .f32⟩ : BufTy).Contents (Elt F) :=
  concatenate S8x8x256x2048 0 [⟨S1x8x256x2048, u 0⟩, ⟨S1x8x256x2048, u 1⟩, ⟨S1x8x256x2048, u 2⟩, ⟨S1x8x256x2048, u 3⟩, ⟨S1x8x256x2048, u 4⟩, ⟨S1x8x256x2048, u 5⟩, ⟨S1x8x256x2048, u 6⟩, ⟨S1x8x256x2048, u 7⟩] concatenates_S1x8x256x2048_S1x8x256x2048_S1x8x256x2048_S1x8x256x2048_S1x8x256x2048_S1x8x256x2048_S1x8x256x2048_S1x8x256x2048_S8x8x256x2048_d0

/-- The operations that stack the layers' indices. -/
abbrev idxOps : List (HloOp τ sig (Elt F)) :=
  [ unary main_v21 main_v329 (broadcastInDim S1x8x2048 ![1, 2] bcast_S8x2048_S1x8x2048_1_2 : (⟨S8x2048, .i32⟩ : BufTy).Contents (Elt F) → (⟨S1x8x2048, .i32⟩ : BufTy).Contents (Elt F)),
    unary main_v62 main_v330 (broadcastInDim S1x8x2048 ![1, 2] bcast_S8x2048_S1x8x2048_1_2 : (⟨S8x2048, .i32⟩ : BufTy).Contents (Elt F) → (⟨S1x8x2048, .i32⟩ : BufTy).Contents (Elt F)),
    unary main_v103 main_v331 (broadcastInDim S1x8x2048 ![1, 2] bcast_S8x2048_S1x8x2048_1_2 : (⟨S8x2048, .i32⟩ : BufTy).Contents (Elt F) → (⟨S1x8x2048, .i32⟩ : BufTy).Contents (Elt F)),
    unary main_v144 main_v332 (broadcastInDim S1x8x2048 ![1, 2] bcast_S8x2048_S1x8x2048_1_2 : (⟨S8x2048, .i32⟩ : BufTy).Contents (Elt F) → (⟨S1x8x2048, .i32⟩ : BufTy).Contents (Elt F)),
    unary main_v185 main_v333 (broadcastInDim S1x8x2048 ![1, 2] bcast_S8x2048_S1x8x2048_1_2 : (⟨S8x2048, .i32⟩ : BufTy).Contents (Elt F) → (⟨S1x8x2048, .i32⟩ : BufTy).Contents (Elt F)),
    unary main_v226 main_v334 (broadcastInDim S1x8x2048 ![1, 2] bcast_S8x2048_S1x8x2048_1_2 : (⟨S8x2048, .i32⟩ : BufTy).Contents (Elt F) → (⟨S1x8x2048, .i32⟩ : BufTy).Contents (Elt F)),
    unary main_v267 main_v335 (broadcastInDim S1x8x2048 ![1, 2] bcast_S8x2048_S1x8x2048_1_2 : (⟨S8x2048, .i32⟩ : BufTy).Contents (Elt F) → (⟨S1x8x2048, .i32⟩ : BufTy).Contents (Elt F)),
    unary main_v308 main_v336 (broadcastInDim S1x8x2048 ![1, 2] bcast_S8x2048_S1x8x2048_1_2 : (⟨S8x2048, .i32⟩ : BufTy).Contents (Elt F) → (⟨S1x8x2048, .i32⟩ : BufTy).Contents (Elt F)),
    nary ![main_v329, main_v330, main_v331, main_v332, main_v333, main_v334, main_v335, main_v336] main_v337 (fun u => stackIdx (F := F) ![u 0, u 1, u 2, u 3, u 4, u 5, u 6, u 7]) ]

/-- The operations that stack the layers' commitment losses. -/
abbrev commitOps : List (HloOp τ sig (Elt F)) :=
  [ unary main_v39 main_v338 (broadcastInDim S1 ![] bcast_S_S1 : (⟨S_, .f32⟩ : BufTy).Contents (Elt F) → (⟨S1, .f32⟩ : BufTy).Contents (Elt F)),
    unary main_v80 main_v339 (broadcastInDim S1 ![] bcast_S_S1 : (⟨S_, .f32⟩ : BufTy).Contents (Elt F) → (⟨S1, .f32⟩ : BufTy).Contents (Elt F)),
    unary main_v121 main_v340 (broadcastInDim S1 ![] bcast_S_S1 : (⟨S_, .f32⟩ : BufTy).Contents (Elt F) → (⟨S1, .f32⟩ : BufTy).Contents (Elt F)),
    unary main_v162 main_v341 (broadcastInDim S1 ![] bcast_S_S1 : (⟨S_, .f32⟩ : BufTy).Contents (Elt F) → (⟨S1, .f32⟩ : BufTy).Contents (Elt F)),
    unary main_v203 main_v342 (broadcastInDim S1 ![] bcast_S_S1 : (⟨S_, .f32⟩ : BufTy).Contents (Elt F) → (⟨S1, .f32⟩ : BufTy).Contents (Elt F)),
    unary main_v244 main_v343 (broadcastInDim S1 ![] bcast_S_S1 : (⟨S_, .f32⟩ : BufTy).Contents (Elt F) → (⟨S1, .f32⟩ : BufTy).Contents (Elt F)),
    unary main_v285 main_v344 (broadcastInDim S1 ![] bcast_S_S1 : (⟨S_, .f32⟩ : BufTy).Contents (Elt F) → (⟨S1, .f32⟩ : BufTy).Contents (Elt F)),
    unary main_v326 main_v345 (broadcastInDim S1 ![] bcast_S_S1 : (⟨S_, .f32⟩ : BufTy).Contents (Elt F) → (⟨S1, .f32⟩ : BufTy).Contents (Elt F)),
    nary ![main_v338, main_v339, main_v340, main_v341, main_v342, main_v343, main_v344, main_v345] main_v346 (fun u => stackLoss (F := F) ![u 0, u 1, u 2, u 3, u 4, u 5, u 6, u 7]) ]

/-- The operations that stack the layers' codebook losses. -/
abbrev codeOps : List (HloOp τ sig (Elt F)) :=
  [ unary main_v41 main_v347 (broadcastInDim S1 ![] bcast_S_S1 : (⟨S_, .f32⟩ : BufTy).Contents (Elt F) → (⟨S1, .f32⟩ : BufTy).Contents (Elt F)),
    unary main_v82 main_v348 (broadcastInDim S1 ![] bcast_S_S1 : (⟨S_, .f32⟩ : BufTy).Contents (Elt F) → (⟨S1, .f32⟩ : BufTy).Contents (Elt F)),
    unary main_v123 main_v349 (broadcastInDim S1 ![] bcast_S_S1 : (⟨S_, .f32⟩ : BufTy).Contents (Elt F) → (⟨S1, .f32⟩ : BufTy).Contents (Elt F)),
    unary main_v164 main_v350 (broadcastInDim S1 ![] bcast_S_S1 : (⟨S_, .f32⟩ : BufTy).Contents (Elt F) → (⟨S1, .f32⟩ : BufTy).Contents (Elt F)),
    unary main_v205 main_v351 (broadcastInDim S1 ![] bcast_S_S1 : (⟨S_, .f32⟩ : BufTy).Contents (Elt F) → (⟨S1, .f32⟩ : BufTy).Contents (Elt F)),
    unary main_v246 main_v352 (broadcastInDim S1 ![] bcast_S_S1 : (⟨S_, .f32⟩ : BufTy).Contents (Elt F) → (⟨S1, .f32⟩ : BufTy).Contents (Elt F)),
    unary main_v287 main_v353 (broadcastInDim S1 ![] bcast_S_S1 : (⟨S_, .f32⟩ : BufTy).Contents (Elt F) → (⟨S1, .f32⟩ : BufTy).Contents (Elt F)),
    unary main_v328 main_v354 (broadcastInDim S1 ![] bcast_S_S1 : (⟨S_, .f32⟩ : BufTy).Contents (Elt F) → (⟨S1, .f32⟩ : BufTy).Contents (Elt F)),
    nary ![main_v347, main_v348, main_v349, main_v350, main_v351, main_v352, main_v353, main_v354] main_v355 (fun u => stackLoss (F := F) ![u 0, u 1, u 2, u 3, u 4, u 5, u 6, u 7]) ]

/-- The operations that stack the layers' quantized arrays. -/
abbrev quantOps : List (HloOp τ sig (Elt F)) :=
  [ unary main_v35 main_v356 (broadcastInDim S1x8x256x2048 ![1, 2, 3] bcast_S8x256x2048_S1x8x256x2048_1_2_3 : (⟨S8x256x2048, .f32⟩ : BufTy).Contents (Elt F) → (⟨S1x8x256x2048, .f32⟩ : BufTy).Contents (Elt F)),
    unary main_v76 main_v357 (broadcastInDim S1x8x256x2048 ![1, 2, 3] bcast_S8x256x2048_S1x8x256x2048_1_2_3 : (⟨S8x256x2048, .f32⟩ : BufTy).Contents (Elt F) → (⟨S1x8x256x2048, .f32⟩ : BufTy).Contents (Elt F)),
    unary main_v117 main_v358 (broadcastInDim S1x8x256x2048 ![1, 2, 3] bcast_S8x256x2048_S1x8x256x2048_1_2_3 : (⟨S8x256x2048, .f32⟩ : BufTy).Contents (Elt F) → (⟨S1x8x256x2048, .f32⟩ : BufTy).Contents (Elt F)),
    unary main_v158 main_v359 (broadcastInDim S1x8x256x2048 ![1, 2, 3] bcast_S8x256x2048_S1x8x256x2048_1_2_3 : (⟨S8x256x2048, .f32⟩ : BufTy).Contents (Elt F) → (⟨S1x8x256x2048, .f32⟩ : BufTy).Contents (Elt F)),
    unary main_v199 main_v360 (broadcastInDim S1x8x256x2048 ![1, 2, 3] bcast_S8x256x2048_S1x8x256x2048_1_2_3 : (⟨S8x256x2048, .f32⟩ : BufTy).Contents (Elt F) → (⟨S1x8x256x2048, .f32⟩ : BufTy).Contents (Elt F)),
    unary main_v240 main_v361 (broadcastInDim S1x8x256x2048 ![1, 2, 3] bcast_S8x256x2048_S1x8x256x2048_1_2_3 : (⟨S8x256x2048, .f32⟩ : BufTy).Contents (Elt F) → (⟨S1x8x256x2048, .f32⟩ : BufTy).Contents (Elt F)),
    unary main_v281 main_v362 (broadcastInDim S1x8x256x2048 ![1, 2, 3] bcast_S8x256x2048_S1x8x256x2048_1_2_3 : (⟨S8x256x2048, .f32⟩ : BufTy).Contents (Elt F) → (⟨S1x8x256x2048, .f32⟩ : BufTy).Contents (Elt F)),
    unary main_v322 main_v363 (broadcastInDim S1x8x256x2048 ![1, 2, 3] bcast_S8x256x2048_S1x8x256x2048_1_2_3 : (⟨S8x256x2048, .f32⟩ : BufTy).Contents (Elt F) → (⟨S1x8x256x2048, .f32⟩ : BufTy).Contents (Elt F)),
    nary ![main_v356, main_v357, main_v358, main_v359, main_v360, main_v361, main_v362, main_v363] main_v364 (fun u => stackQuant (F := F) ![u 0, u 1, u 2, u 3, u 4, u 5, u 6, u 7]) ]

/-- The residual before layer `q`. -/
abbrev residRef : ℕ → TRef sig ⟨S8x256x2048, .f32⟩
  | 0 => .of main_arg0
  | q + 1 => t37 (Fin.ofNat 8 q)

/-- The sum before layer `q`. -/
abbrev sumRef : ℕ → TRef sig ⟨S8x256x2048, .f32⟩
  | 0 => .of main_v0
  | q + 1 => t36 (Fin.ofNat 8 q)

/-- Layer `q` at its place in the program. -/
abbrev layer (q : Fin 8) : List (HloOp τ sig (Elt F)) := layerOps q (residRef q.val) (sumRef q.val)

/-- The stacking operations. -/
abbrev stackOps : List (HloOp τ sig (Elt F)) := idxOps ++ (commitOps ++ (codeOps ++ quantOps))

/-- The whole program. -/
abbrev ops : List (HloOp τ sig (Elt F)) :=
  zeroOps ++ (layer 0 ++ (layer 1 ++ (layer 2 ++ (layer 3 ++ (layer 4 ++ (layer 5 ++ (layer 6 ++ (layer 7 ++ stackOps))))))))

set_option maxHeartbeats 4000000 in
/-- Part 0 of the printed program is operations 0 to 85 of the line. -/
theorem part0 (c : Dev nD) : main_part0 (F := F) c = seq ((ops.drop 0).take 86) := rfl
set_option maxHeartbeats 4000000 in
/-- Part 1 of the printed program is operations 86 to 171 of the line. -/
theorem part1 (c : Dev nD) : main_part1 (F := F) c = seq ((ops.drop 86).take 86) := rfl
set_option maxHeartbeats 4000000 in
/-- Part 2 of the printed program is operations 172 to 257 of the line. -/
theorem part2 (c : Dev nD) : main_part2 (F := F) c = seq ((ops.drop 172).take 86) := rfl
set_option maxHeartbeats 4000000 in
/-- Part 3 of the printed program is operations 258 to 369 of the line. -/
theorem part3 (c : Dev nD) : main_part3 (F := F) c = seq ((ops.drop 258).take 112) := rfl
set_option maxHeartbeats 4000000 in
/-- Part 4 of the printed program is operations 370 to 455 of the line. -/
theorem part4 (c : Dev nD) : main_part4 (F := F) c = seq ((ops.drop 370).take 86) := rfl
set_option maxHeartbeats 4000000 in
/-- Part 5 of the printed program is operations 456 to 541 of the line. -/
theorem part5 (c : Dev nD) : main_part5 (F := F) c = seq ((ops.drop 456).take 86) := rfl
set_option maxHeartbeats 4000000 in
/-- Part 6 of the printed program is operations 542 to 627 of the line. -/
theorem part6 (c : Dev nD) : main_part6 (F := F) c = seq ((ops.drop 542).take 86) := rfl
set_option maxHeartbeats 4000000 in
/-- Part 7 of the printed program is operations 628 to 661 of the line. -/
theorem part7 (c : Dev nD) : main_part7 (F := F) c = seq ((ops.drop 628).take 34) := rfl

end Cert.ReferenceIdeal.Rvq

end
-- ==== Proof.RefRun.lean ====
/- The reference's run: it terminates, leaves its arguments unchanged and every semaphore counter at zero, and each of its
   buffers ends at what the listed operations make of the arguments. -/
module

public import proofs.«01_k».proof.Proof.RefOps
public import Idealize.ShloMosaic.Lib.Quiescent

@[expose] public section

set_option maxRecDepth 16384

noncomputable section

namespace Cert.ReferenceIdeal.Rvq

open Cert.ReferenceIdeal Cert.ReferenceIdeal.Gen Idealize.ShloMosaic Idealize.ShloMosaic.TcCoe Idealize.SL.Sem
open Idealize.ShloMosaic.StableHlo

variable {F : FTy → Type} [FloatOps F]

/-- A line from its operation number `n` on is `k` operations and then the line from number `n + k` on. -/
theorem seq_split {nD : ℕ} {Λ : Labels} (l : List (HloOp τ sig (Elt F))) (n k : ℕ) :
    (seq (l.drop n) : Prog (TpuEff nD τ sig (Elt F) Λ .tc) PUnit) = (seq ((l.drop n).take k) >>= fun _ => seq (l.drop (n + k))) := by
  rw [← seq_append, ← List.drop_drop, List.take_append_drop]

/-- The program is the listed operations, in order. -/
theorem main_eq (c : Dev nD) : main (F := F) c = seq ops := by
  have h : (seq ops : Prog (TpuEff nD τ sig (Elt F) (Pipeline.Sig Λ₀ (Fin 0) fun p => (pcfgs (F := F) p).Adm) .tc) PUnit) = seq (ops.drop 0) := rfl
  rw [h, seq_split _ 0 86, seq_split _ (0 + 86) 86, seq_split _ (0 + 86 + 86) 86, seq_split _ (0 + 86 + 86 + 86) 112,
    seq_split _ (0 + 86 + 86 + 86 + 112) 86, seq_split _ (0 + 86 + 86 + 86 + 112 + 86) 86,
    seq_split _ (0 + 86 + 86 + 86 + 112 + 86 + 86) 86]
  have e : (List.drop (0 + 86 + 86 + 86 + 112 + 86 + 86 + 86) ops : List (HloOp τ sig (Elt F))) = (ops.drop 628).take 34 := rfl
  rw [e]
  simp only [Nat.zero_add, Nat.reduceAdd, ← part0 c, ← part1 c, ← part2 c, ← part3 c, ← part4 c, ← part5 c, ← part6 c, ← part7 c]
  rfl

/-- The program has no scoped buffers. -/
theorem scopedRefs_eq : (Finset.univ.filter fun b : Ref sig .tc => b.isScoped) = ∅ := by decide
/-- The program has no scoped semaphores. -/
theorem scopedSems_eq : (Finset.univ.filter fun sm : SemLoc sig => sm.isScoped .tc) = ∅ := by decide

/-- What is asked of an operation that writes only buffers among `W`: it stays within the device's buffers and determines
    its result. -/
structure Fine (W : Ref sig .tc → Prop) (op : HloOp τ sig (Elt F)) : Prop where
  bufs : op.bufs ⊆ tcRefs τ sig
  fresh : op.fresh = ∅
  writes : ∃ r, W r ∧ op.writes = {Proc.devRef .tc r}

variable {W : Ref sig .tc → Prop}

/-- An operation of no argument that writes a buffer among `W` is fine. -/
theorem fine_nullary {y : Ref sig .tc} (h : W y) (v : y.ty.Contents (Elt F)) (hy) : Fine W (nullary y v hy) :=
  ⟨nullary_bufs_sub .., rfl, y, h, rfl⟩

/-- An operation of one argument that writes a buffer among `W` is fine. -/
theorem fine_unary {x y : Ref sig .tc} (h : W y) (f : x.ty.Contents (Elt F) → y.ty.Contents (Elt F)) (hx hy) : Fine W (unary x y f hx hy) :=
  ⟨unary_bufs_sub .., rfl, y, h, rfl⟩

/-- An operation of two arguments that writes a buffer among `W` is fine. -/
theorem fine_binary {a b y : Ref sig .tc} (h : W y) (f : a.ty.Contents (Elt F) → b.ty.Contents (Elt F) → y.ty.Contents (Elt F)) (ha hb hy) :
    Fine W (binary a b y f ha hb hy) :=
  ⟨binary_bufs_sub .., rfl, y, h, rfl⟩

/-- An operation of three arguments that writes a buffer among `W` is fine. -/
theorem fine_ternary {c a b y : Ref sig .tc} (h : W y)
    (f : c.ty.Contents (Elt F) → a.ty.Contents (Elt F) → b.ty.Contents (Elt F) → y.ty.Contents (Elt F)) (hc ha hb hy) :
    Fine W (ternary c a b y f hc ha hb hy) :=
  ⟨ternary_bufs_sub .., rfl, y, h, rfl⟩

/-- An operation of four arguments that writes a buffer among `W` is fine. -/
theorem fine_quaternary {a b c e y : Ref sig .tc} (h : W y)
    (f : a.ty.Contents (Elt F) → b.ty.Contents (Elt F) → c.ty.Contents (Elt F) → e.ty.Contents (Elt F) → y.ty.Contents (Elt F)) (ha hb hc he hy) :
    Fine W (quaternary a b c e y f ha hb hc he hy) :=
  ⟨quaternary_bufs_sub .., rfl, y, h, rfl⟩

/-- A reshape that writes a buffer among `W` is fine. -/
theorem fine_reshape {x y : Ref sig .tc} (h : W y) (he hn hx hy) : Fine W (reshape (Val := Elt F) x y he hn hx hy) :=
  ⟨reshape_bufs_sub .., rfl, y, h, rfl⟩

/-- An operation of any number of arguments that writes a buffer among `W` is fine. -/
theorem fine_nary {n : ℕ} {y : Ref sig .tc} (h : W y) (xs : Fin n → Ref sig .tc) (f : ((k : Fin n) → (xs k).ty.Contents (Elt F)) → y.ty.Contents (Elt F))
    (hxs hy) : Fine W (nary xs y f hxs hy) :=
  ⟨nary_bufs_sub .., rfl, y, h, rfl⟩

/-- A buffer that no operation of a fine line may write keeps its contents through the line. -/
theorem after_keep {l : List (HloOp τ sig (Elt F))} (h : l.Forall (Fine W)) (V : Valuation τ sig (Elt F)) {r : Ref sig .tc} (hr : ¬ W r) :
    after l V (Proc.devRef .tc r) = V (Proc.devRef .tc r) :=
  after_of_forall_not_mem l V fun op hop hb => by
    obtain ⟨y, hy, he⟩ := (List.forall_iff_forall_mem.mp h op hop).writes
    rw [he, Finset.mem_singleton] at hb
    exact hr (Proc.devRef_injective _ hb ▸ hy)

/-- Layer `q`'s own buffers. -/
def Own (q : Fin 8) (r : Ref sig .tc) : Prop := ∃ k, r = cell q k

/-- Each numbered buffer of layer `q` is its own. -/
theorem own (q : Fin 8) (k : Fin 78) : Own q (cell q k) := ⟨k, rfl⟩

set_option maxHeartbeats 2000000 in
/-- Finding the nearest entries writes only the layer's own buffers. -/
theorem fine_find (q : Fin 8) (x : TRef sig ⟨S8x256x2048, .f32⟩) : (findOps (F := F) q x).Forall (Fine (Own q)) := by
  simp only [List.Forall]
  repeat' apply And.intro
  all_goals first
    | exact fine_nullary (own q _) _ _ | exact fine_unary (own q _) _ _ _ | exact fine_binary (own q _) _ _ _ _
    | exact fine_ternary (own q _) _ _ _ _ _ | exact fine_quaternary (own q _) _ _ _ _ _ _ | exact fine_reshape (own q _) _ _ _ _

set_option maxHeartbeats 2000000 in
/-- Taking the entries found writes only the layer's own buffers. -/
theorem fine_take (q : Fin 8) : (takeOps (F := F) q).Forall (Fine (Own q)) := by
  simp only [List.Forall]
  repeat' apply And.intro
  all_goals first
    | exact fine_nullary (own q _) _ _ | exact fine_unary (own q _) _ _ _ | exact fine_binary (own q _) _ _ _ _
    | exact fine_ternary (own q _) _ _ _ _ _ | exact fine_quaternary (own q _) _ _ _ _ _ _ | exact fine_reshape (own q _) _ _ _ _

set_option maxHeartbeats 2000000 in
/-- The residual, the sum and the losses write only the layer's own buffers. -/
theorem fine_step (q : Fin 8) (x a : TRef sig ⟨S8x256x2048, .f32⟩) : (stepOps (F := F) q x a).Forall (Fine (Own q)) := by
  simp only [List.Forall]
  repeat' apply And.intro
  all_goals first
    | exact fine_nullary (own q _) _ _ | exact fine_unary (own q _) _ _ _ | exact fine_binary (own q _) _ _ _ _
    | exact fine_ternary (own q _) _ _ _ _ _ | exact fine_quaternary (own q _) _ _ _ _ _ _ | exact fine_reshape (own q _) _ _ _ _

/-- What holds of every operation of two lines holds of every operation of one after the other. -/
theorem forall_append {l l' : List (HloOp τ sig (Elt F))} {p : HloOp τ sig (Elt F) → Prop} (h : l.Forall p) (h' : l'.Forall p) :
    (l ++ l').Forall p :=
  List.forall_iff_forall_mem.mpr fun op ho => (List.mem_append.mp ho).elim
    (List.forall_iff_forall_mem.mp h op) (List.forall_iff_forall_mem.mp h' op)

/-- A layer writes only its own buffers. -/
theorem fine_layer (q : Fin 8) (x a : TRef sig ⟨S8x256x2048, .f32⟩) : (layerOps (F := F) q x a).Forall (Fine (Own q)) :=
  forall_append (fine_find q x) (forall_append (fine_take q) (fine_step q x a))

/-- The buffers outside the layers, the arguments excepted: the zero array's and the stacks'. -/
def Outer (r : Ref sig .tc) : Prop := r ≠ main_arg0 ∧ r ≠ main_arg1 ∧ ∀ q, ¬ Own q r

/-- A buffer numbered before or after the layers' is no layer's own. -/
theorem not_own {r : Ref sig .tc} (n : Fin 664) (hr : r = ⟨.hbm, n, rfl⟩) (h : n.val < 4 ∨ 628 ≤ n.val) (q : Fin 8) : ¬ Own q r := by
  rintro ⟨k, hk⟩
  rw [hr] at hk
  have h2 : n.val = 4 + 78 * q.val + k.val := congrArg (fun r : Ref sig .tc => r.idx.val) hk
  have := q.isLt
  have := k.isLt
  omega

/-- Making the zero array writes only outer buffers. -/
theorem fine_zero : (zeroOps (F := F)).Forall (Fine Outer) := by
  simp only [List.Forall]
  exact ⟨fine_nullary ⟨by decide, by decide, not_own 2 rfl (by decide)⟩ _ _, fine_unary ⟨by decide, by decide, not_own 3 rfl (by decide)⟩ _ _ _⟩

/-- The buffers from 628 on are outer. -/
theorem outer (n : Fin 664) (h : 628 ≤ n.val) : Outer ⟨.hbm, n, rfl⟩ := by
  refine ⟨fun e => ?_, fun e => ?_, not_own n rfl (.inr h)⟩
  · have : n.val = 0 := congrArg (fun r : Ref sig .tc => r.idx.val) e
    omega
  · have : n.val = 1 := congrArg (fun r : Ref sig .tc => r.idx.val) e
    omega

set_option maxHeartbeats 2000000 in
/-- The stacks write only outer buffers. -/
theorem fine_stack : (stackOps (F := F)).Forall (Fine Outer) := by
  refine forall_append ?_ (forall_append ?_ (forall_append ?_ ?_))
  all_goals
    simp only [List.Forall]
    repeat' apply And.intro
  all_goals first | exact fine_unary (outer _ (by decide)) _ _ _ | exact fine_nary (outer _ (by decide)) _ _ _ _

/-- A line that writes only buffers among `W` writes only buffers among any larger set. -/
theorem Fine.mono {W W' : Ref sig .tc → Prop} (h : ∀ r, W r → W' r) {l : List (HloOp τ sig (Elt F))} (hl : l.Forall (Fine W)) :
    l.Forall (Fine W') :=
  List.forall_iff_forall_mem.mpr fun op ho => by
    obtain ⟨a, b, r, hr, e⟩ := List.forall_iff_forall_mem.mp hl op ho
    exact ⟨a, b, r, h r hr, e⟩

/-- Every operation of the program is fine, and none writes an argument. -/
theorem fine_ops : (ops (F := F)).Forall (Fine fun r => r ≠ main_arg0 ∧ r ≠ main_arg1) := by
  have ho : ∀ r, Outer r → r ≠ main_arg0 ∧ r ≠ main_arg1 := fun r h => ⟨h.1, h.2.1⟩
  have hl : ∀ q x a, (layerOps (F := F) q x a).Forall (Fine fun r => r ≠ main_arg0 ∧ r ≠ main_arg1) := fun q x a =>
    Fine.mono (fun r h => ⟨fun e => not_own 0 e (by decide) q h, fun e => not_own 1 e (by decide) q h⟩) (fine_layer q x a)
  exact forall_append (Fine.mono ho fine_zero) (forall_append (hl ..) (forall_append (hl ..) (forall_append (hl ..) (forall_append (hl ..)
    (forall_append (hl ..) (forall_append (hl ..) (forall_append (hl ..) (forall_append (hl ..) (Fine.mono ho fine_stack)))))))))

/-- The run: every buffer ends at what the operations make of the launch contents, every counter at zero. -/
theorem run (m : (ℓ : Loc nD τ sig) → Buf (Elt F) ℓ) (ρ : Dev nD → PrngReg) :
    θ_run defs (onTc (τ := τ) (main (F := F))) ⟨m, fun _ => 0, ρ⟩ fun r => ∀ (c : Dev nD) (b : Ref sig .tc),
      r.2.mem ((c.tc : Thread nD τ).loc b) = after ops (launchContents m c) (Proc.devRef .tc b) :=
  run_seq scopedRefs_eq scopedSems_eq defs main (fun _ => ops) main_eq
    (fun _ => List.forall_iff_forall_mem.mpr fun op h => (List.forall_iff_forall_mem.mp fine_ops op h).bufs) m ρ
    fun _ op h => (List.forall_iff_forall_mem.mp fine_ops op h).fresh

/-- The reference leaves its arguments unchanged and every counter at zero. -/
theorem frame_holds (m : (ℓ : Loc nD τ sig) → Buf (Elt F) ℓ) (ρ : Dev nD → PrngReg) :
    θ_run defs (onTc (τ := τ) (main (F := F))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0 :=
  (θ_run defs _ _).mono (fun r h => ⟨fun c => ⟨(h c main_arg0).trans (after_keep fine_ops _ fun hw => hw.1 rfl),
    (h c main_arg1).trans (after_keep fine_ops _ fun hw => hw.2 rfl)⟩, sem_eq_zero_of_no_sems rfl r.2⟩) (run m ρ)

end Cert.ReferenceIdeal.Rvq

end
-- ==== Proof.RefRead.lean ====
/- What the reference's operations compute, read off as plain functions of the residual and of one codebook: the distances,
   the nearest entries' numbers, the entries gathered, the step, the two losses. -/
module

public import proofs.«01_k».proof.Proof.RefRun

@[expose] public section

set_option maxRecDepth 16384

noncomputable section

namespace Cert.ReferenceIdeal.Rvq

open Cert.ReferenceIdeal Cert.ReferenceIdeal.Gen Idealize.ShloMosaic Idealize.ShloMosaic.TcCoe Idealize.SL.Sem
open Idealize.ShloMosaic.StableHlo

variable {F : FTy → Type} [FloatOps F]

/-! ## A buffer's contents at the type of its value -/

/-- The contents of a typed buffer. -/
def get {T : BufTy} (t : TRef sig T) (V : Valuation τ sig (Elt F)) : T.Contents (Elt F) := t.ofBuf (V (Proc.devRef .tc t.ref))

section Get

variable {T Ta Tb Tc Td Ty : BufTy} (V : Valuation τ sig (Elt F))

/-- Contents put into a buffer's type and taken out again are the same. -/
theorem get_same (y : TRef sig T) (v : T.Contents (Elt F)) : y.ofBuf (y.toBuf v) = v := by
  simp only [TRef.ofBuf, TRef.toBuf, cast_cast, cast_eq]

/-- The buffer an operation of no argument writes holds its value. -/
theorem get_nullary (y : TRef sig Ty) (v : Ty.Contents (Elt F)) : get y ((TRef.nullary (τ := τ) y v).result V) = v := by
  rw [get, TRef.nullary, nullary_result, get_same]

/-- The buffer an operation of one argument writes holds its value at the contents of its argument. -/
theorem get_unary (a : TRef sig Ta) (y : TRef sig Ty) (f : Ta.Contents (Elt F) → Ty.Contents (Elt F)) :
    get y ((TRef.unary (τ := τ) a y f).result V) = f (get a V) := by
  rw [get, TRef.unary, unary_result, get_same]; rfl

/-- The buffer an operation of two arguments writes holds its value at the contents of its arguments. -/
theorem get_binary (a : TRef sig Ta) (b : TRef sig Tb) (y : TRef sig Ty)
    (f : Ta.Contents (Elt F) → Tb.Contents (Elt F) → Ty.Contents (Elt F)) :
    get y ((TRef.binary (τ := τ) a b y f).result V) = f (get a V) (get b V) := by
  rw [get, TRef.binary, binary_result, get_same]; rfl

/-- The buffer an operation of three arguments writes holds its value at the contents of its arguments. -/
theorem get_ternary (a : TRef sig Ta) (b : TRef sig Tb) (c : TRef sig Tc) (y : TRef sig Ty)
    (f : Ta.Contents (Elt F) → Tb.Contents (Elt F) → Tc.Contents (Elt F) → Ty.Contents (Elt F)) :
    get y ((TRef.ternary (τ := τ) a b c y f).result V) = f (get a V) (get b V) (get c V) := by
  rw [get, TRef.ternary, ternary_result, get_same]; rfl

/-- The buffer an operation of four arguments writes holds its value at the contents of its arguments. -/
theorem get_quaternary (a : TRef sig Ta) (b : TRef sig Tb) (c : TRef sig Tc) (d : TRef sig Td) (y : TRef sig Ty)
    (f : Ta.Contents (Elt F) → Tb.Contents (Elt F) → Tc.Contents (Elt F) → Td.Contents (Elt F) → Ty.Contents (Elt F)) :
    get y ((TRef.quaternary (τ := τ) a b c d y f).result V) = f (get a V) (get b V) (get c V) (get d V) := by
  rw [get, TRef.quaternary, quaternary_result, get_same]; rfl

/-- A reshape between two buffers, read at the buffers' stated types, is the reshape of the contents. -/
theorem reshape_cast {A Y : BufTy} {s s' : Shape} {e : EltTy} (ha : A = ⟨s, e⟩) (hy : Y = ⟨s', e⟩) (he : A.elt = Y.elt)
    (hn : A.shape.ShapeCasts Y.shape) (h : s.ShapeCasts s') (v : A.Contents (Elt F)) :
    cast (congrArg (fun U : BufTy => U.Contents (Elt F)) hy) (fun i => he ▸ shapeCast Y.shape v hn i : Y.Contents (Elt F))
      = (shapeCast s' (cast (congrArg (fun U : BufTy => U.Contents (Elt F)) ha) v : (⟨s, e⟩ : BufTy).Contents (Elt F)) h : s'.Idx → Elt F e) := by
  subst ha hy; rfl

/-- The buffer a reshape writes holds its argument's contents in the new shape. -/
theorem get_reshape {s s' : Shape} {e : EltTy} (a : TRef sig ⟨s, e⟩) (y : TRef sig ⟨s', e⟩) (h : s.ShapeCasts s') :
    get y ((TRef.reshape (τ := τ) (Val := Elt F) a y rfl h).result V) = (shapeCast s' (get a V) h : s'.Idx → Elt F e) := by
  obtain ⟨a, ha, _, _⟩ := a
  obtain ⟨y, hy, _, _⟩ := y
  rw [get, TRef.reshape, reshape_result]
  exact reshape_cast ha hy _ _ h _

/-- A buffer other than the one an operation writes keeps its contents. -/
theorem get_keep (t : TRef sig T) (op : HloOp τ sig (Elt F)) (y : Ref sig .tc) (hw : op.writes = {Proc.devRef .tc y}) (h : t.ref ≠ y) :
    get t (op.result V) = get t V := by
  unfold get
  rw [op.result_of_not_mem V (by rw [hw, Finset.mem_singleton]; exact devRef_ne_of_ne h)]

/-- An operation of no argument leaves every other buffer as it was. -/
theorem get_nullary_ne (t : TRef sig T) (y : TRef sig Ty) (v : Ty.Contents (Elt F)) (h : t.ref ≠ y.ref) :
    get t ((TRef.nullary (τ := τ) y v).result V) = get t V := get_keep V t _ y.ref rfl h

/-- An operation of one argument leaves every other buffer as it was. -/
theorem get_unary_ne (t : TRef sig T) (a : TRef sig Ta) (y : TRef sig Ty) (f : Ta.Contents (Elt F) → Ty.Contents (Elt F)) (h : t.ref ≠ y.ref) :
    get t ((TRef.unary (τ := τ) a y f).result V) = get t V := get_keep V t _ y.ref rfl h

/-- An operation of two arguments leaves every other buffer as it was. -/
theorem get_binary_ne (t : TRef sig T) (a : TRef sig Ta) (b : TRef sig Tb) (y : TRef sig Ty)
    (f : Ta.Contents (Elt F) → Tb.Contents (Elt F) → Ty.Contents (Elt F)) (h : t.ref ≠ y.ref) :
    get t ((TRef.binary (τ := τ) a b y f).result V) = get t V := get_keep V t _ y.ref rfl h

/-- An operation of three arguments leaves every other buffer as it was. -/
theorem get_ternary_ne (t : TRef sig T) (a : TRef sig Ta) (b : TRef sig Tb) (c : TRef sig Tc) (y : TRef sig Ty)
    (f : Ta.Contents (Elt F) → Tb.Contents (Elt F) → Tc.Contents (Elt F) → Ty.Contents (Elt F)) (h : t.ref ≠ y.ref) :
    get t ((TRef.ternary (τ := τ) a b c y f).result V) = get t V := get_keep V t _ y.ref rfl h

/-- An operation of four arguments leaves every other buffer as it was. -/
theorem get_quaternary_ne (t : TRef sig T) (a : TRef sig Ta) (b : TRef sig Tb) (c : TRef sig Tc) (d : TRef sig Td) (y : TRef sig Ty)
    (f : Ta.Contents (Elt F) → Tb.Contents (Elt F) → Tc.Contents (Elt F) → Td.Contents (Elt F) → Ty.Contents (Elt F)) (h : t.ref ≠ y.ref) :
    get t ((TRef.quaternary (τ := τ) a b c d y f).result V) = get t V := get_keep V t _ y.ref rfl h

/-- A reshape leaves every other buffer as it was. -/
theorem get_reshape_ne {s s' : Shape} {e : EltTy} (t : TRef sig T) (a : TRef sig ⟨s, e⟩) (y : TRef sig ⟨s', e⟩) (h' : s.ShapeCasts s')
    (h : t.ref ≠ y.ref) : get t ((TRef.reshape (τ := τ) (Val := Elt F) a y rfl h').result V) = get t V := get_keep V t _ y.ref rfl h

end Get

/-- Two buffers of one layer are the same only if their numbers are. -/
theorem cell_ne {q : Fin 8} {i j : Fin 78} (h : i ≠ j) : cell q i ≠ cell q j := fun e => by
  have h2 : 4 + 78 * q.val + i.val = 4 + 78 * q.val + j.val := congrArg (fun r : Ref sig .tc => r.idx.val) e
  exact h (Fin.ext (by omega))

/-- The codebooks' buffer belongs to no layer. -/
theorem books_ne (q : Fin 8) (k : Fin 78) : main_arg1 ≠ cell q k := fun e => not_own 1 rfl (by decide) q ⟨k, e⟩

/-! ## The layer's functions -/

/-- Codebook `q`. -/
def bookOf (q : Fin 8) (c : (⟨S8x1024x256, .f32⟩ : BufTy).Contents (Elt F)) : (⟨S1024x256, .f32⟩ : BufTy).Contents (Elt F) :=
  shapeCast S1024x256 (extractStridedSlice S1x1024x256 ![q.val, 0, 0] c (slices q)) shapeCasts_S1x1024x256_S1024x256

/-- The residual's tokens, one row each. -/
def flat (x : (⟨S8x256x2048, .f32⟩ : BufTy).Contents (Elt F)) : (⟨S16384x256, .f32⟩ : BufTy).Contents (Elt F) :=
  shapeCast S16384x256 (transpose S8x2048x256 [0, 2, 1] x transposes_S8x256x2048_S8x2048x256_0_2_1) shapeCasts_S8x2048x256_S16384x256

/-- The distance of every token from every entry. -/
def distOf (e : (⟨S16384x256, .f32⟩ : BufTy).Contents (Elt F)) (b : (⟨S1024x256, .f32⟩ : BufTy).Contents (Elt F)) :
    (⟨S16384x1024, .f32⟩ : BufTy).Contents (Elt F) :=
  addf (subf (broadcastInDim S16384x1024 ![0, 1] bcast_S16384x1_S16384x1024_0_1 (broadcastInDim S16384x1 ![0] bcast_S16384_S16384x1_0
      (Host.reduceAdd (mulf e e) (constant S_ .f32 0x00000000#32) reducesTo_S16384x256_S16384_d1 h_S_)))
    (Host.dotGeneral dot_S16384x256_S256x1024_S16384x1024_1_0_0_1_n_n none
      (mulf (broadcastInDim S16384x256 ![] bcast_S_S16384x256 (constant S_ .f32 0x40000000#32)) e)
      (transpose S256x1024 [1, 0] b transposes_S1024x256_S256x1024_1_0)))
    (broadcastInDim S16384x1024 ![0, 1] bcast_S1x1024_S16384x1024_0_1 (broadcastInDim S1x1024 ![1] bcast_S1024_S1x1024_1
      (Host.reduceAdd (mulf b b) (constant S_ .f32 0x00000000#32) reducesTo_S1024x256_S1024_d1 h_S_)))

/-- The number of the nearest entry of every token. -/
def nearestOf (d : (⟨S16384x1024, .f32⟩ : BufTy).Contents (Elt F)) : (⟨S8x2048, .i32⟩ : BufTy).Contents (Elt F) :=
  shapeCast S8x2048 (fun j => (Host.argReduce reducer_argmax_f32_i32 (Host.negf d) (iotaInDim S16384x1024 32 1)
    (constant S_ .f32 0xFF800000#32) (constantI S_ 32 0#32) reducesTo_S16384x1024_S16384_d1 h_S_ j).2) shapeCasts_S16384_S8x2048

/-- The numbers as the gather takes them, a negative one counted from the end. -/
def wrapOf (i : (⟨S8x2048, .i32⟩ : BufTy).Contents (Elt F)) : (⟨S8x2048x1, .i32⟩ : BufTy).Contents (Elt F) :=
  broadcastInDim S8x2048x1 ![0, 1] bcast_S8x2048_S8x2048x1_0_1
    (select (cmpi .slt i (broadcastInDim S8x2048 ![] bcast_S_S8x2048 (constantI S_ 32 0#32)))
      (addi i (broadcastInDim S8x2048 ![] bcast_S_S8x2048 (constantI S_ 32 1024#32))) i)

/-- The entries gathered at the numbers `i`; one out of range gives no number. -/
def takeOf (b : (⟨S1024x256, .f32⟩ : BufTy).Contents (Elt F)) (i : (⟨S8x2048, .i32⟩ : BufTy).Contents (Elt F)) :
    (⟨S8x2048x256, .f32⟩ : BufTy).Contents (Elt F) :=
  select (broadcastInDim S8x2048x256 ![0, 1] bcast_S8x2048_S8x2048x256_0_1
      (Host.reduce IntOp.andi
        (andi (cmpi .sge (wrapOf (F := F) i) (broadcastInDim S8x2048x1 ![] bcast_S_S8x2048x1 (constantI S_ 32 0#32)))
          (cmpi .sle (wrapOf (F := F) i) (broadcastInDim S8x2048x1 ![0, 1, 2] bcast_S1x1x1_S8x2048x1_0_1_2
            (broadcastInDim S1x1x1 ![2] bcast_S1_S1x1x1_2 (constantI S1 32 1023#32)))))
        (constantI S_ 1 1#1) reducesTo_S8x2048x1_S8x2048_d2 h_S_))
    (Host.gather gather_S1024x256_S8x2048x1_S8x2048x256_2_0_n_n_0_2_1256 b (wrapOf (F := F) i))
    (broadcastInDim S8x2048x256 ![] bcast_S_S8x2048x256 (constant S_ .f32 0x7FC00000#32))

/-- The gathered entries in the residual's layout. -/
def colsOf (g : (⟨S8x2048x256, .f32⟩ : BufTy).Contents (Elt F)) : (⟨S8x256x2048, .f32⟩ : BufTy).Contents (Elt F) :=
  transpose S8x256x2048 [0, 2, 1] g transposes_S8x2048x256_S8x256x2048_0_2_1

/-- The layer's quantized array, from the residual and the entries. -/
def stOf (x g : (⟨S8x256x2048, .f32⟩ : BufTy).Contents (Elt F)) : (⟨S8x256x2048, .f32⟩ : BufTy).Contents (Elt F) := addf x (subf g x)

/-- The mean over the batch of the mean square of `x − g`. -/
def lossOf (x g : (⟨S8x256x2048, .f32⟩ : BufTy).Contents (Elt F)) : (⟨S_, .f32⟩ : BufTy).Contents (Elt F) :=
  Host.divf (Host.reduceAdd (Host.divf (Host.reduceAdd (mulf (subf x g) (subf x g)) (constant S_ .f32 0x00000000#32) reducesTo_S8x256x2048_S8_d1_2 h_S_)
    (broadcastInDim S8 ![] bcast_S_S8 (constant S_ .f32 0x49000000#32))) (constant S_ .f32 0x00000000#32) reducesTo_S8_S_d0 h_S_)
    (constant S_ .f32 0x41000000#32)

/-! ## The three lines of a layer -/

section Lines

variable (V : Valuation τ sig (Elt F)) (q : Fin 8) (x a : TRef sig ⟨S8x256x2048, .f32⟩)

set_option maxHeartbeats 4000000 in
/-- The first line finds the nearest entries' numbers. -/
theorem find_idx (hx : ∀ k, x.ref ≠ cell q k) :
    get (t21 q) (after (findOps q x) V) = nearestOf (distOf (flat (get x V)) (bookOf q (get books V))) := by
  simp (disch := first | exact cell_ne (by decide) | exact hx _ | exact books_ne q _) only [after_cons, after_nil, get_nullary, get_unary,
    get_binary, get_ternary, get_quaternary, get_reshape, get_nullary_ne, get_unary_ne, get_binary_ne, get_ternary_ne, get_quaternary_ne, get_reshape_ne]
  rfl

set_option maxHeartbeats 4000000 in
/-- The first line cuts the codebook out. -/
theorem find_book : get (t2 q) (after (findOps q x) V) = bookOf q (get books V) := by
  simp (disch := first | exact cell_ne (by decide) | exact books_ne q _) only [after_cons, after_nil, get_nullary, get_unary,
    get_binary, get_ternary, get_quaternary, get_reshape, get_nullary_ne, get_unary_ne, get_binary_ne, get_ternary_ne, get_quaternary_ne, get_reshape_ne]
  rfl

set_option maxHeartbeats 4000000 in
/-- The second line gathers the entries. -/
theorem take_rows : get (t22 q) (after (takeOps q) V) = takeOf (get (t2 q) V) (get (t21 q) V) := by
  simp (disch := exact cell_ne (by decide)) only [after_cons, after_nil, get_nullary, get_unary,
    get_binary, get_ternary, get_quaternary, get_reshape, get_nullary_ne, get_unary_ne, get_binary_ne, get_ternary_ne, get_quaternary_ne, get_reshape_ne]
  rfl

set_option maxHeartbeats 4000000 in
/-- The third line makes the quantized array, the next sum, the next residual and the two losses. -/
theorem step_all (hx : ∀ k, x.ref ≠ cell q k) (ha : ∀ k, a.ref ≠ cell q k) :
    get (t35 q) (after (stepOps q x a) V) = stOf (get x V) (colsOf (get (t22 q) V))
    ∧ get (t36 q) (after (stepOps q x a) V) = addf (get a V) (stOf (get x V) (colsOf (get (t22 q) V)))
    ∧ get (t37 q) (after (stepOps q x a) V) = subf (get x V) (stOf (get x V) (colsOf (get (t22 q) V)))
    ∧ get (t39 q) (after (stepOps q x a) V) = lossOf (get x V) (colsOf (get (t22 q) V))
    ∧ get (t41 q) (after (stepOps q x a) V) = lossOf (colsOf (get (t22 q) V)) (get x V) := by
  refine ⟨?_, ?_, ?_, ?_, ?_⟩
  all_goals
    simp (disch := first | exact cell_ne (by decide) | exact hx _ | exact ha _) only [after_cons, after_nil, get_nullary, get_unary,
      get_binary, get_ternary, get_quaternary, get_reshape, get_nullary_ne, get_unary_ne, get_binary_ne, get_ternary_ne, get_quaternary_ne, get_reshape_ne]
    rfl

end Lines

end Cert.ReferenceIdeal.Rvq

end
-- ==== Proof.RefStage.lean ====
/- The reference's results as functions of its arguments: the residual and the sum layer after layer, each layer's numbers,
   quantized array and losses, and the stacks of them. -/
module

public import proofs.«01_k».proof.Proof.RefRead

@[expose] public section

set_option maxRecDepth 16384

noncomputable section

namespace Cert.ReferenceIdeal.Rvq

open Cert.ReferenceIdeal Cert.ReferenceIdeal.Gen Idealize.ShloMosaic Idealize.ShloMosaic.TcCoe Idealize.SL.Sem
open Idealize.ShloMosaic.StableHlo

variable {F : FTy → Type} [FloatOps F]

/-! ## The recursion -/

section Values

variable (z : (⟨S8x256x2048, .f32⟩ : BufTy).Contents (Elt F)) (cs : (⟨S8x1024x256, .f32⟩ : BufTy).Contents (Elt F))

/-- The numbers that layer `q` finds for the residual `x`. -/
def idxOf (q : Fin 8) (x : (⟨S8x256x2048, .f32⟩ : BufTy).Contents (Elt F)) : (⟨S8x2048, .i32⟩ : BufTy).Contents (Elt F) :=
  nearestOf (distOf (flat x) (bookOf q cs))

/-- The entries that layer `q` gathers for the residual `x`. -/
def rowsOf (q : Fin 8) (x : (⟨S8x256x2048, .f32⟩ : BufTy).Contents (Elt F)) : (⟨S8x256x2048, .f32⟩ : BufTy).Contents (Elt F) :=
  colsOf (takeOf (bookOf q cs) (idxOf cs q x))

/-- The residual before layer `n`. -/
def residAt : ℕ → (⟨S8x256x2048, .f32⟩ : BufTy).Contents (Elt F)
  | 0 => z
  | n + 1 => subf (residAt n) (stOf (residAt n) (rowsOf cs (Fin.ofNat 8 n) (residAt n)))

/-- The quantized array of layer `n`. -/
def quantAt (n : ℕ) : (⟨S8x256x2048, .f32⟩ : BufTy).Contents (Elt F) :=
  stOf (residAt z cs n) (rowsOf cs (Fin.ofNat 8 n) (residAt z cs n))

/-- The sum before layer `n`. -/
def sumAt : ℕ → (⟨S8x256x2048, .f32⟩ : BufTy).Contents (Elt F)
  | 0 => broadcastInDim S8x256x2048 ![] bcast_S_S8x256x2048 (constant S_ .f32 0x00000000#32)
  | n + 1 => addf (sumAt n) (quantAt z cs n)

/-- A layer's numbers as a slice of the stack of them. -/
def liftIdx : (⟨S8x2048, .i32⟩ : BufTy).Contents (Elt F) → (⟨S1x8x2048, .i32⟩ : BufTy).Contents (Elt F) :=
  broadcastInDim S1x8x2048 ![1, 2] bcast_S8x2048_S1x8x2048_1_2

/-- A layer's loss as a slice of the stack of them. -/
def liftLoss : (⟨S_, .f32⟩ : BufTy).Contents (Elt F) → (⟨S1, .f32⟩ : BufTy).Contents (Elt F) :=
  broadcastInDim S1 ![] bcast_S_S1

/-- A layer's quantized array as a slice of the stack of them. -/
def liftQuant : (⟨S8x256x2048, .f32⟩ : BufTy).Contents (Elt F) → (⟨S1x8x256x2048, .f32⟩ : BufTy).Contents (Elt F) :=
  broadcastInDim S1x8x256x2048 ![1, 2, 3] bcast_S8x256x2048_S1x8x256x2048_1_2_3

end Values

/-! ## One layer -/

section Layer

variable (V : Valuation τ sig (Elt F)) (q : Fin 8) (x a : TRef sig ⟨S8x256x2048, .f32⟩)

/-- A buffer that no operation of a fine line may write is read the same after it. -/
theorem get_keep_line {T : BufTy} {W : Ref sig .tc → Prop} {l : List (HloOp τ sig (Elt F))} (h : l.Forall (Fine W)) (t : TRef sig T) (ht : ¬ W t.ref) :
    get t (after l V) = get t V := by
  unfold get; rw [after_keep h V ht]

set_option maxHeartbeats 1000000 in
/-- The numbers found stay through the rest of the layer. -/
theorem idx_stays : get (t21 q) (after (stepOps q x a) (after (takeOps q) V)) = get (t21 q) V := by
  simp (disch := exact cell_ne (by decide)) only [after_cons, after_nil, get_nullary_ne, get_unary_ne, get_binary_ne, get_ternary_ne,
    get_quaternary_ne, get_reshape_ne]

/-- What a layer leaves in its buffers. -/
theorem layer_all (hx : ∀ k, x.ref ≠ cell q k) (ha : ∀ k, a.ref ≠ cell q k) :
    get (t21 q) (after (layerOps q x a) V) = idxOf (get books V) q (get x V)
    ∧ get (t35 q) (after (layerOps q x a) V) = stOf (get x V) (rowsOf (get books V) q (get x V))
    ∧ get (t36 q) (after (layerOps q x a) V) = addf (get a V) (stOf (get x V) (rowsOf (get books V) q (get x V)))
    ∧ get (t37 q) (after (layerOps q x a) V) = subf (get x V) (stOf (get x V) (rowsOf (get books V) q (get x V)))
    ∧ get (t39 q) (after (layerOps q x a) V) = lossOf (get x V) (rowsOf (get books V) q (get x V))
    ∧ get (t41 q) (after (layerOps q x a) V) = lossOf (rowsOf (get books V) q (get x V)) (get x V) := by
  have hox : ¬ Own q x.ref := fun ⟨k, e⟩ => hx k e
  have hoa : ¬ Own q a.ref := fun ⟨k, e⟩ => ha k e
  have e : after (layerOps q x a) V = after (stepOps q x a) (after (takeOps q) (after (findOps q x) V)) := by
    rw [layerOps, after_append, after_append]
  have h1 := find_idx V q x hx
  have hs := step_all (after (takeOps q) (after (findOps q x) V)) q x a hx ha
  rw [take_rows, find_book, h1, get_keep_line _ (fine_take q) x hox, get_keep_line _ (fine_find q x) x hox,
    get_keep_line _ (fine_take q) a hoa, get_keep_line _ (fine_find q x) a hoa] at hs
  rw [e]
  exact ⟨(idx_stays _ q x a).trans h1, hs⟩

end Layer

/-! ## The layers in a row -/

section Stages

variable (V : Valuation τ sig (Elt F))

/-- The contents after layer `q`. -/
@[irreducible] def advance (q : Fin 8) (W : Valuation τ sig (Elt F)) : Valuation τ sig (Elt F) := after (layer q) W

/-- The contents after a layer, unfolded. -/
theorem advance_eq (q : Fin 8) (W : Valuation τ sig (Elt F)) : advance q W = after (layer q) W := by unfold advance; rfl

/-- The contents before the first layer. -/
@[irreducible] def zeroed : Valuation τ sig (Elt F) := after zeroOps V

/-- The contents before the first layer, unfolded. -/
theorem zeroed_eq : zeroed V = after zeroOps V := by unfold zeroed; rfl

/-- The buffers' contents before layer `n`. -/
def stage : ℕ → Valuation τ sig (Elt F)
  | 0 => zeroed V
  | n + 1 => advance (Fin.ofNat 8 n) (stage n)

/-- Before layer 0 only the zero array has been made. -/
theorem stage_first : stage V 0 = after zeroOps V := (show stage V 0 = zeroed V from rfl).trans (zeroed_eq V)

/-- The contents before layer `n + 1` are those after layer `n`. -/
theorem stage_step (n : ℕ) : stage V (n + 1) = after (layer (Fin.ofNat 8 n)) (stage V n) :=
  (show stage V (n + 1) = advance (Fin.ofNat 8 n) (stage V n) from rfl).trans (advance_eq _ _)

set_option maxHeartbeats 2000000 in
/-- The program's fold is the stacks' over the layers'. -/
theorem after_ops : after ops V = after stackOps (stage V 8) := by
  have h (q : Fin 8) (n : ℕ) (W : Valuation τ sig (Elt F)) (e : q = Fin.ofNat 8 n) (k : stage V n = W) : stage V (n + 1) = after (layer q) W := by
    rw [stage_step, e, k]
  rw [h 7 7 _ rfl (h 6 6 _ rfl (h 5 5 _ rfl (h 4 4 _ rfl (h 3 3 _ rfl (h 2 2 _ rfl (h 1 1 _ rfl (h 0 0 _ rfl (stage_first V))))))))]
  simp only [ops, after_append]

/-- A layer's buffer is not one of another layer's. -/
theorem cell_not_own {q p : Fin 8} (h : q ≠ p) (k : Fin 78) : ¬ Own p (cell q k) := by
  rintro ⟨j, e⟩
  have h2 : 4 + 78 * q.val + k.val = 4 + 78 * p.val + j.val := congrArg (fun r : Ref sig .tc => r.idx.val) e
  have := k.isLt
  have := j.isLt
  exact h (Fin.ext (by omega))

/-- Layer `n` does not write the residual it starts from. -/
theorem resid_not_own (n : ℕ) (hn : n < 8) : ¬ Own (Fin.ofNat 8 n) (residRef n).ref := by
  cases n with
  | zero => exact not_own 0 rfl (by decide) _
  | succ k => exact cell_not_own (fun e => by have := congrArg Fin.val e; simp only [Fin.val_ofNat] at this; omega) _

/-- Layer `n` does not write the sum it starts from. -/
theorem sum_not_own (n : ℕ) (hn : n < 8) : ¬ Own (Fin.ofNat 8 n) (sumRef n).ref := by
  cases n with
  | zero => exact not_own 3 rfl (by decide) _
  | succ k => exact cell_not_own (fun e => by have := congrArg Fin.val e; simp only [Fin.val_ofNat] at this; omega) _

/-- What the first `n` layers leave. -/
structure Stage (n : ℕ) : Prop where
  books : get Rvq.books (stage V n) = get Rvq.books V
  resid : get (residRef n) (stage V n) = residAt (get (residRef 0) V) (get Rvq.books V) n
  sum : get (sumRef n) (stage V n) = sumAt (get (residRef 0) V) (get Rvq.books V) n
  idx : ∀ q : Fin 8, q.val < n → get (t21 q) (stage V n) = idxOf (get Rvq.books V) q (residAt (get (residRef 0) V) (get Rvq.books V) q.val)
  quant : ∀ q : Fin 8, q.val < n → get (t35 q) (stage V n) = quantAt (get (residRef 0) V) (get Rvq.books V) q.val
  commit : ∀ q : Fin 8, q.val < n → get (t39 q) (stage V n)
    = lossOf (residAt (get (residRef 0) V) (get Rvq.books V) q.val) (rowsOf (get Rvq.books V) q (residAt (get (residRef 0) V) (get Rvq.books V) q.val))
  code : ∀ q : Fin 8, q.val < n → get (t41 q) (stage V n)
    = lossOf (rowsOf (get Rvq.books V) q (residAt (get (residRef 0) V) (get Rvq.books V) q.val)) (residAt (get (residRef 0) V) (get Rvq.books V) q.val)

/-- Before layer 0 the residual is the tokens and the sum is zero. -/
theorem stage_zero : Stage V 0 where
  books := by rw [stage_first]; exact get_keep_line V fine_zero books fun h => h.2.1 rfl
  resid := by rw [stage_first]; exact get_keep_line V fine_zero (residRef 0) fun h => h.1 rfl
  sum := by
    rw [stage_first, after_cons, after_cons, after_nil]
    exact (get_unary _ _ _ _).trans (congrArg _ (get_nullary _ _ _))
  idx q h := absurd h (Nat.not_lt_zero _)
  quant q h := absurd h (Nat.not_lt_zero _)
  commit q h := absurd h (Nat.not_lt_zero _)
  code q h := absurd h (Nat.not_lt_zero _)

set_option maxHeartbeats 1000000 in
/-- One more layer. -/
theorem stage_succ (n : ℕ) (hn : n < 8) (h : Stage V n) : Stage V (n + 1) := by
  have hv : (Fin.ofNat 8 n).val = n := by simp only [Fin.val_ofNat]; omega
  have hlay : (layer (F := F) (Fin.ofNat 8 n)) = layerOps (Fin.ofNat 8 n) (residRef n) (sumRef n) := by rw [layer, hv]
  have L := layer_all (stage V n) (Fin.ofNat 8 n) (residRef n) (sumRef n) (fun k e => resid_not_own n hn ⟨k, e⟩) (fun k e => sum_not_own n hn ⟨k, e⟩)
  rw [← hlay, h.books, h.resid, h.sum] at L
  obtain ⟨l21, l35, l36, l37, l39, l41⟩ := L
  have K := fine_layer (F := F) (Fin.ofNat 8 n) (residRef n) (sumRef n)
  rw [← hlay] at K
  have old : ∀ {T : BufTy} (t : Fin 8 → TRef sig T) (k : Fin 78) (_ : ∀ q, (t q).ref = cell q k) (f : ℕ → T.Contents (Elt _))
      (_ : get (t (Fin.ofNat 8 n)) (after (layer (F := F) (Fin.ofNat 8 n)) (stage V n)) = f n) (_ : ∀ q : Fin 8, q.val < n → get (t q) (stage V n) = f q.val),
      ∀ q : Fin 8, q.val < n + 1 → get (t q) (stage V (n + 1)) = f q.val := by
    intro T t k ht f h1 h2 q hq
    by_cases e : q = Fin.ofNat 8 n
    · rw [e, hv, stage_step]; exact h1
    · have hq' : q.val < n := by
        have : q.val ≠ n := fun e' => e (Fin.ext (by rw [hv, e']))
        omega
      rw [← h2 q hq', stage_step]
      exact get_keep_line _ K (t q) (by rw [ht]; exact cell_not_own e k)
  have ofv : ∀ q : Fin 8, Fin.ofNat 8 q.val = q := fun q => Fin.ext (by simp only [Fin.val_ofNat]; omega)
  refine ⟨?_, ?_, ?_, ?_, ?_, ?_, ?_⟩
  · rw [stage_step]; exact (get_keep_line _ K books (not_own 1 rfl (by decide) _)).trans h.books
  · rw [stage_step]; exact l37
  · rw [stage_step]; exact l36
  · have := old t21 27 (fun _ => rfl) (fun i => idxOf (get books V) (Fin.ofNat 8 i) (residAt (get (residRef 0) V) (get books V) i)) l21
      (by intro q hq; rw [ofv]; exact h.idx q hq)
    intro q hq; rw [this q hq, ofv]
  · exact old t35 67 (fun _ => rfl) (fun i => quantAt (get (residRef 0) V) (get books V) i) l35 h.quant
  · have := old t39 73 (fun _ => rfl) (fun i => lossOf (residAt (get (residRef 0) V) (get books V) i)
      (rowsOf (get books V) (Fin.ofNat 8 i) (residAt (get (residRef 0) V) (get books V) i))) l39
      (by intro q hq; rw [ofv]; exact h.commit q hq)
    intro q hq; rw [this q hq, ofv]
  · have := old t41 77 (fun _ => rfl) (fun i => lossOf (rowsOf (get books V) (Fin.ofNat 8 i) (residAt (get (residRef 0) V) (get books V) i))
      (residAt (get (residRef 0) V) (get books V) i)) l41
      (by intro q hq; rw [ofv]; exact h.code q hq)
    intro q hq; rw [this q hq, ofv]

/-- All eight layers. -/
theorem stages : ∀ n ≤ 8, Stage V n
  | 0, _ => stage_zero V
  | n + 1, h => stage_succ V n h (stages n (by omega))

/-! ## The stacks -/

set_option maxHeartbeats 1000000 in
/-- What stacking the numbers leaves: the stack of the layers' numbers. -/
theorem read_idx (W : Valuation τ sig (Elt F)) : after idxOps W (Proc.devRef .tc main_v337)
    = stackIdx (F := F) fun q => liftIdx (get (t21 q) W) := by
  simp only [idxOps]
  after_results_simp
  dsimp only [Matrix.cons_val]
  after_results_simp
  refine congrArg stackIdx (funext fun q => ?_)
  fin_cases q <;> rfl

set_option maxHeartbeats 1000000 in
/-- What stacking the first losses leaves: the stack of the layers' first losses. -/
theorem read_commit (W : Valuation τ sig (Elt F)) : after commitOps W (Proc.devRef .tc main_v346)
    = stackLoss (F := F) fun q => liftLoss (get (t39 q) W) := by
  simp only [commitOps]
  after_results_simp
  dsimp only [Matrix.cons_val]
  after_results_simp
  refine congrArg stackLoss (funext fun q => ?_)
  fin_cases q <;> rfl

set_option maxHeartbeats 1000000 in
/-- What stacking the second losses leaves: the stack of the layers' second losses. -/
theorem read_code (W : Valuation τ sig (Elt F)) : after codeOps W (Proc.devRef .tc main_v355)
    = stackLoss (F := F) fun q => liftLoss (get (t41 q) W) := by
  simp only [codeOps]
  after_results_simp
  dsimp only [Matrix.cons_val]
  after_results_simp
  refine congrArg stackLoss (funext fun q => ?_)
  fin_cases q <;> rfl

set_option maxHeartbeats 1000000 in
/-- What stacking the quantized vectors leaves: the stack of the layers' quantized vectors. -/
theorem read_quant (W : Valuation τ sig (Elt F)) : after quantOps W (Proc.devRef .tc main_v364)
    = stackQuant (F := F) fun q => liftQuant (get (t35 q) W) := by
  simp only [quantOps]
  after_results_simp
  dsimp only [Matrix.cons_val]
  after_results_simp
  refine congrArg stackQuant (funext fun q => ?_)
  fin_cases q <;> rfl

end Stages

end Cert.ReferenceIdeal.Rvq

end
-- ==== Proof.RefValue.lean ====
/- The reference's functions on the extended reals, token by token: its distances, its nearest entries, its gathered entries
   and its losses. -/
module

public import proofs.«01_k».proof.Proof.RefStage
public import proofs.«01_k».proof.Proof.Tok

@[expose] public section

set_option maxRecDepth 16384

noncomputable section

namespace Cert.ReferenceIdeal.Rvq

open Cert.ReferenceIdeal Cert.ReferenceIdeal.Gen Idealize.ShloMosaic Idealize.ShloMosaic.TcCoe Idealize.SL.Sem
open Idealize.ShloMosaic.StableHlo Cert.Rvq

/-! ## Numbers -/

/-- Multiplying by the constant two is adding a number to itself. -/
theorem two_times (a : EReal) : Ideal.ofBits .f32 0x40000000#32 * a = a + a := by
  have h : Ideal.ofBits .f32 0x40000000#32 = ((2 : ℝ) : EReal) := by
    simp [Ideal.ofBits, Ideal.ieee, -EReal.coe_mul]; norm_num
  rw [h]
  induction a with
  | bot => rw [EReal.coe_mul_bot_of_pos (by norm_num)]; rfl
  | top => rw [EReal.coe_mul_top_of_pos (by norm_num)]; rfl
  | coe r => rw [← EReal.coe_mul, ← EReal.coe_add, two_mul]

/-- The square of a difference, either way round. -/
theorem sub_sq_comm (a b : EReal) : (a - b) * (a - b) = (b - a) * (b - a) := by
  induction a with
  | bot => induction b with
    | bot => rfl
    | top => rfl
    | coe s => rfl
  | top => induction b with
    | bot => rfl
    | top => rfl
    | coe s => rfl
  | coe r => induction b with
    | bot => rfl
    | top => rfl
    | coe s => rw [← EReal.coe_sub, ← EReal.coe_sub, ← EReal.coe_mul, ← EReal.coe_mul]; congr 1; ring

/-! ## The distances -/

/-- Codebook `q` as the reference uses it. -/
def refBook (c : FVec Ideal S8x1024x256 .f32) (q : ℕ) : Book :=
  ⟨fun k d => c (ix3 (Fin.ofNat 8 q) k d), fun k => ∑ d : Fin 256, c (ix3 (Fin.ofNat 8 q) k d) * c (ix3 (Fin.ofNat 8 q) k d),
    fun k d => c (ix3 (Fin.ofNat 8 q) k d)⟩

/-- The array of distances at a token and an entry is the distance of the token to the entry. -/
theorem dist_at (x : FVec Ideal S8x256x2048 .f32) (c : FVec Ideal S8x1024x256 .f32) (q : Fin 8) (t : Fin 16384) (k : Fin 1024) :
    distOf (F := Ideal) (flat x) (bookOf q c) (ix2 t k)
      = Cert.Rvq.dist (refBook c q.val) (fun d => x (ix3 (⟨t.val / 2048, by omega⟩ : Fin 8) d (⟨t.val % 2048, by omega⟩ : Fin 2048))) k := by
  have e : (Fin.ofNat 8 q.val) = q := Fin.ext (by simp only [Fin.val_ofNat]; omega)
  pointwise [distOf, flat, bookOf, Cert.Rvq.dist, refBook, e, two_times]

/-- The sum of the squared differences. -/
theorem loss_at (x g : FVec Ideal S8x256x2048 .f32) (j : S_.Idx) : lossOf (F := Ideal) x g j
    = Ideal.div (∑ b : Fin 8, Ideal.div (∑ d : Fin 256, ∑ n : Fin 2048, (x (ix3 b d n) - g (ix3 b d n)) * (x (ix3 b d n) - g (ix3 b d n)))
        (Ideal.ofBits .f32 0x49000000#32)) (Ideal.ofBits .f32 0x41000000#32) := by
  pointwise [lossOf]

/-- The two losses are the same number. -/
theorem loss_comm (x g : FVec Ideal S8x256x2048 .f32) : lossOf (F := Ideal) x g = lossOf (F := Ideal) g x := by
  funext j
  rw [loss_at, loss_at]
  simp only [sub_sq_comm (g _)]

/-! ## The nearest entry -/

/-- Reducing over the entries leaves the token's index. -/
theorem drop_at (h : S16384x1024.ReducesTo [1] S16384) (t : Fin 16384) (k : Fin 1024) : h.drop (ix2 t k) = ix1 t := by
  funext a
  obtain rfl : a = 0 := Subsingleton.elim _ _
  rfl

/-- `r` comes before `p`: its value is greater, or the values are equal and its number is not greater. -/
def Before (r p : EReal × BitVec 32) : Prop := p.1 < r.1 ∨ (p.1 = r.1 ∧ r.2.toInt ≤ p.2.toInt)

/-- Every pair comes before itself. -/
theorem Before.refl (r : EReal × BitVec 32) : Before r r := Or.inr ⟨rfl, le_rfl⟩

/-- Coming before is transitive. -/
theorem Before.trans {r p o : EReal × BitVec 32} (h : Before r p) (h' : Before p o) : Before r o := by
  rcases h with h | ⟨h, h1⟩ <;> rcases h' with h' | ⟨h', h2⟩
  · exact Or.inl (h'.trans h)
  · exact Or.inl (h' ▸ h)
  · exact Or.inl (h ▸ h')
  · exact Or.inr ⟨h'.trans h, h1.trans h2⟩

/-- One comparison of the arg-max, its numbers read as numbers. -/
theorem argmax_eq (a b : EReal × BitVec 32) : reducer_argmax_f32_i32 (F := Ideal) a b
    = (if b.1 < a.1 then a.1 else b.1, if b.1 < a.1 ∨ (a.1 = b.1 ∧ a.2.toInt < b.2.toInt) then a.2 else b.2) := by
  obtain ⟨a1, a2⟩ := a
  obtain ⟨b1, b2⟩ := b
  pointwise [reducer_argmax_f32_i32]
  by_cases h1 : b1 < a1 <;> by_cases h2 : a1 = b1 <;> by_cases h3 : a2.toInt < b2.toInt <;>
    simp [h1, h2, h3, Scalar.select, IntOp.ori, IntOp.andi, IntOp.cmpi, BitVec.slt_eq_decide]

/-- One comparison of the arg-max keeps the one of its pairs that comes before the other. -/
theorem argmax_step (a b : EReal × BitVec 32) :
    (reducer_argmax_f32_i32 (F := Ideal) a b = a ∨ reducer_argmax_f32_i32 (F := Ideal) a b = b)
    ∧ Before (reducer_argmax_f32_i32 (F := Ideal) a b) a ∧ Before (reducer_argmax_f32_i32 (F := Ideal) a b) b := by
  have pick {r : EReal × BitVec 32} (h : reducer_argmax_f32_i32 (F := Ideal) a b = r) (h1 : r = a ∨ r = b) (h2 : Before r a) (h3 : Before r b) :
      (reducer_argmax_f32_i32 (F := Ideal) a b = a ∨ reducer_argmax_f32_i32 (F := Ideal) a b = b)
      ∧ Before (reducer_argmax_f32_i32 (F := Ideal) a b) a ∧ Before (reducer_argmax_f32_i32 (F := Ideal) a b) b := by
    subst h; exact ⟨h1, h2, h3⟩
  rcases lt_trichotomy a.1 b.1 with h | h | h
  · refine pick (r := b) ?_ (Or.inr rfl) (Or.inl h) (Before.refl _)
    rw [argmax_eq, if_neg h.asymm, if_neg (fun o => o.elim h.asymm fun o => h.ne o.1)]
  · by_cases h' : a.2.toInt < b.2.toInt
    · refine pick (r := a) ?_ (Or.inl rfl) (Before.refl _) (Or.inr ⟨h.symm, h'.le⟩)
      rw [argmax_eq, if_neg h.not_gt, if_pos (Or.inr ⟨h, h'⟩), ← h]
    · refine pick (r := b) ?_ (Or.inr rfl) (Or.inr ⟨h, not_lt.mp h'⟩) (Before.refl _)
      rw [argmax_eq, if_neg h.not_gt, if_neg (fun o => o.elim h.not_gt fun o => h' o.2)]
  · refine pick (r := a) ?_ (Or.inl rfl) (Before.refl _) (Or.inl h)
    rw [argmax_eq, if_pos h, if_pos (Or.inl h)]

/-- The fold keeps one of the pairs it meets, and none of them comes before it. -/
theorem argmax_fold (l : List (EReal × BitVec 32)) (i : EReal × BitVec 32) :
    (l.foldl (reducer_argmax_f32_i32 (F := Ideal)) i = i ∨ l.foldl (reducer_argmax_f32_i32 (F := Ideal)) i ∈ l)
    ∧ Before (l.foldl (reducer_argmax_f32_i32 (F := Ideal)) i) i ∧ ∀ p ∈ l, Before (l.foldl (reducer_argmax_f32_i32 (F := Ideal)) i) p := by
  induction l generalizing i with
  | nil => exact ⟨Or.inl rfl, Before.refl _, fun _ h => absurd h List.not_mem_nil⟩
  | cons b l ih =>
    obtain ⟨h1, h2, h3⟩ := ih (reducer_argmax_f32_i32 (F := Ideal) i b)
    obtain ⟨s1, s2, s3⟩ := argmax_step i b
    rw [List.foldl_cons]
    refine ⟨?_, h2.trans s2, fun p hp => ?_⟩
    · rcases h1 with h1 | h1
      · rw [h1]
        exact s1.imp id fun e => by rw [e]; exact List.mem_cons_self
      · exact Or.inr (List.mem_cons_of_mem _ h1)
    · rcases List.mem_cons.mp hp with rfl | hp
      · exact h2.trans s3
      · exact h3 p hp

/-- The pairs that the arg-max of row `t` meets. -/
theorem mem_row (x : FVec Ideal S16384x1024 .f32) (t : Fin 16384) (p : EReal × BitVec 32) :
    p ∈ Host.argReduceFiber (α := EReal) x (iotaInDim S16384x1024 32 1) reducesTo_S16384x1024_S16384_d1 (ix1 t)
      ↔ ∃ k : Fin 1024, p = (x (ix2 t k), BitVec.ofNat 32 k.val) := by
  unfold Host.argReduceFiber
  rw [List.mem_map]
  constructor
  · rintro ⟨n, hn, rfl⟩
    have hd := of_decide_eq_true (List.mem_filter.mp hn).2
    generalize S16384x1024.rowMajor.symm n = i at hd
    idx_vars i
    rw [drop_at] at hd
    have e : i0 = t := congrFun hd 0
    subst e
    exact ⟨i1, rfl⟩
  · rintro ⟨k, rfl⟩
    refine ⟨S16384x1024.rowMajor (ix2 t k), List.mem_filter.mpr ⟨List.mem_finRange _, decide_eq_true ?_⟩, ?_⟩
    · rw [Equiv.symm_apply_apply, drop_at]
    · rw [Equiv.symm_apply_apply]; rfl

/-- The number chosen for row `t` is that of its first least distance. -/
theorem nearest_row (x : FVec Ideal S16384x1024 .f32) (t : Fin 16384) :
    (Host.argReduce reducer_argmax_f32_i32 (Host.negf x) (iotaInDim S16384x1024 32 1)
      (constant S_ .f32 0xFF800000#32) (constantI S_ 32 0#32) reducesTo_S16384x1024_S16384_d1 h_S_ (ix1 t)).2
      = BitVec.ofNat 32 (lead fun k : Fin 1024 => x (ix2 t k)).val := by
  rw [Ideal.argReduce_eq_reduce2, Host.reduce2_eq_foldl_fiber]
  have hi : (constant (F := Ideal) S_ .f32 0xFF800000#32 (Shape.Idx.first h_S_), constantI S_ 32 0#32 (Shape.Idx.first h_S_)) = ((⊥ : EReal), 0#32) := by
    refine Prod.ext ?_ rfl
    show Ideal.ofBits .f32 0xFF800000#32 = ⊥
    simp [Ideal.ofBits, Ideal.ieee]
  rw [hi]
  obtain ⟨h1, h2, h3⟩ := argmax_fold (Host.argReduceFiber (α := EReal) (Host.negf x) (iotaInDim S16384x1024 32 1) reducesTo_S16384x1024_S16384_d1 (ix1 t)) (⊥, 0#32)
  have h4 : ∀ k : Fin 1024, Before _ (-x (ix2 t k), BitVec.ofNat 32 k.val) := fun k => h3 _ ((mem_row _ t _).mpr ⟨k, rfl⟩)
  revert h1 h2 h4
  generalize List.foldl _ _ _ = r
  intro h1 h2 h4
  have fin : ∀ k : Fin 1024, r = (-x (ix2 t k), BitVec.ofNat 32 k.val) → r.2 = BitVec.ofNat 32 (lead fun k : Fin 1024 => x (ix2 t k)).val := by
    rintro k rfl
    rw [← eq_lead (fun k : Fin 1024 => x (ix2 t k)) k]
    · intro j
      rcases h4 j with h | ⟨h, -⟩
      · exact (EReal.neg_lt_neg_iff.mp h).le
      · exact (neg_injective h).ge
    · intro j hj
      rcases h4 j with h | ⟨-, h⟩
      · exact absurd (EReal.neg_lt_neg_iff.mp h) (not_lt.mpr hj)
      · have := k.isLt
        have := j.isLt
        rw [toInt_ofNat _ (by omega), toInt_ofNat _ (by omega)] at h
        exact Fin.le_def.mpr (by exact_mod_cast h)
  rcases h1 with rfl | h1
  · have ht : ∀ k : Fin 1024, x (ix2 t k) = ⊤ := fun k => by
      rcases h4 k with h | ⟨h, -⟩
      · exact absurd h not_lt_bot
      · exact EReal.neg_eq_bot_iff.mp h
    have : lead (fun k : Fin 1024 => x (ix2 t k)) = 0 := by
      symm
      apply eq_lead
      · intro j; rw [ht, ht]
      · intro j _; exact Fin.zero_le _
    rw [this]; rfl
  · obtain ⟨k, e⟩ := (mem_row _ t r).mp h1
    exact fin k e

/-- A list of tokens in the layout of the batch. -/
theorem batch_at (f : S16384.Idx → BitVec 32) (b : Fin 8) (n : Fin 2048) :
    shapeCast S8x2048 f shapeCasts_S16384_S8x2048 (ix2 b n) = f (ix1 (⟨b.val * 2048 + n.val, by omega⟩ : Fin 16384)) := by
  pointwise

/-- The numbers chosen, in the layout of the batch. -/
theorem nearest_at (x : FVec Ideal S16384x1024 .f32) (b : Fin 8) (n : Fin 2048) :
    nearestOf (F := Ideal) x (ix2 b n)
      = BitVec.ofNat 32 (lead fun k : Fin 1024 => x (ix2 (⟨b.val * 2048 + n.val, by omega⟩ : Fin 16384) k)).val := by
  unfold nearestOf
  rw [batch_at]
  exact nearest_row x _

/-! ## The gathered entries -/

/-- A number in range stays as it is. -/
theorem wrap_at (i : IVec S8x2048 32) (b : Fin 8) (n : Fin 2048) (k : Fin 1024) (h : i (ix2 b n) = BitVec.ofNat 32 k.val) :
    wrapOf (F := Ideal) i (ix3 b n 0) = BitVec.ofNat 32 k.val := by
  have hk := k.isLt
  pointwise [wrapOf]
  rw [h]
  have : ¬ ((k.val : ℤ) < 0) := by omega
  simp [IntOp.cmpi, BitVec.slt_eq_decide, toInt_ofNat k.val (by omega), Scalar.select, this]

/-- The gather reads the entry whose number it is given. -/
theorem gather_at (c : FVec Ideal S1024x256 .f32) (w : IVec S8x2048x1 32) (b : Fin 8) (n : Fin 2048) (d : Fin 256) (k : Fin 1024)
    (h : w (ix3 b n 0) = BitVec.ofNat 32 k.val) :
    Host.gather gather_S1024x256_S8x2048x1_S8x2048x256_2_0_n_n_0_2_1256 c w (ix3 b n d) = c (ix2 k d) := by
  have hk := k.isLt
  unfold Host.gather
  refine congrArg c (funext fun a => Fin.ext ?_)
  show (gather_S1024x256_S8x2048x1_S8x2048x256_2_0_n_n_0_2_1256).start (ix3 b n d) w a
    + (gather_S1024x256_S8x2048x1_S8x2048x256_2_0_n_n_0_2_1256).batchCoord (ix3 b n d) a
    + (gather_S1024x256_S8x2048x1_S8x2048x256_2_0_n_n_0_2_1256).offCoord (ix3 b n d) a = _
  have hb : ∀ a', a' ∉ (gather_S1024x256_S8x2048x1_S8x2048x256_2_0_n_n_0_2_1256).operandBatchingDims := fun _ => List.not_mem_nil
  rw [GatherDims.batchCoord_eq_zero _ _ _ (hb a)]
  match a with
  | ⟨0, _⟩ =>
    rw [GatherDims.offCoord_eq_zero _ _ _ (fun h => ((GatherDims.mem_sKept _ _).mp h).1 (List.mem_singleton.mpr rfl))]
    unfold GatherDims.start
    split
    case isFalse hm => exact absurd (List.mem_singleton.mpr rfl) hm
    have e : ∀ l, (gather_S1024x256_S8x2048x1_S8x2048x256_2_0_n_n_0_2_1256).siIdx (ix3 b n d) l = ix3 b n 0 := by
      intro l
      funext a'
      match a' with
      | ⟨0, _⟩ => rfl
      | ⟨1, _⟩ => rfl
      | ⟨2, _⟩ => exact Subsingleton.elim (α := Fin 1) _ _
    rw [e, h, toInt_ofNat k.val (by omega)]
    show min k.val 1023 + 0 + 0 = k.val
    omega
  | ⟨1, _⟩ =>
    unfold GatherDims.start GatherDims.offCoord
    split
    case isTrue hm => exact absurd hm (show ¬ (1 : Fin 2) ∈ [(0 : Fin 2)] by decide)
    split
    case isFalse hm => exact absurd ((GatherDims.mem_sKept _ _).mpr ⟨show ¬ (1 : Fin 2) ∈ [(0 : Fin 2)] by decide, List.not_mem_nil⟩) hm
    show 0 + 0 + _ = d.val
    rw [Nat.zero_add]
    rfl

/-- The entry gathered at a number in range. -/
theorem take_at (c : FVec Ideal S1024x256 .f32) (i : IVec S8x2048 32) (b : Fin 8) (n : Fin 2048) (d : Fin 256) (k : Fin 1024)
    (h : i (ix2 b n) = BitVec.ofNat 32 k.val) : takeOf (F := Ideal) c i (ix3 b n d) = c (ix2 k d) := by
  have hk := k.isLt
  have hw := wrap_at i b n k h
  pointwise [takeOf]
  rw [gather_at c _ b n d k hw, show (Finset.univ : Finset (Fin 1)) = {0} from rfl, Finset.fold_singleton, hw]
  have h1 : (0 : ℤ) ≤ (k.val : ℤ) := by omega
  have h2 : (k.val : ℤ) ≤ 1023 := by omega
  simp [IntOp.cmpi, IntOp.andi, BitVec.sle_eq_decide, toInt_ofNat k.val (by omega), Scalar.select, h1, h2]

end Cert.ReferenceIdeal.Rvq

end
-- ==== Proof.RefTok.lean ====
/- The reference's recursion and its five results on the extended reals, token by token. -/
module

public import proofs.«01_k».proof.Proof.RefValue

@[expose] public section

set_option maxRecDepth 16384

noncomputable section

namespace Cert.ReferenceIdeal.Rvq

open Cert.ReferenceIdeal Cert.ReferenceIdeal.Gen Idealize.ShloMosaic Idealize.ShloMosaic.TcCoe Idealize.SL.Sem
open Idealize.ShloMosaic.StableHlo Cert.Rvq

/-! ## One layer -/

/-- Token `n` of batch `b`. -/
def col (x : FVec Ideal S8x256x2048 .f32) (b : Fin 8) (n : Fin 2048) : Row := fun d => x (ix3 b d n)

/-- Reducing a layer's number modulo eight twice is reducing it once. -/
theorem ofNat_val (n : ℕ) : Fin.ofNat 8 (Fin.ofNat 8 n).val = Fin.ofNat 8 n := Fin.ext (by simp only [Fin.val_ofNat]; omega)

/-- A codebook depends on its number modulo eight only. -/
theorem refBook_mod (c : FVec Ideal S8x1024x256 .f32) (n : ℕ) : refBook c (Fin.ofNat 8 n).val = refBook c n := by
  simp only [refBook, ofNat_val]

/-- An element of codebook `q` is the element of the codebooks at `q`. -/
theorem book_at (c : FVec Ideal S8x1024x256 .f32) (q : Fin 8) (k : Fin 1024) (d : Fin 256) :
    bookOf (F := Ideal) q c (ix2 k d) = c (ix3 q k d) := by
  pointwise [bookOf]

/-- The number found for a token is that of the entry picked. -/
theorem idx_at (c : FVec Ideal S8x1024x256 .f32) (q : Fin 8) (x : FVec Ideal S8x256x2048 .f32) (b : Fin 8) (n : Fin 2048) :
    idxOf (F := Ideal) c q x (ix2 b n) = BitVec.ofNat 32 (pick (refBook c q.val) (col x b n)).val := by
  unfold idxOf
  rw [nearest_at]
  refine congrArg (fun f => BitVec.ofNat 32 (lead f).val) (funext fun k => ?_)
  rw [dist_at]
  have h1 : (b.val * 2048 + n.val) / 2048 = b.val := by omega
  have h2 : (b.val * 2048 + n.val) % 2048 = n.val := by omega
  simp only [h1, h2]
  rfl

/-- The entry gathered for a token is the one picked. -/
theorem rows_at (c : FVec Ideal S8x1024x256 .f32) (q : Fin 8) (x : FVec Ideal S8x256x2048 .f32) (b : Fin 8) (d : Fin 256) (n : Fin 2048) :
    rowsOf (F := Ideal) c q x (ix3 b d n) = (refBook c q.val).value (pick (refBook c q.val) (col x b n)) d := by
  have e : (Fin.ofNat 8 q.val) = q := Fin.ext (by simp only [Fin.val_ofNat]; omega)
  have h : rowsOf (F := Ideal) c q x (ix3 b d n) = takeOf (F := Ideal) (bookOf q c) (idxOf c q x) (ix3 b n d) := by pointwise [rowsOf, colsOf]
  rw [h, take_at _ _ b n d _ (idx_at c q x b n), book_at]
  simp only [refBook, e]

/-! ## All layers -/

section

variable (z : FVec Ideal S8x256x2048 .f32) (c : FVec Ideal S8x1024x256 .f32)

/-- The quantized array at a token is the token's quantized vector. -/
theorem quant_of (q : Fin 8) (x : FVec Ideal S8x256x2048 .f32) (b : Fin 8) (d : Fin 256) (n : Fin 2048) :
    stOf (F := Ideal) x (rowsOf c q x) (ix3 b d n) = quant (refBook c q.val) (col x b n) d := by
  show x (ix3 b d n) + (rowsOf (F := Ideal) c q x (ix3 b d n) - x (ix3 b d n)) = _
  rw [rows_at]
  rfl

/-- The residual of a token. -/
theorem resid_at (q : ℕ) (b : Fin 8) (n : Fin 2048) : col (residAt (F := Ideal) z c q) b n = resid (refBook c) (col z b n) q := by
  induction q with
  | zero => rfl
  | succ q ih =>
    funext d
    show residAt (F := Ideal) z c q (ix3 b d n) - stOf (F := Ideal) (residAt z c q) (rowsOf c (Fin.ofNat 8 q) (residAt z c q)) (ix3 b d n) = _
    rw [quant_of, refBook_mod, ih]
    have := congrFun ih d
    exact congrArg (· - quant (refBook c q) (resid (refBook c) (col z b n) q) d) this

/-- The quantized vector of a token. -/
theorem quant_at (q : ℕ) (b : Fin 8) (d : Fin 256) (n : Fin 2048) :
    quantAt (F := Ideal) z c q (ix3 b d n) = quant (refBook c q) (resid (refBook c) (col z b n) q) d := by
  unfold quantAt
  rw [quant_of, refBook_mod, resid_at]

/-- The sum of a token's quantized vectors. -/
theorem sum_at (q : ℕ) (b : Fin 8) (d : Fin 256) (n : Fin 2048) :
    sumAt (F := Ideal) z c q (ix3 b d n) = total (refBook c) (col z b n) q d := by
  induction q with
  | zero => pointwise [sumAt, total]
  | succ q ih =>
    show sumAt (F := Ideal) z c q (ix3 b d n) + quantAt (F := Ideal) z c q (ix3 b d n) = _
    rw [ih, quant_at]
    rfl

/-- The sum of a layer's squared errors. -/
theorem loss_of (q : Fin 8) (j : S_.Idx) :
    lossOf (F := Ideal) (rowsOf c q (residAt z c q.val)) (residAt z c q.val) j
      = Ideal.div (∑ b : Fin 8, Ideal.div (∑ d : Fin 256, ∑ n : Fin 2048, err (refBook c q.val) (resid (refBook c) (col z b n) q.val) d)
        (Ideal.ofBits .f32 0x49000000#32)) (Ideal.ofBits .f32 0x41000000#32) := by
  rw [loss_at]
  have h (b : Fin 8) (d : Fin 256) (n : Fin 2048) : residAt (F := Ideal) z c q.val (ix3 b d n) = resid (refBook c) (col z b n) q.val d :=
    congrFun (resid_at z c q.val b n) d
  simp only [rows_at, resid_at, h, err]

end

/-! ## The stacks -/

/-- Layer `q` of the stacked numbers is layer `q`'s. -/
theorem stack_idx (u : Fin 8 → (⟨S1x8x2048, .i32⟩ : BufTy).Contents (Elt Ideal)) (q b : Fin 8) (n : Fin 2048) :
    stackIdx (F := Ideal) u (ix3 q b n) = u q (ix3 0 b n) := by
  fin_cases q <;> pointwise [stackIdx]

/-- Layer `q` of the stacked losses is layer `q`'s. -/
theorem stack_loss (u : Fin 8 → (⟨S1, .f32⟩ : BufTy).Contents (Elt Ideal)) (q : Fin 8) :
    stackLoss (F := Ideal) u (ix1 q) = u q (ix1 0) := by
  fin_cases q <;> pointwise [stackLoss]

/-- Layer `q` of the stacked quantized vectors is layer `q`'s. -/
theorem stack_quant (u : Fin 8 → (⟨S1x8x256x2048, .f32⟩ : BufTy).Contents (Elt Ideal)) (q b : Fin 8) (d : Fin 256) (n : Fin 2048) :
    stackQuant (F := Ideal) u (ix4 q b d n) = u q (ix4 0 b d n) := by
  fin_cases q <;> pointwise [stackQuant]

end Cert.ReferenceIdeal.Rvq

end
-- ==== Proof.RefEnd.lean ====
/- The reference's run with its five results as functions of its arguments on the extended reals. -/
module

public import proofs.«01_k».proof.Proof.RefTok

@[expose] public section

set_option maxRecDepth 16384

noncomputable section

namespace Cert.ReferenceIdeal.Rvq

open Cert.ReferenceIdeal Cert.ReferenceIdeal.Gen Idealize.ShloMosaic Idealize.ShloMosaic.TcCoe Idealize.SL.Sem
open Idealize.ShloMosaic.StableHlo Cert.Rvq

/-! ## The stacks' lines one after the other -/

section

variable {F : FTy → Type} [FloatOps F]

/-- The buffers numbered from `lo` to below `hi`. -/
def Band (lo hi : ℕ) (r : Ref sig .tc) : Prop := ∃ n : Fin 664, (lo ≤ n.val ∧ n.val < hi) ∧ r = ⟨.hbm, n, rfl⟩

/-- A buffer numbered within the bounds is in the band. -/
theorem band {lo hi : ℕ} (n : Fin 664) (h : lo ≤ n.val ∧ n.val < hi) : Band lo hi ⟨.hbm, n, rfl⟩ := ⟨n, h, rfl⟩

/-- A buffer numbered outside the bounds is not in the band. -/
theorem not_band {lo hi : ℕ} (n : Fin 664) (h : n.val < lo ∨ hi ≤ n.val) : ¬ Band lo hi ⟨.hbm, n, rfl⟩ := by
  rintro ⟨k, hk, e⟩
  have : n.val = k.val := congrArg (fun r : Ref sig .tc => r.idx.val) e
  omega

set_option maxHeartbeats 1000000 in
/-- Stacking the numbers writes only buffers 628 to 636. -/
theorem fine_idx : (idxOps (F := F)).Forall (Fine (Band 628 637)) := by
  simp only [List.Forall]
  repeat' apply And.intro
  all_goals first | exact fine_unary (band _ (by decide)) _ _ _ | exact fine_nary (band _ (by decide)) _ _ _ _

set_option maxHeartbeats 1000000 in
/-- Stacking the first losses writes only buffers 637 to 645. -/
theorem fine_commit : (commitOps (F := F)).Forall (Fine (Band 637 646)) := by
  simp only [List.Forall]
  repeat' apply And.intro
  all_goals first | exact fine_unary (band _ (by decide)) _ _ _ | exact fine_nary (band _ (by decide)) _ _ _ _

set_option maxHeartbeats 1000000 in
/-- Stacking the second losses writes only buffers 646 to 654. -/
theorem fine_code : (codeOps (F := F)).Forall (Fine (Band 646 655)) := by
  simp only [List.Forall]
  repeat' apply And.intro
  all_goals first | exact fine_unary (band _ (by decide)) _ _ _ | exact fine_nary (band _ (by decide)) _ _ _ _

set_option maxHeartbeats 1000000 in
/-- Stacking the quantized vectors writes only buffers 655 to 663. -/
theorem fine_quant : (quantOps (F := F)).Forall (Fine (Band 655 664)) := by
  simp only [List.Forall]
  repeat' apply And.intro
  all_goals first | exact fine_unary (band _ (by decide)) _ _ _ | exact fine_nary (band _ (by decide)) _ _ _ _

/-- A layer's buffer is not one of the stacks'. -/
theorem cell_not_band {lo hi : ℕ} (h : 628 ≤ lo) (q : Fin 8) (k : Fin 78) : ¬ Band lo hi (cell q k) := by
  rintro ⟨n, hn, e⟩
  have h2 : 4 + 78 * q.val + k.val = n.val := congrArg (fun r : Ref sig .tc => r.idx.val) e
  have := k.isLt
  have := q.isLt
  omega

variable (W : Valuation τ sig (Elt F))

/-- The four stacks are made one after the other. -/
theorem after_stack : after stackOps W = after quantOps (after codeOps (after commitOps (after idxOps W))) := by
  simp only [after_append]

/-- The stacks leave the last layer's sum as it was. -/
theorem end_sum : get (t36 7) (after stackOps W) = get (t36 7) W := by
  rw [after_stack, get_keep_line _ fine_quant _ (cell_not_band (by decide) _ _), get_keep_line _ fine_code _ (cell_not_band (by decide) _ _),
    get_keep_line _ fine_commit _ (cell_not_band (by decide) _ _), get_keep_line _ fine_idx _ (cell_not_band (by decide) _ _)]

/-- The second result is the stack of the layers' numbers. -/
theorem end_idx : after stackOps W (Proc.devRef .tc main_v337) = stackIdx (F := F) fun q => liftIdx (get (t21 q) W) := by
  rw [after_stack, after_keep fine_quant _ (not_band 636 (by decide)), after_keep fine_code _ (not_band 636 (by decide)),
    after_keep fine_commit _ (not_band 636 (by decide)), read_idx]

/-- The third result is the stack of the layers' first losses. -/
theorem end_commit : after stackOps W (Proc.devRef .tc main_v346) = stackLoss (F := F) fun q => liftLoss (get (t39 q) W) := by
  rw [after_stack, after_keep fine_quant _ (not_band 645 (by decide)), after_keep fine_code _ (not_band 645 (by decide)), read_commit]
  refine congrArg stackLoss (funext fun q => ?_)
  rw [get_keep_line _ fine_idx _ (cell_not_band (by decide) _ _)]

/-- The fourth result is the stack of the layers' second losses. -/
theorem end_code : after stackOps W (Proc.devRef .tc main_v355) = stackLoss (F := F) fun q => liftLoss (get (t41 q) W) := by
  rw [after_stack, after_keep fine_quant _ (not_band 654 (by decide)), read_code]
  refine congrArg stackLoss (funext fun q => ?_)
  rw [get_keep_line _ fine_commit _ (cell_not_band (by decide) _ _), get_keep_line _ fine_idx _ (cell_not_band (by decide) _ _)]

/-- The fifth result is the stack of the layers' quantized vectors. -/
theorem end_quant : after stackOps W (Proc.devRef .tc main_v364) = stackQuant (F := F) fun q => liftQuant (get (t35 q) W) := by
  rw [after_stack, read_quant]
  refine congrArg stackQuant (funext fun q => ?_)
  rw [get_keep_line _ fine_code _ (cell_not_band (by decide) _ _), get_keep_line _ fine_commit _ (cell_not_band (by decide) _ _),
    get_keep_line _ fine_idx _ (cell_not_band (by decide) _ _)]

end

/-! ## The five results -/

section

variable (z : FVec Ideal S8x256x2048 .f32) (c : FVec Ideal S8x1024x256 .f32)

/-- The quantized array: the sum of each token's quantized vectors. -/
def out0 : FVec Ideal S8x256x2048 .f32 := fun j => total (refBook c) (col z (j 0) (j 2)) 8 (j 1)

/-- The numbers of the entries picked, layer by layer. -/
def out1 : IVec S8x8x2048 32 := fun j =>
  BitVec.ofNat 32 (pick (refBook c (j 0).val) (resid (refBook c) (col z (j 1) (j 2)) (j 0).val)).val

/-- The loss of every layer. -/
def out2 : FVec Ideal S8 .f32 := fun j =>
  Ideal.div (∑ b : Fin 8, Ideal.div (∑ d : Fin 256, ∑ n : Fin 2048, err (refBook c (j 0).val) (resid (refBook c) (col z b n) (j 0).val) d)
    (Ideal.ofBits .f32 0x49000000#32)) (Ideal.ofBits .f32 0x41000000#32)

/-- The quantized array of every layer. -/
def out4 : FVec Ideal S8x8x256x2048 .f32 := fun j =>
  quant (refBook c (j 0).val) (resid (refBook c) (col z (j 1) (j 3)) (j 0).val) (j 2)

/-- The sum after eight layers is, token by token, the first result as the mathematics states it. -/
theorem sum_eq : sumAt (F := Ideal) z c 8 = out0 z c := by
  funext j
  idx_vars j
  exact sum_at z c 8 j0 j1 j2

/-- A leading axis of one does not change the numbers. -/
theorem lift_idx (f : (⟨S8x2048, .i32⟩ : BufTy).Contents (Elt Ideal)) (b : Fin 8) (n : Fin 2048) :
    liftIdx (F := Ideal) f (ix3 0 b n) = f (ix2 b n) := by
  pointwise [liftIdx]

/-- The stacked numbers are the second result as the mathematics states it. -/
theorem idx_eq : (stackIdx (F := Ideal) fun q => liftIdx (idxOf c q (residAt z c q.val))) = out1 z c := by
  funext j
  idx_vars j
  rw [stack_idx]
  rw [lift_idx, idx_at, resid_at]
  simp only [out1, ix3_0, ix3_1, ix3_2]

/-- The stacked losses are the third result as the mathematics states it. -/
theorem loss_eq : (stackLoss (F := Ideal) fun q => liftLoss (lossOf (rowsOf c q (residAt z c q.val)) (residAt z c q.val))) = out2 z c := by
  funext j
  idx_vars j
  rw [stack_loss]
  have h : liftLoss (F := Ideal) (lossOf (rowsOf c j0 (residAt z c j0.val)) (residAt z c j0.val)) (ix1 0)
      = lossOf (F := Ideal) (rowsOf c j0 (residAt z c j0.val)) (residAt z c j0.val) ix0 := by
    pointwise [liftLoss]
  rw [h, loss_of]
  rfl

/-- The stacked quantized vectors are the fifth result as the mathematics states it. -/
theorem quant_eq : (stackQuant (F := Ideal) fun q => liftQuant (quantAt z c q.val)) = out4 z c := by
  funext j
  idx_vars j
  rw [stack_quant]
  have h : liftQuant (F := Ideal) (quantAt z c j0.val) (ix4 0 j1 j2 j3) = quantAt (F := Ideal) z c j0.val (ix3 j1 j2 j3) := by
    pointwise [liftQuant]
  rw [h, quant_at]
  rfl

end

/-- The reference's results, from the contents its buffers start with. -/
theorem results (V : Valuation τ sig (Elt Ideal)) :
    get (t36 7) (after (ops (F := Ideal)) V) = out0 (get (residRef 0) V) (get books V)
    ∧ after (ops (F := Ideal)) V (Proc.devRef .tc main_v337) = out1 (get (residRef 0) V) (get books V)
    ∧ after (ops (F := Ideal)) V (Proc.devRef .tc main_v346) = out2 (get (residRef 0) V) (get books V)
    ∧ after (ops (F := Ideal)) V (Proc.devRef .tc main_v355) = out2 (get (residRef 0) V) (get books V)
    ∧ after (ops (F := Ideal)) V (Proc.devRef .tc main_v364) = out4 (get (residRef 0) V) (get books V) := by
  have S := stages V 8 le_rfl
  rw [after_ops]
  refine ⟨?_, ?_, ?_, ?_, ?_⟩
  · rw [end_sum]
    exact S.sum.trans (sum_eq _ _)
  · rw [end_idx]
    refine Eq.trans (congrArg stackIdx (funext fun q => congrArg liftIdx (S.idx q q.isLt))) (idx_eq _ _)
  · rw [end_commit]
    refine Eq.trans (congrArg stackLoss (funext fun q => congrArg liftLoss ((S.commit q q.isLt).trans (loss_comm _ _)))) (loss_eq _ _)
  · rw [end_code]
    refine Eq.trans (congrArg stackLoss (funext fun q => congrArg liftLoss (S.code q q.isLt))) (loss_eq _ _)
  · rw [end_quant]
    refine Eq.trans (congrArg stackQuant (funext fun q => congrArg liftQuant (S.quant q q.isLt))) (quant_eq _ _)

/-- The reference runs, leaving the five results and its arguments as they were. -/
theorem run_results (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v323) = out0 (m ((c.tc : Thread nD τ).loc main_arg0)) (m ((c.tc : Thread nD τ).loc main_arg1))
      ∧ r.2.mem ((c.tc : Thread nD τ).loc main_v337) = out1 (m ((c.tc : Thread nD τ).loc main_arg0)) (m ((c.tc : Thread nD τ).loc main_arg1))
      ∧ r.2.mem ((c.tc : Thread nD τ).loc main_v346) = out2 (m ((c.tc : Thread nD τ).loc main_arg0)) (m ((c.tc : Thread nD τ).loc main_arg1))
      ∧ r.2.mem ((c.tc : Thread nD τ).loc main_v355) = out2 (m ((c.tc : Thread nD τ).loc main_arg0)) (m ((c.tc : Thread nD τ).loc main_arg1))
      ∧ r.2.mem ((c.tc : Thread nD τ).loc main_v364) = out4 (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r h c => ?_) (run m ρ)
  obtain ⟨h0, h1, h2, h3, h4⟩ := results (launchContents m c)
  refine ⟨(h c _).trans h0, (h c _).trans h1, (h c _).trans h2, (h c _).trans h3, (h c _).trans h4, ?_, ?_⟩
  · rw [h c, after_keep fine_ops _ (fun o => o.1 rfl)]
  · rw [h c, after_keep fine_ops _ (fun o => o.2 rfl)]

end Cert.ReferenceIdeal.Rvq

end
-- ==== Proof.Arrays.lean ====
/- The kernel's arrays after its pipeline, as functions of the arrays that the pipeline finds. -/
module

public import proofs.«01_k».proof.Proof.Run
public import Idealize.ShloMosaic.Lib.Pipeline.ValueKit

@[expose] public section

set_option maxRecDepth 16384

noncomputable section

namespace Cert.KernelIdeal.Rvq

open Idealize.ShloMosaic Idealize.ShloMosaic.TcCoe Idealize.SL.Sem
open Idealize.ShloMosaic.Pipeline (Dat)
open Cert.KernelIdeal Cert.KernelIdeal.Gen Cert.Rvq

variable (m : (ℓ : Loc nD τ sig) → Buf (Elt Ideal) ℓ)

/-- Where every window's block lies, at all points: point `t` is half `t % 2` of batch `t / 2`. -/
theorem place : ∀ t : Fin cfg0.N, win0_0.index t = ![t.val / 2, 0, t.val % 2] ∧ win0_1.index t = ![0, 0, 0] ∧ win0_2.index t = ![0, 0]
    ∧ win0_3.index t = ![0, 0, 0] ∧ win0_4.index t = ![0, 0, 0] ∧ win0_5.index t = ![0, 0, 0] ∧ win0_6.index t = ![t.val / 2, 0, t.val % 2]
    ∧ win0_7.index t = ![t.val / 2, 0, t.val % 2] ∧ win0_8.index t = ![0, 0] ∧ win0_9.index t = ![0, t.val / 2, 0, t.val % 2] ∧ t.val / 2 < 8 :=
  (by decide +kernel : ∀ t : Fin grid0.N, _)

/-- The codebooks as the pipeline finds them. -/
def bk (c : Dev nD) : ℕ → Book :=
  books (V m c main_arg1) (V m c main_call0_v40) (V m c main_call0_v47) (V m c main_call0_v48) (V m c main_call0_v49)

/-- Token `n` of batch `b`. -/
def colK (x : FVec Ideal S8x256x2048 .f32) (b : Fin 8) (n : Fin 2048) : Row := fun d => x (ix3 b d n)

/-- Every grid point sees the whole array of codebooks. -/
theorem iblk_1 (c : Dev nD) (t : Fin cfg0.N) : iblk m c 1 t = V m c main_arg1 := by blk_ext! [iblk, place t]
/-- Every grid point sees the whole second array the host code passes. -/
theorem iblk_2 (c : Dev nD) (t : Fin cfg0.N) : iblk m c 2 t = V m c main_call0_v40 := by blk_ext! [iblk, place t]
/-- Every grid point sees the whole third array. -/
theorem iblk_3 (c : Dev nD) (t : Fin cfg0.N) : iblk m c 3 t = V m c main_call0_v47 := by blk_ext! [iblk, place t]
/-- Every grid point sees the whole fourth array. -/
theorem iblk_4 (c : Dev nD) (t : Fin cfg0.N) : iblk m c 4 t = V m c main_call0_v48 := by blk_ext! [iblk, place t]
/-- Every grid point sees the whole fifth array. -/
theorem iblk_5 (c : Dev nD) (t : Fin cfg0.N) : iblk m c 5 t = V m c main_call0_v49 := by blk_ext! [iblk, place t]

/-- The codebooks are the same at every grid point. -/
theorem bookAt_eq (c : Dev nD) (t : Fin cfg0.N) : bookAt m c t = bk m c := by
  unfold bookAt bk
  rw [iblk_1, iblk_2, iblk_3, iblk_4, iblk_5]

/-- Row `n` at grid point `t` is a token: batch `t / 2`, position `n` of half `t % 2`. -/
theorem rowAt_eq (c : Dev nD) (t : Fin cfg0.N) (n : Fin 1024) : rowAt m c t n
    = colK (V m c main_arg0) ⟨t.val / 2, (place t).2.2.2.2.2.2.2.2.2.2⟩ ⟨t.val % 2 * 1024 + n.val, by omega⟩ := by
  funext d
  unfold rowAt cols colK
  blk_ext [iblk, place t]

/-- Where the blocks of the token results lie in their arrays, coordinate by coordinate. -/
theorem emb_6 (t : Fin cfg0.N) (y : S1x256x1024.Idx) :
    ((win0_6.blk t).view.emb y 0).val = t.val / 2 ∧ ((win0_6.blk t).view.emb y 1).val = (y 1).val ∧ ((win0_6.blk t).view.emb y 2).val = t.val % 2 * 1024 + (y 2).val := by
  idx_vars y
  refine ⟨?_, ?_, ?_⟩ <;> blk_simp [place t] <;> simp

/-- Where an element of the block of numbers lies in its array. -/
theorem emb_7 (t : Fin cfg0.N) (y : S1x8x1024.Idx) :
    ((win0_7.blk t).view.emb y 0).val = t.val / 2 ∧ ((win0_7.blk t).view.emb y 1).val = (y 1).val ∧ ((win0_7.blk t).view.emb y 2).val = t.val % 2 * 1024 + (y 2).val := by
  idx_vars y
  refine ⟨?_, ?_, ?_⟩ <;> blk_simp [place t] <;> simp

/-- Where an element of the block of quantized vectors lies in its array. -/
theorem emb_9 (t : Fin cfg0.N) (y : S8x1x256x1024.Idx) :
    ((win0_9.blk t).view.emb y 0).val = (y 0).val ∧ ((win0_9.blk t).view.emb y 1).val = t.val / 2 ∧ ((win0_9.blk t).view.emb y 2).val = (y 2).val
      ∧ ((win0_9.blk t).view.emb y 3).val = t.val % 2 * 1024 + (y 3).val := by
  idx_vars y
  refine ⟨?_, ?_, ?_, ?_⟩ <;> blk_simp [place t] <;> simp

/-- The row of a block is the token where the block lies. -/
theorem row_at (c : Dev nD) (t : Fin cfg0.N) (n : Fin 1024) (b : Fin 8) (n' : Fin 2048) (hb : b.val = t.val / 2) (hn : n'.val = t.val % 2 * 1024 + n.val) :
    rowAt m c t n = colK (V m c main_arg0) b n' := by
  rw [rowAt_eq]
  congr 1
  · exact Fin.ext hb.symm
  · exact Fin.ext hn.symm

/-- The quantized array. -/
theorem final_6 (c : Dev nD) : (dats m 0 c).arrAt 6 (cfgs 0).N
    = (fun j => total (bk m c) (colK (V m c main_arg0) (j 0) (j 2)) 8 (j 1) : FVec Ideal S8x256x2048 .f32) := by
  refine (dats m 0 c).arrAt_eq_of_covers 6 _ (by decide +kernel) fun t _ y => ?_
  blk_simp
  rw [after_6, bookAt_eq]
  obtain ⟨h0, h1, h2⟩ := emb_6 t y
  exact congrArg₂ (fun R d => total (bk m c) R 8 d) (row_at m c t (y 2) _ _ h0 h2) (Fin.ext h1.symm)

/-- The numbers of the entries picked. -/
def number (k : Fin 1024) : BitVec 32 := BitVec.ofNat 32 k.val

/-- The array of numbers at the end holds, at each batch, layer and position, the number of the entry picked. -/
theorem final_7 (c : Dev nD) : (dats m 0 c).arrAt 7 (cfgs 0).N
    = (fun j => number (pick (bk m c (j 1).val) (resid (bk m c) (colK (V m c main_arg0) (j 0) (j 2)) (j 1).val)) : IVec S8x8x2048 32) := by
  refine (dats m 0 c).arrAt_eq_of_covers 7 _ (by decide +kernel) fun t _ y => ?_
  blk_simp
  rw [after_7, bookAt_eq]
  obtain ⟨h0, h1, h2⟩ := emb_7 t y
  exact congrArg₂ (fun R q => number (pick (bk m c q) (resid (bk m c) R q))) (row_at m c t (y 2) _ _ h0 h2)
    (by rw [(place t).2.2.2.2.2.2.2.1]; simp)

/-- The quantized array of every layer. -/
theorem final_9 (c : Dev nD) : (dats m 0 c).arrAt 9 (cfgs 0).N
    = (fun j => quant (bk m c (j 0).val) (resid (bk m c) (colK (V m c main_arg0) (j 1) (j 3)) (j 0).val) (j 2) : FVec Ideal S8x8x256x2048 .f32) := by
  refine (dats m 0 c).arrAt_eq_of_covers 9 _ (by decide +kernel) fun t _ y => ?_
  blk_simp
  rw [after_9, bookAt_eq]
  obtain ⟨h0, h1, h2, h3⟩ := emb_9 t y
  have e : win0_9.index t 0 * 8 + (y 0).val = (y 0).val := by rw [(place t).2.2.2.2.2.2.2.2.2.1]; simp
  rw [e]
  exact congrArg₂ (fun R d => quant (bk m c (y 0).val) (resid (bk m c) R (y 0).val) d) (row_at m c t (y 3) _ _ h1 h3) (Fin.ext h2.symm)

/-- The accumulated losses are those after the last point. -/
theorem final_8 (c : Dev nD) (t : Fin cfg0.N) (h : t.val = 15) : (dats m 0 c).arrAt 8 (cfgs 0).N
    = (lossAt m c t.val t.isLt : FVec Ideal S8x256 .f32) := by
  refine (dats m 0 c).arrAt_eq_of_after_last 8 t ((by decide +kernel : ∀ t : Fin grid0.N, t.val = 15 → (win0_8).WholeAt t) t h) _ fun j => ?_
  blk_simp
  rw [after_8]

/-- The errors of layer `q` at point `t`, over its tokens. -/
def part (c : Dev nD) (q : Fin 8) (d : Fin 256) (t : Fin cfg0.N) : EReal :=
  ∑ n : Fin 1024, err (bk m c q.val) (resid (bk m c) (rowAt m c t n) q.val) d

/-- The two halves of a point's tokens make all of them. -/
theorem errs_both (c : Dev nD) (t : Fin cfg0.N) (q : Fin 8) (d : Fin 256) (h0 : 0 < 2) (h1 : 1 < 2) :
    errs (bk m c) (rowAt m c t) q.val 0 h0 d + errs (bk m c) (rowAt m c t) q.val 1 h1 d = part m c q d t := by
  unfold errs part
  rw [Fin.sum_univ_tiles 2 512 rfl]
  rw [Fin.sum_univ_two]
  rfl

/-- One point's addition to the losses. -/
theorem out8_at (c : Dev nD) (t : Fin cfg0.N) (l : FVec Ideal S8x256 .f32) (q : Fin 8) (d : Fin 256) :
    out8 (bookAt m c t) (rowAt m c t) l (ix2 q d) = l (ix2 q d) + part m c q d t := by
  rw [bookAt_eq, ← errs_both m c t q d (by decide) (by decide)]
  exact add_assoc _ _ _

/-- The losses after point `n` are the sums up to it. -/
theorem lossAt_sum (c : Dev nD) (q : Fin 8) (d : Fin 256) (n : ℕ) (h : n < cfg0.N) :
    lossAt m c n h (ix2 q d) = ∑ i : Fin (n + 1), part m c q d ⟨i.val, lt_of_lt_of_le i.isLt h⟩ := by
  induction n with
  | zero =>
    rw [lossAt, out8_at, Fin.sum_univ_one]
    exact zero_add _
  | succ n ih =>
    rw [lossAt, out8_at, ih, Fin.sum_univ_castSucc (n := n + 1)]
    rfl

/-- A batch's two points together hold its tokens. -/
theorem part_both (c : Dev nD) (q : Fin 8) (d : Fin 256) (b : Fin 8) (t t' : Fin cfg0.N) (h : t.val = b.val * 2) (h' : t'.val = b.val * 2 + 1) :
    part m c q d t + part m c q d t' = ∑ n : Fin 2048, err (bk m c q.val) (resid (bk m c) (colK (V m c main_arg0) b n) q.val) d := by
  rw [Fin.sum_univ_tiles 2 1024 rfl, Fin.sum_univ_two]
  refine congrArg₂ (· + ·) (Finset.sum_congr rfl fun n _ => ?_) (Finset.sum_congr rfl fun n _ => ?_)
  · exact congrArg (fun R => err (bk m c q.val) (resid (bk m c) R q.val) d)
      (row_at m c t n b ⟨(0 : Fin 2).val * 1024 + n.val, by have := n.isLt; show 0 * 1024 + n.val < 2048; omega⟩ (by omega)
        (by show 0 * 1024 + n.val = _; omega))
  · exact congrArg (fun R => err (bk m c q.val) (resid (bk m c) R q.val) d)
      (row_at m c t' n b ⟨(1 : Fin 2).val * 1024 + n.val, by have := n.isLt; show 1 * 1024 + n.val < 2048; omega⟩ (by omega)
        (by show 1 * 1024 + n.val = _; omega))

/-- The losses after the last point are the sums over all tokens. -/
theorem lossAt_all (c : Dev nD) (q : Fin 8) (d : Fin 256) (h : 15 < cfg0.N) :
    lossAt m c 15 h (ix2 q d)
      = ∑ b : Fin 8, ∑ n : Fin 2048, err (bk m c q.val) (resid (bk m c) (colK (V m c main_arg0) b n) q.val) d := by
  have e : cfg0.N = 16 := by decide +kernel
  rw [lossAt_sum, Fin.sum_univ_tiles (N := 16) 8 2 rfl]
  refine Finset.sum_congr rfl fun b _ => ?_
  have hb := b.isLt
  rw [Fin.sum_univ_two]
  exact part_both m c q d b ⟨b.val * 2 + (0 : Fin 2).val, by show b.val * 2 + 0 < _; omega⟩
    ⟨b.val * 2 + (1 : Fin 2).val, by show b.val * 2 + 1 < _; omega⟩ rfl rfl

end Cert.KernelIdeal.Rvq

end
-- ==== Proof.Entry.lean ====
/- The codebooks that the pipeline finds, when no entry is plus infinity: those that the reference uses. -/
module

public import proofs.«01_k».proof.Proof.Arrays
public import proofs.«01_k».proof.Proof.RefEnd

@[expose] public section

set_option maxRecDepth 16384

noncomputable section

namespace Cert.KernelIdeal.Rvq

open Idealize.ShloMosaic Idealize.ShloMosaic.TcCoe Idealize.SL.Sem
open Cert.KernelIdeal Cert.KernelIdeal.Gen Cert.Rvq
open Cert.ReferenceIdeal.Rvq (refBook)

variable (m : (ℓ : Loc nD τ sig) → Buf (Elt Ideal) ℓ)

/-- The codebooks argument. -/
def cbs (c : Dev nD) : FVec Ideal S8x1024x256 .f32 := m ((c : Thread nD τ).loc main_arg1)

/-- The tokens argument. -/
def toks (c : Dev nD) : FVec Ideal S8x256x2048 .f32 := m ((c : Thread nD τ).loc main_arg0)

/-- The squared norms of codebook `q` as a row. -/
def normRow (x : FVec Ideal S8x1024x256 .f32) (q : ℕ) (h : S8x1024x256.Slices ![q, 0, 0] S1x1024x256) : FVec Ideal S1x1024 .f32 :=
  broadcastInDim S1x1024 ![1] bcast_S1024_S1x1024_1 (Host.reduceAdd
    (mulf (shapeCast S1024x256 (extractStridedSlice S1x1024x256 ![q, 0, 0] x h) shapeCasts_S1x1024x256_S1024x256)
      (shapeCast S1024x256 (extractStridedSlice S1x1024x256 ![q, 0, 0] x h) shapeCasts_S1x1024x256_S1024x256))
    (constant S_ .f32 0x00000000#32) reducesTo_S1024x256_S1024_d1 h_S_)

set_option maxHeartbeats 4000000 in
/-- The squared norms that the host computes, one row after the other. -/
theorem norms_eq (c : Dev nD) : (V m c main_call0_v40 : FVec Ideal S8x1024 .f32) = concatenate S8x1024 0
    [⟨S1x1024, normRow (cbs m c) 0 slices_S8x1024x256_S1x1024x256_0_0_0⟩, ⟨S1x1024, normRow (cbs m c) 1 slices_S8x1024x256_S1x1024x256_1_0_0⟩, ⟨S1x1024, normRow (cbs m c) 2 slices_S8x1024x256_S1x1024x256_2_0_0⟩, ⟨S1x1024, normRow (cbs m c) 3 slices_S8x1024x256_S1x1024x256_3_0_0⟩, ⟨S1x1024, normRow (cbs m c) 4 slices_S8x1024x256_S1x1024x256_4_0_0⟩, ⟨S1x1024, normRow (cbs m c) 5 slices_S8x1024x256_S1x1024x256_5_0_0⟩, ⟨S1x1024, normRow (cbs m c) 6 slices_S8x1024x256_S1x1024x256_6_0_0⟩, ⟨S1x1024, normRow (cbs m c) 7 slices_S8x1024x256_S1x1024x256_7_0_0⟩]
    concatenates_S1x1024_S1x1024_S1x1024_S1x1024_S1x1024_S1x1024_S1x1024_S1x1024_S8x1024_d0 := by
  show StableHlo.after [hostOps0 (F := Ideal)].flatten (fun b => m (c, b)) (Proc.devRef .tc main_call0_v40) = _
  simp only [hostOps0, List.flatten_cons, List.flatten_nil, List.append_nil, List.cons_append, List.nil_append]
  after_results_simp
  dsimp only [Matrix.cons_val]
  rfl

set_option maxHeartbeats 4000000 in
/-- An entry of the squared norms. -/
theorem norm_at (c : Dev nD) (q : Fin 8) (k : Fin 1024) : (V m c main_call0_v40 : FVec Ideal S8x1024 .f32) (ix2 q k)
    = ∑ d : Fin 256, cbs m c (ix3 q k d) * cbs m c (ix3 q k d) := by
  rw [norms_eq]
  generalize cbs m c = x
  fin_cases q <;> (dsimp only [normRow]; pointwise)

/-- The first of the three pieces of an entry. -/
theorem piece1_at (c : Dev nD) (i : S8x1024x256.Idx) : (V m c main_call0_v47 : FVec Ideal S8x1024x256 .bf16) i = cbs m c i := by
  entry_read
  rfl

/-- The second piece. -/
theorem piece2_at (c : Dev nD) (i : S8x1024x256.Idx) : (V m c main_call0_v48 : FVec Ideal S8x1024x256 .bf16) i = cbs m c i - cbs m c i := by
  entry_read
  rfl

/-- The third piece. -/
theorem piece3_at (c : Dev nD) (i : S8x1024x256.Idx) : (V m c main_call0_v49 : FVec Ideal S8x1024x256 .bf16) i
    = (cbs m c i - cbs m c i) - (cbs m c i - cbs m c i) := by
  entry_read
  rfl

/-- The pieces of a number other than plus infinity sum to it. -/
theorem pieces_sum (x : EReal) (h : x ≠ ⊤) : (x + (x - x)) + ((x - x) - (x - x)) = x := by
  induction x with
  | bot => simp
  | coe r => norm_cast; ring
  | top => exact absurd rfl h

/-- Where no entry is plus infinity, the codebooks of the pipeline are the reference's. -/
theorem bk_eq (c : Dev nD) (h : ∀ i, cbs m c i ≠ ⊤) : bk m c = refBook (cbs m c) := by
  funext q
  unfold bk books refBook
  congr 1
  · funext k
    exact norm_at m c _ k
  · funext k d
    show (_ + _) + _ = _
    rw [piece1_at, piece2_at, piece3_at]
    exact pieces_sum _ (h _)

end Cert.KernelIdeal.Rvq

end
-- ==== Proof.Tail.lean ====
/- What the pipeline's program leaves at the end: the arrays of the reference. -/
module

public import proofs.«01_k».proof.Proof.Entry

@[expose] public section

set_option maxRecDepth 16384

noncomputable section

namespace Cert.KernelIdeal.Rvq

open Idealize.ShloMosaic Idealize.ShloMosaic.TcCoe Idealize.SL.Sem
open Cert.KernelIdeal Cert.KernelIdeal.Gen Cert.Rvq
open Cert.ReferenceIdeal.Rvq (refBook out0 out1 out2 out4 col)

/-! ## The mean -/

/-- A nonnegative real factor is taken out of a sum. -/
theorem sum_mul_real {ι : Type} [Fintype ι] (f : ι → EReal) (r : ℝ) (hr : 0 ≤ r) : ∑ i, f i * (r : EReal) = (∑ i, f i) * (r : EReal) := by
  induction (Finset.univ : Finset ι) using Finset.cons_induction with
  | empty => simp
  | cons a s ha ih =>
    rw [Finset.sum_cons, Finset.sum_cons, ih, EReal.right_distrib_of_nonneg_of_ne_top (by exact_mod_cast hr) (EReal.coe_ne_top r)]

/-- The mean over the batches of the means over each is the sum over everything, scaled. -/
theorem mean_eq (e : Fin 8 → Fin 2048 → Fin 256 → EReal) :
    (∑ d : Fin 256, ∑ b : Fin 8, ∑ n : Fin 2048, e b n d) * Ideal.ofBits .f32 0x34800000#32
      = Ideal.div (∑ b : Fin 8, Ideal.div (∑ d : Fin 256, ∑ n : Fin 2048, e b n d) (Ideal.ofBits .f32 0x49000000#32)) (Ideal.ofBits .f32 0x41000000#32) := by
  have h1 : Ideal.ofBits .f32 0x49000000#32 = ((524288 : ℝ) : EReal) := by
    simp [Ideal.ofBits, Ideal.ieee, -EReal.coe_mul]; norm_num
  have h2 : Ideal.ofBits .f32 0x41000000#32 = ((8 : ℝ) : EReal) := by
    simp [Ideal.ofBits, Ideal.ieee, -EReal.coe_mul]; norm_num
  have h3 : Ideal.ofBits .f32 0x34800000#32 = ((1 / 524288 * (1 / 8) : ℝ) : EReal) := by
    simp [Ideal.ofBits, Ideal.ieee, -EReal.coe_mul]; norm_num
  rw [h1, h2, h3, Ideal.div_coe (by norm_num)]
  simp only [Ideal.div_coe (y := 524288) (by norm_num)]
  rw [sum_mul_real _ _ (by norm_num), mul_assoc, ← EReal.coe_mul, Finset.sum_comm]

/-! ## The host operations after the pipeline -/

variable (m : (ℓ : Loc nD τ sig) → Buf (Elt Ideal) ℓ)

/-- The scaled losses, of the sums that the pipeline leaves. -/
def scaled (x : FVec Ideal S8x256 .f32) : FVec Ideal S8 .f32 :=
  mulf (Host.reduceAdd x (constant S_ .f32 0x00000000#32) reducesTo_S8x256_S8_d1 h_S_) (broadcastInDim S8 ![] bcast_S_S8 (constant S_ .f32 0x34800000#32))

/-- A layer's scaled loss is the sum of its row times the constant. -/
theorem scaled_at (x : FVec Ideal S8x256 .f32) (q : Fin 8) : scaled x (ix1 q) = (∑ d : Fin 256, x (ix2 q d)) * Ideal.ofBits .f32 0x34800000#32 := by
  pointwise [scaled]

/-- The layers' axis first. -/
def turned (x : IVec S8x8x2048 32) : IVec S8x8x2048 32 := transpose S8x8x2048 [1, 0, 2] x transposes_S8x8x2048_S8x8x2048_1_0_2

/-- The transposed numbers have batch and layer exchanged. -/
theorem turned_at (f : Fin 8 → Fin 8 → Fin 2048 → BitVec 32) :
    turned (fun j => f (j 0) (j 1) (j 2)) = fun j => f (j 1) (j 0) (j 2) := by
  funext j
  pointwise [turned]

/-- The code after the region leaves in its loss result the scaled losses. -/
theorem tail_loss (W : Valuation τ sig (Elt Ideal)) : StableHlo.after [hostOps1 (F := Ideal)].flatten W (Proc.devRef .tc main_v0_2)
    = scaled (W (Proc.devRef .tc main_call0_v50_2)) := by
  simp only [hostOps1, List.flatten_cons, List.flatten_nil, List.append_nil, List.cons_append, List.nil_append]
  after_results_simp
  rfl

/-- The code after the region leaves in its numbers result the transposed numbers. -/
theorem tail_idx (W : Valuation τ sig (Elt Ideal)) : StableHlo.after [hostOps1 (F := Ideal)].flatten W (Proc.devRef .tc main_v0_1)
    = turned (W (Proc.devRef .tc main_call0_v50_1)) := by
  simp only [hostOps1, List.flatten_cons, List.flatten_nil, List.append_nil, List.cons_append, List.nil_append]
  after_results_simp
  rfl

/-- Each array of the region holds, when the region ends, what the whole grid left in it. -/
theorem end_arr (c : Dev nD) (w : Fin cfg0.W) :
    Pipeline.withArrays (cfgs 0).spec c (V0 m c) (fun w => (dats m 0 c).arrAt w (cfgs 0).N) (Proc.devRef .tc (Pipeline.arrRef (cfgs 0).spec w))
      = (dats m 0 c).arrAt w (cfgs 0).N :=
  Pipeline.withArrays_arr _ (by decide +kernel) c _ _ w

/-- The loss result is the scaled array of losses. -/
theorem end_loss (c : Dev nD) : Pipeline.afterTail₀ cfgs (dats m) 0 (V0 m) [hostOps1] c main_v0_2 = scaled ((dats m 0 c).arrAt 8 (cfgs 0).N) := by
  unfold Pipeline.afterTail₀
  rw [tail_loss]
  exact congrArg scaled (end_arr m c 8)

/-- The numbers result is the transposed array of numbers. -/
theorem end_idx (c : Dev nD) : Pipeline.afterTail₀ cfgs (dats m) 0 (V0 m) [hostOps1] c main_v0_1 = turned ((dats m 0 c).arrAt 7 (cfgs 0).N) := by
  unfold Pipeline.afterTail₀
  rw [tail_idx]
  exact congrArg turned (end_arr m c 7)

/-! ## The results -/

section

variable (c : Dev nD) (h : bk m c = refBook (cbs m c))

include h

/-- The array of sums is the first result as the mathematics states it. -/
theorem result_0 : (dats m 0 c).arrAt 6 (cfgs 0).N = out0 (toks m c) (cbs m c) := by
  rw [final_6, V_main_arg0, h]
  rfl

/-- The array of quantized vectors is the fifth result as the mathematics states it. -/
theorem result_4 : (dats m 0 c).arrAt 9 (cfgs 0).N = out4 (toks m c) (cbs m c) := by
  rw [final_9, V_main_arg0, h]
  rfl

/-- The transposed numbers are the second result as the mathematics states it. -/
theorem result_1 : turned ((dats m 0 c).arrAt 7 (cfgs 0).N) = out1 (toks m c) (cbs m c) := by
  rw [final_7, V_main_arg0, h]
  exact turned_at fun b q n => number (pick (refBook (cbs m c) q.val) (resid (refBook (cbs m c)) (colK (toks m c) b n) q.val))

/-- The scaled losses are the third result as the mathematics states it. -/
theorem result_2 : scaled ((dats m 0 c).arrAt 8 (cfgs 0).N) = out2 (toks m c) (cbs m c) := by
  have e : cfg0.N = 16 := by decide +kernel
  rw [final_8 m c ⟨15, by omega⟩ rfl]
  funext j
  obtain ⟨q, rfl⟩ : ∃ q : Fin 8, j = ix1 q := ⟨j 0, by funext k; fin_cases k; rfl⟩
  rw [scaled_at]
  simp only [lossAt_all]
  rw [mean_eq, V_main_arg0, h]
  rfl

end

/-- The program runs, leaving the five results (the loss is given twice) and its arguments as they were, where no entry
    of the codebooks is plus infinity. -/
theorem run_results (ρ : Dev nD → PrngReg) (h : ∀ c i, cbs m c i ≠ ⊤) :
    θ_run (defs (F := Ideal)) (onTc (τ := τ) (main (F := Ideal))) ⟨m, fun _ => 0, ρ⟩ fun r => ∀ c : Dev nD,
      r.2.mem ((c.tc : Thread nD τ).loc main_v0_0) = out0 (toks m c) (cbs m c)
      ∧ r.2.mem ((c.tc : Thread nD τ).loc main_v0_1) = out1 (toks m c) (cbs m c)
      ∧ r.2.mem ((c.tc : Thread nD τ).loc main_v0_2) = out2 (toks m c) (cbs m c)
      ∧ r.2.mem ((c.tc : Thread nD τ).loc main_v0_2) = out2 (toks m c) (cbs m c)
      ∧ r.2.mem ((c.tc : Thread nD τ).loc main_v0_4) = out4 (toks m c) (cbs m c)
      ∧ r.2.mem ((c.tc : Thread nD τ).loc main_arg0) = m ((c.tc : Thread nD τ).loc main_arg0)
      ∧ r.2.mem ((c.tc : Thread nD τ).loc main_arg1) = m ((c.tc : Thread nD τ).loc main_arg1) := by
  refine (θ_run defs _ _).mono (fun r H c => ?_) (θ_run_and (run_main m ρ) (frame_holds m ρ))
  obtain ⟨hA, hR⟩ := H.1 c
  have hb := bk_eq m c (h c)
  have loss : r.2.mem ((c.tc : Thread nD τ).loc main_v0_2) = out2 (toks m c) (cbs m c) :=
    (hR main_v0_2 (Pipeline.mem_restRefs_of _ rfl (by decide +kernel))).trans ((end_loss m c).trans (result_2 m c hb))
  have idx : r.2.mem ((c.tc : Thread nD τ).loc main_v0_1) = out1 (toks m c) (cbs m c) :=
    (hR main_v0_1 (Pipeline.mem_restRefs_of _ rfl (by decide +kernel))).trans ((end_idx m c).trans (result_1 m c hb))
  exact ⟨(hA 6).trans (result_0 m c hb), idx, loss, loss, (hA 9).trans (result_4 m c hb), (H.2.1 c).1, (H.2.1 c).2⟩

end Cert.KernelIdeal.Rvq

end
-- ==== Proof.Pre.lean ====
/- What the precondition says of the codebooks. -/
module

public import proofs.«01_k».proof.Defs
public import proofs.«01_k».proof.Proof.Tail
public import Idealize.ShloMosaic.Lib.ReduceAll

@[expose] public section

noncomputable section

namespace Cert.Pre_codebooks_below_infinity.Rvq

open Idealize.ShloMosaic Cert.Pre_codebooks_below_infinity

/-- The side conditions of the precondition's operations hold. -/
theorem facts : Facts where
  bcast_S_S8x1024x256 := by decide
  reducesTo_S8x1024x256_S_d0_1_2 := by decide
  h_S_ := by decide

/-- A scalar has one index. -/
instance : Subsingleton S_.Idx := ⟨fun a b => funext fun k => k.elim0⟩

/-- Where the precondition holds, no codebook entry is plus infinity. -/
theorem below [Facts] (z : FVec Ideal S8x256x2048 .f32) (x : FVec Ideal S8x1024x256 .f32)
    (h : fn (F := Ideal) z x = fun _ => 1#1) (i : S8x1024x256.Idx) : x i ≠ ⊤ := by
  have e := congrFun h (fun k => k.elim0)
  dsimp only [fn] at e
  have e' := Host.reduce_andi_all _ _ _ _ _ e i
  have top : Ideal.ofBits .f32 0x7F800000#32 = ⊤ := by simp [Ideal.ofBits, Ideal.ieee]
  have lt : Ideal.cmp .olt (x i) (Ideal.ofBits .f32 0x7F800000#32) = 1#1 := e'
  intro hx
  simp [top, hx, Ideal.cmp] at lt

end Cert.Pre_codebooks_below_infinity.Rvq

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelFrame
public import proofs.«01_k».proof.Proof.Run
public import proofs.«01_k».proof.Proof.RefRun
public import proofs.«01_k».proof.Proof.RefEnd
public import proofs.«01_k».proof.Proof.Tail
public import proofs.«01_k».proof.Proof.Pre
public import Idealize.ShloMosaic.Adequacy
public import Idealize.ShloMosaic.Init

@[expose] public section

noncomputable section

namespace Cert.Proof

open Idealize.ShloMosaic Idealize.SL.Sem

/-- The kernel and the reference, run over the extended reals from the same arguments, end with the same five results, where no
    codebook entry is plus infinity. -/
theorem results_agree : @algebraic_KernelIdeal_ReferenceIdeal_pre_codebooks_below_infinity
    Cert.KernelIdeal.Gen.facts Cert.ReferenceIdeal.Gen.facts Cert.Pre_codebooks_below_infinity.Rvq.facts := by
  intro m g m' g' hPre hArgs
  have below : ∀ c i, Cert.KernelIdeal.Rvq.cbs m c i ≠ ⊤ := fun c i =>
    @Cert.Pre_codebooks_below_infinity.Rvq.below Cert.Pre_codebooks_below_infinity.Rvq.facts _ _ (hPre c) i
  refine ⟨_, _, _, _, _, Cert.KernelIdeal.Rvq.run_results m g below, ?_⟩
  refine (θ_run _ _ _).mono (fun r h c => ?_) (Cert.ReferenceIdeal.Rvq.run_results m' g')
  have hc := h c
  rw [(hArgs c).1, (hArgs c).2] at hc
  rw [(hArgs c).1, (hArgs c).2]
  exact hc

/-- Everything that is claimed. -/
theorem claim : Cert.Claim := ⟨Cert.Kernel.Gen.facts, Cert.KernelIdeal.Gen.facts, Cert.ReferenceIdeal.Gen.facts,
  Cert.Pre_codebooks_below_infinity.Rvq.facts,
  fun m ρ _ => Cert.Kernel.Rvq.frame_holds m ρ, fun m ρ _ => Cert.KernelIdeal.Rvq.frame_holds m ρ,
  fun m ρ _ => Cert.KernelIdeal.Rvq.frame_holds m ρ,
  fun m ρ _ => Cert.ReferenceIdeal.Rvq.frame_holds m ρ, fun m ρ _ => Cert.ReferenceIdeal.Rvq.frame_holds m ρ,
  trivial, results_agree⟩

end Cert.Proof

end
